-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_v276) = v1 c
          ∧ r.2.mem ((c.tc : Thread Cert.ReferenceIdeal.nD Cert.ReferenceIdeal.τ).loc Cert.ReferenceIdeal.main_v279) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S8x20000x80 : Shape := ⟨3, ![8, 20000, 80]⟩
abbrev S8x20000x4 : Shape := ⟨3, ![8, 20000, 4]⟩
abbrev S20000x2 : Shape := ⟨2, ![20000, 2]⟩
abbrev S8x100 : Shape := ⟨2, ![8, 100]⟩
abbrev S8x100x4 : Shape := ⟨3, ![8, 100, 4]⟩
abbrev S8x100x1 : Shape := ⟨3, ![8, 100, 1]⟩
abbrev S_ : Shape := ⟨0, ![]⟩

class Facts : Prop where
  bcast_S_S8x20000x80 : S_.BroadcastsInDim S8x20000x80 (![] : Fin 0 → Fin S8x20000x80.rank)
  bcast_S_S8x100 : S_.BroadcastsInDim S8x100 (![] : Fin 0 → Fin S8x100.rank)

variable [Facts]

def fn {F : FTy → Type} [FloatOps F] (main_arg0 : FVec F S8x20000x80 .f32) (main_arg1 : FVec F S8x20000x4 .f32) (main_arg2 : FVec F S20000x2 .f32) (main_arg3 : IVec S8x100 32) (main_arg4 : FVec F S8x100x4 .f32) (main_arg5 : IVec S8x100x1 1) : IVec S8x20000x80 1 × IVec S8x100 1 × IVec S8x100x1 1 :=
  let main_cst : FVec F S_ .f32 := constant S_ .f32 0x00000000#32
  let main_v0 : FVec F S8x20000x80 .f32 := broadcastInDim S8x20000x80 ![] bcast_S_S8x20000x80 main_cst
  let main_v1 : IVec S8x20000x80 1 := cmpf .oge main_arg0 main_v0
  let main_c : IVec S_ 32 := constantI S_ 32 0#32
  let main_v2 : IVec S8x100 32 := broadcastInDim S8x100 ![] bcast_S_S8x100 main_c
  let main_v3 : IVec S8x100 1 := cmpi .sge main_arg3 main_v2
  let main_c_0 : IVec S_ 32 := constantI S_ 32 80#32
  let main_v4 : IVec S8x100 32 := broadcastInDim S8x100 ![] bcast_S_S8x100 main_c_0
  let main_v5 : IVec S8x100 1 := cmpi .slt main_arg3 main_v4
  let main_v6 : IVec S8x100 1 := andi main_v3 main_v5
  (main_v1, main_v6, main_arg5)
-- ==== Kernel.lean ====
abbrev S8x20000x80 : Shape := ⟨3, ![8, 20000, 80]⟩
abbrev S8x20000x4 : Shape := ⟨3, ![8, 20000, 4]⟩
abbrev S20000x2 : Shape := ⟨2, ![20000, 2]⟩
abbrev S8x100 : Shape := ⟨2, ![8, 100]⟩
abbrev S8x100x4 : Shape := ⟨3, ![8, 100, 4]⟩
abbrev S8x100x1 : Shape := ⟨3, ![8, 100, 1]⟩
abbrev S8x80x20000 : Shape := ⟨3, ![8, 80, 20000]⟩
abbrev S_ : Shape := ⟨0, ![]⟩
abbrev S8x80x20096 : Shape := ⟨3, ![8, 80, 20096]⟩
abbrev S8x4x20000 : Shape := ⟨3, ![8, 4, 20000]⟩
abbrev S8x4x20096 : Shape := ⟨3, ![8, 4, 20096]⟩
abbrev S2x20000 : Shape := ⟨2, ![2, 20000]⟩
abbrev S2x20096 : Shape := ⟨2, ![2, 20096]⟩
abbrev S8x1x100 : Shape := ⟨3, ![8, 1, 100]⟩
abbrev S8x4x100 : Shape := ⟨3, ![8, 4, 100]⟩
abbrev S8x1x20096 : Shape := ⟨3, ![8, 1, 20096]⟩
abbrev S1x80x20096 : Shape := ⟨3, ![1, 80, 20096]⟩
abbrev S1x4x20096 : Shape := ⟨3, ![1, 4, 20096]⟩
abbrev S1x1x100 : Shape := ⟨3, ![1, 1, 100]⟩
abbrev S1x100x1 : Shape := ⟨3, ![1, 100, 1]⟩
abbrev S1x100x4 : Shape := ⟨3, ![1, 100, 4]⟩
abbrev S1x4x100 : Shape := ⟨3, ![1, 4, 100]⟩
abbrev S1x1x20096 : Shape := ⟨3, ![1, 1, 20096]⟩
abbrev S100x20096 : Shape := ⟨2, ![100, 20096]⟩
abbrev S100x1 : Shape := ⟨2, ![100, 1]⟩
abbrev S1x20096 : Shape := ⟨2, ![1, 20096]⟩
abbrev S100x4 : Shape := ⟨2, ![100, 4]⟩
abbrev S100x80 : Shape := ⟨2, ![100, 80]⟩
abbrev S1x100 : Shape := ⟨2, ![1, 100]⟩
abbrev S80x100 : Shape := ⟨2, ![80, 100]⟩
abbrev S4x100 : Shape := ⟨2, ![4, 100]⟩
abbrev S1x80x2048 : Shape := ⟨3, ![1, 80, 2048]⟩
abbrev S80x2048 : Shape := ⟨2, ![80, 2048]⟩
abbrev S2x2048 : Shape := ⟨2, ![2, 2048]⟩
abbrev S1x2048 : Shape := ⟨2, ![1, 2048]⟩
abbrev S100x2048 : Shape := ⟨2, ![100, 2048]⟩
abbrev S1x4x2048 : Shape := ⟨3, ![1, 4, 2048]⟩
abbrev S4x2048 : Shape := ⟨2, ![4, 2048]⟩
abbrev S1x80x1664 : Shape := ⟨3, ![1, 80, 1664]⟩
abbrev S80x1664 : Shape := ⟨2, ![80, 1664]⟩
abbrev S2x1664 : Shape := ⟨2, ![2, 1664]⟩
abbrev S1x1664 : Shape := ⟨2, ![1, 1664]⟩
abbrev S100x1664 : Shape := ⟨2, ![100, 1664]⟩
abbrev S1x4x1664 : Shape := ⟨3, ![1, 4, 1664]⟩
abbrev S4x1664 : Shape := ⟨2, ![4, 1664]⟩
abbrev S100x4096 : Shape := ⟨2, ![100, 4096]⟩
abbrev S100 : Shape := ⟨1, ![100]⟩
abbrev S100x3712 : Shape := ⟨2, ![100, 3712]⟩
abbrev S2048 : Shape := ⟨1, ![2048]⟩
abbrev S1664 : Shape := ⟨1, ![1664]⟩
abbrev S8x1x20000 : Shape := ⟨3, ![8, 1, 20000]⟩
abbrev S8x20000 : Shape := ⟨2, ![8, 20000]⟩

abbrev nBuf : Space → Nat
  | .hbm => 30
  | .vmem => 24
  | .smem => 0
  | _ => 0

abbrev bufTy : (tb : Table) → Fin (tcTables nBuf tb) → BufTy
  | .hbm, ⟨0, _⟩ => ⟨S8x20000x80, .f32⟩
  | .hbm, ⟨1, _⟩ => ⟨S8x20000x4, .f32⟩
  | .hbm, ⟨2, _⟩ => ⟨S20000x2, .f32⟩
  | .hbm, ⟨3, _⟩ => ⟨S8x100, .i32⟩
  | .hbm, ⟨4, _⟩ => ⟨S8x100x4, .f32⟩
  | .hbm, ⟨5, _⟩ => ⟨S8x100x1, .i1⟩
  | .hbm, ⟨6, _⟩ => ⟨S8x80x20000, .f32⟩
  | .hbm, ⟨7, _⟩ => ⟨S_, .i32⟩
  | .hbm, ⟨8, _⟩ => ⟨S_, .f32⟩
  | .hbm, ⟨9, _⟩ => ⟨S8x80x20096, .f32⟩
  | .hbm, ⟨10, _⟩ => ⟨S8x4x20000, .f32⟩
  | .hbm, ⟨11, _⟩ => ⟨S_, .i32⟩
  | .hbm, ⟨12, _⟩ => ⟨S_, .f32⟩
  | .hbm, ⟨13, _⟩ => ⟨S8x4x20096, .f32⟩
  | .hbm, ⟨14, _⟩ => ⟨S2x20000, .f32⟩
  | .hbm, ⟨15, _⟩ => ⟨S_, .i32⟩
  | .hbm, ⟨16, _⟩ => ⟨S_, .f32⟩
  | .hbm, ⟨17, _⟩ => ⟨S2x20096, .f32⟩
  | .hbm, ⟨18, _⟩ => ⟨S8x1x100, .i32⟩
  | .hbm, ⟨19, _⟩ => ⟨S8x100x1, .i32⟩
  | .hbm, ⟨20, _⟩ => ⟨S8x4x100, .f32⟩
  | .hbm, ⟨21, _⟩ => ⟨S8x4x20096, .f32⟩
  | .hbm, ⟨22, _⟩ => ⟨S8x80x20096, .f32⟩
  | .hbm, ⟨23, _⟩ => ⟨S8x1x20096, .f32⟩
  | .hbm, ⟨24, _⟩ => ⟨S8x4x20000, .f32⟩
  | .hbm, ⟨25, _⟩ => ⟨S8x20000x4, .f32⟩
  | .hbm, ⟨26, _⟩ => ⟨S8x80x20000, .f32⟩
  | .hbm, ⟨27, _⟩ => ⟨S8x20000x80, .f32⟩
  | .hbm, ⟨28, _⟩ => ⟨S8x1x20000, .f32⟩
  | .hbm, ⟨29, _⟩ => ⟨S8x20000, .f32⟩
  | .local _ .vmem, ⟨0, _⟩ => ⟨S1x80x20096, .f32⟩
  | .local _ .vmem, ⟨1, _⟩ => ⟨S1x80x20096, .f32⟩
  | .local _ .vmem, ⟨2, _⟩ => ⟨S1x4x20096, .f32⟩
  | .local _ .vmem, ⟨3, _⟩ => ⟨S1x4x20096, .f32⟩
  | .local _ .vmem, ⟨4, _⟩ => ⟨S2x20096, .f32⟩
  | .local _ .vmem, ⟨5, _⟩ => ⟨S1x1x100, .i32⟩
  | .local _ .vmem, ⟨6, _⟩ => ⟨S1x1x100, .i32⟩
  | .local _ .vmem, ⟨7, _⟩ => ⟨S1x100x1, .i32⟩
  | .local _ .vmem, ⟨8, _⟩ => ⟨S1x100x1, .i32⟩
  | .local _ .vmem, ⟨9, _⟩ => ⟨S1x100x4, .f32⟩
  | .local _ .vmem, ⟨10, _⟩ => ⟨S1x100x4, .f32⟩
  | .local _ .vmem, ⟨11, _⟩ => ⟨S1x4x100, .f32⟩
  | .local _ .vmem, ⟨12, _⟩ => ⟨S1x4x100, .f32⟩
  | .local _ .vmem, ⟨13, _⟩ => ⟨S1x4x20096, .f32⟩
  | .local _ .vmem, ⟨14, _⟩ => ⟨S1x4x20096, .f32⟩
  | .local _ .vmem, ⟨15, _⟩ => ⟨S1x80x20096, .f32⟩
  | .local _ .vmem, ⟨16, _⟩ => ⟨S1x80x20096, .f32⟩
  | .local _ .vmem, ⟨17, _⟩ => ⟨S1x1x20096, .f32⟩
  | .local _ .vmem, ⟨18, _⟩ => ⟨S1x1x20096, .f32⟩
  | .local _ .vmem, ⟨19, _⟩ => ⟨S100x20096, .f32⟩
  | .local _ .vmem, ⟨20, _⟩ => ⟨S100x20096, .f32⟩
  | .local _ .vmem, ⟨21, _⟩ => ⟨S100x1, .f32⟩
  | .local _ .vmem, ⟨22, _⟩ => ⟨S100x1, .f32⟩
  | .local _ .vmem, ⟨23, _⟩ => ⟨S1x20096, .f32⟩
  | _, _ => ⟨S8x20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x20096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x20096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x20096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x100 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x100x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x100x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x20096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x80x20096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x20096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x20000x80 : Shape := ⟨3, ![8, 20000, 80]⟩
abbrev S8x20000x4 : Shape := ⟨3, ![8, 20000, 4]⟩
abbrev S20000x2 : Shape := ⟨2, ![20000, 2]⟩
abbrev S8x100 : Shape := ⟨2, ![8, 100]⟩
abbrev S8x100x4 : Shape := ⟨3, ![8, 100, 4]⟩
abbrev S8x100x1 : Shape := ⟨3, ![8, 100, 1]⟩
abbrev S8x1x100 : Shape := ⟨3, ![8, 1, 100]⟩
abbrev S_ : Shape := ⟨0, ![]⟩
abbrev S1 : Shape := ⟨1, ![1]⟩
abbrev S1x1x1 : Shape := ⟨3, ![1, 1, 1]⟩
abbrev S8x20000x100 : Shape := ⟨3, ![8, 20000, 100]⟩
abbrev S8x100x20000 : Shape := ⟨3, ![8, 100, 20000]⟩
abbrev S8x100x1x4 : Shape := ⟨4, ![8, 100, 1, 4]⟩
abbrev S8x1x20000x4 : Shape := ⟨4, ![8, 1, 20000, 4]⟩
abbrev S8x100x1x1 : Shape := ⟨4, ![8, 100, 1, 1]⟩
abbrev S8x1x20000x1 : Shape := ⟨4, ![8, 1, 20000, 1]⟩
abbrev S8x100x20000x1 : Shape := ⟨4, ![8, 100, 20000, 1]⟩
abbrev S8x100x2 : Shape := ⟨3, ![8, 100, 2]⟩
abbrev S8x100x1x2 : Shape := ⟨4, ![8, 100, 1, 2]⟩
abbrev S1x1x20000x2 : Shape := ⟨4, ![1, 1, 20000, 2]⟩
abbrev S8x100x20000x2 : Shape := ⟨4, ![8, 100, 20000, 2]⟩
abbrev S8x100x10 : Shape := ⟨3, ![8, 100, 10]⟩
abbrev S1x1x20000 : Shape := ⟨3, ![1, 1, 20000]⟩
abbrev S8x20000x1 : Shape := ⟨3, ![8, 20000, 1]⟩
abbrev S8x20000 : Shape := ⟨2, ![8, 20000]⟩
abbrev S1x1x80 : Shape := ⟨3, ![1, 1, 80]⟩

abbrev nBuf : Space → Nat
  | .hbm => 482
  | .vmem => 0
  | .smem => 0
  | _ => 0

abbrev hbmTy0_0 (i : Nat) : BufTy := match i % 128 with
  | 0 => ⟨S8x20000x80, .f32⟩
  | 1 => ⟨S8x20000x4, .f32⟩
  | 2 => ⟨S20000x2, .f32⟩
  | 3 => ⟨S8x100, .i32⟩
  | 4 => ⟨S8x100x4, .f32⟩
  | 5 => ⟨S8x100x1, .i1⟩
  | 6 => ⟨S8x1x100, .i32⟩
  | 7 => ⟨S_, .i32⟩
  | 8 => ⟨S8x1x100, .i32⟩
  | 9 => ⟨S8x1x100, .i32⟩
  | 10 => ⟨S_, .i32⟩
  | 11 => ⟨S8x1x100, .i32⟩
  | 12 => ⟨S8x1x100, .i1⟩
  | 13 => ⟨S_, .i32⟩
  | 14 => ⟨S8x1x100, .i32⟩
  | 15 => ⟨S8x1x100, .i32⟩
  | 16 => ⟨S8x1x100, .i32⟩
  | 17 => ⟨S8x100x1, .i32⟩
  | 18 => ⟨S1, .i32⟩
  | 19 => ⟨S_, .i32⟩
  | 20 => ⟨S8x100x1, .i32⟩
  | 21 => ⟨S8x100x1, .i1⟩
  | 22 => ⟨S1x1x1, .i32⟩
  | 23 => ⟨S8x100x1, .i32⟩
  | 24 => ⟨S8x100x1, .i1⟩
  | 25 => ⟨S8x100x1, .i1⟩
  | 26 => ⟨S_, .i1⟩
  | 27 => ⟨S8x100, .i1⟩
  | 28 => ⟨S8x20000x100, .f32⟩
  | 29 => ⟨S8x20000x100, .i1⟩
  | 30 => ⟨S_, .f32⟩
  | 31 => ⟨S8x20000x100, .f32⟩
  | 32 => ⟨S8x20000x100, .f32⟩
  | 33 => ⟨S8x100x20000, .f32⟩
  | 34 => ⟨S8x100x1x4, .f32⟩
  | 35 => ⟨S8x1x20000x4, .f32⟩
  | 36 => ⟨S8x100x1x1, .f32⟩
  | 37 => ⟨S8x100x1x1, .f32⟩
  | 38 => ⟨S8x100x1x1, .f32⟩
  | 39 => ⟨S8x100x1x1, .f32⟩
  | 40 => ⟨S8x1x20000x1, .f32⟩
  | 41 => ⟨S8x1x20000x1, .f32⟩
  | 42 => ⟨S8x1x20000x1, .f32⟩
  | 43 => ⟨S8x1x20000x1, .f32⟩
  | 44 => ⟨S8x100x1x1, .f32⟩
  | 45 => ⟨S8x100x1x1, .f32⟩
  | 46 => ⟨S_, .f32⟩
  | 47 => ⟨S8x100x1x1, .f32⟩
  | 48 => ⟨S8x100x1x1, .f32⟩
  | 49 => ⟨S8x1x20000x1, .f32⟩
  | 50 => ⟨S8x1x20000x1, .f32⟩
  | 51 => ⟨S_, .f32⟩
  | 52 => ⟨S8x1x20000x1, .f32⟩
  | 53 => ⟨S8x1x20000x1, .f32⟩
  | 54 => ⟨S8x100x20000x1, .f32⟩
  | 55 => ⟨S8x100x20000x1, .f32⟩
  | 56 => ⟨S8x100x20000x1, .f32⟩
  | 57 => ⟨S8x100x20000x1, .f32⟩
  | 58 => ⟨S8x100x20000x1, .f32⟩
  | 59 => ⟨S8x100x20000x1, .f32⟩
  | 60 => ⟨S8x100x20000x1, .f32⟩
  | 61 => ⟨S_, .f32⟩
  | 62 => ⟨S8x100x20000x1, .f32⟩
  | 63 => ⟨S8x100x20000x1, .f32⟩
  | 64 => ⟨S8x100x20000x1, .f32⟩
  | 65 => ⟨S8x100x20000x1, .f32⟩
  | 66 => ⟨S8x100x20000x1, .f32⟩
  | 67 => ⟨S8x100x20000x1, .f32⟩
  | 68 => ⟨S8x100x20000x1, .f32⟩
  | 69 => ⟨S8x100x20000x1, .f32⟩
  | 70 => ⟨S8x100x20000x1, .f32⟩
  | 71 => ⟨S_, .f32⟩
  | 72 => ⟨S8x100x20000x1, .f32⟩
  | 73 => ⟨S8x100x20000x1, .f32⟩
  | 74 => ⟨S8x100x20000x1, .f32⟩
  | 75 => ⟨S8x100x1x1, .f32⟩
  | 76 => ⟨S8x1x20000x1, .f32⟩
  | 77 => ⟨S8x100x20000x1, .f32⟩
  | 78 => ⟨S8x100x20000x1, .f32⟩
  | 79 => ⟨S8x100x20000x1, .f32⟩
  | 80 => ⟨S8x100x20000x1, .f32⟩
  | 81 => ⟨S_, .f32⟩
  | 82 => ⟨S8x100x20000x1, .f32⟩
  | 83 => ⟨S8x100x20000x1, .f32⟩
  | 84 => ⟨S8x100x20000x1, .f32⟩
  | 85 => ⟨S8x100x20000, .f32⟩
  | 86 => ⟨S8x100x20000x1, .f32⟩
  | 87 => ⟨S8x100x20000x1, .f32⟩
  | 88 => ⟨S8x100x20000x1, .f32⟩
  | 89 => ⟨S8x100x20000x1, .f32⟩
  | 90 => ⟨S8x100x20000x1, .f32⟩
  | 91 => ⟨S8x100x20000x1, .f32⟩
  | 92 => ⟨S8x100x20000x1, .f32⟩
  | 93 => ⟨S8x100x20000x1, .f32⟩
  | 94 => ⟨S8x100x20000x1, .f32⟩
  | 95 => ⟨S8x100x20000x1, .f32⟩
  | 96 => ⟨S8x100x20000x1, .f32⟩
  | 97 => ⟨S8x100x20000x1, .f32⟩
  | 98 => ⟨S8x100x20000x1, .f32⟩
  | 99 => ⟨S8x100x20000x1, .f32⟩
  | 100 => ⟨S8x100x20000x1, .f32⟩
  | 101 => ⟨S8x100x20000x1, .f32⟩
  | 102 => ⟨S8x100x20000x1, .f32⟩
  | 103 => ⟨S_, .f32⟩
  | 104 => ⟨S8x100x20000x1, .f32⟩
  | 105 => ⟨S8x100x20000x1, .f32⟩
  | 106 => ⟨S8x100x20000, .f32⟩
  | 107 => ⟨S8x100x1x1, .f32⟩
  | 108 => ⟨S_, .f32⟩
  | 109 => ⟨S8x100x1x1, .f32⟩
  | 110 => ⟨S8x100x1x1, .f32⟩
  | 111 => ⟨S8x1x20000x1, .f32⟩
  | 112 => ⟨S_, .f32⟩
  | 113 => ⟨S8x1x20000x1, .f32⟩
  | 114 => ⟨S8x1x20000x1, .f32⟩
  | 115 => ⟨S8x100x20000x1, .f32⟩
  | 116 => ⟨S8x100x20000x1, .f32⟩
  | 117 => ⟨S8x100x20000x1, .f32⟩
  | 118 => ⟨S8x100x20000x1, .f32⟩
  | 119 => ⟨S8x100x1x1, .f32⟩
  | 120 => ⟨S_, .f32⟩
  | 121 => ⟨S8x100x1x1, .f32⟩
  | 122 => ⟨S8x100x1x1, .f32⟩
  | 123 => ⟨S8x1x20000x1, .f32⟩
  | 124 => ⟨S_, .f32⟩
  | 125 => ⟨S8x1x20000x1, .f32⟩
  | 126 => ⟨S8x1x20000x1, .f32⟩
  | 127 => ⟨S8x100x20000x1, .f32⟩
  | _ => ⟨S8x20000x80, .f32⟩

abbrev hbmTy0_1 (i : Nat) : BufTy := match i % 128 with
  | 0 => ⟨S8x100x20000x1, .f32⟩
  | 1 => ⟨S8x100x20000x1, .f32⟩
  | 2 => ⟨S8x100x20000x1, .f32⟩
  | 3 => ⟨S8x100x20000x1, .f32⟩
  | 4 => ⟨S8x100x20000, .f32⟩
  | 5 => ⟨S8x1x20000x1, .f32⟩
  | 6 => ⟨S8x1x20000x1, .f32⟩
  | 7 => ⟨S_, .f32⟩
  | 8 => ⟨S8x1x20000x1, .f32⟩
  | 9 => ⟨S8x1x20000x1, .i1⟩
  | 10 => ⟨S_, .f32⟩
  | 11 => ⟨S8x1x20000x1, .f32⟩
  | 12 => ⟨S8x1x20000x1, .i1⟩
  | 13 => ⟨S_, .f32⟩
  | 14 => ⟨S_, .f32⟩
  | 15 => ⟨S8x1x20000x1, .f32⟩
  | 16 => ⟨S8x1x20000x1, .f32⟩
  | 17 => ⟨S8x1x20000x1, .f32⟩
  | 18 => ⟨S_, .f32⟩
  | 19 => ⟨S8x1x20000x1, .f32⟩
  | 20 => ⟨S8x1x20000x1, .f32⟩
  | 21 => ⟨S_, .f32⟩
  | 22 => ⟨S8x1x20000x1, .f32⟩
  | 23 => ⟨S8x1x20000x1, .f32⟩
  | 24 => ⟨S_, .f32⟩
  | 25 => ⟨S8x1x20000x1, .f32⟩
  | 26 => ⟨S8x1x20000x1, .f32⟩
  | 27 => ⟨S_, .f32⟩
  | 28 => ⟨S8x1x20000x1, .f32⟩
  | 29 => ⟨S8x1x20000x1, .f32⟩
  | 30 => ⟨S8x1x20000x1, .f32⟩
  | 31 => ⟨S8x1x20000x1, .f32⟩
  | 32 => ⟨S8x1x20000x1, .f32⟩
  | 33 => ⟨S8x1x20000x1, .f32⟩
  | 34 => ⟨S_, .f32⟩
  | 35 => ⟨S8x1x20000x1, .f32⟩
  | 36 => ⟨S8x1x20000x1, .f32⟩
  | 37 => ⟨S_, .f32⟩
  | 38 => ⟨S8x1x20000x1, .f32⟩
  | 39 => ⟨S8x1x20000x1, .f32⟩
  | 40 => ⟨S8x1x20000x1, .f32⟩
  | 41 => ⟨S_, .f32⟩
  | 42 => ⟨S8x1x20000x1, .f32⟩
  | 43 => ⟨S8x1x20000x1, .f32⟩
  | 44 => ⟨S8x1x20000x1, .f32⟩
  | 45 => ⟨S_, .f32⟩
  | 46 => ⟨S8x1x20000x1, .f32⟩
  | 47 => ⟨S8x1x20000x1, .f32⟩
  | 48 => ⟨S8x1x20000x1, .f32⟩
  | 49 => ⟨S8x1x20000x1, .f32⟩
  | 50 => ⟨S8x1x20000x1, .f32⟩
  | 51 => ⟨S8x1x20000x1, .f32⟩
  | 52 => ⟨S8x1x20000x1, .f32⟩
  | 53 => ⟨S_, .f32⟩
  | 54 => ⟨S8x1x20000x1, .f32⟩
  | 55 => ⟨S8x1x20000x1, .i1⟩
  | 56 => ⟨S8x1x20000x1, .f32⟩
  | 57 => ⟨S8x1x20000x1, .f32⟩
  | 58 => ⟨S8x100x1x1, .f32⟩
  | 59 => ⟨S8x100x1x1, .f32⟩
  | 60 => ⟨S_, .f32⟩
  | 61 => ⟨S8x100x1x1, .f32⟩
  | 62 => ⟨S8x100x1x1, .i1⟩
  | 63 => ⟨S_, .f32⟩
  | 64 => ⟨S8x100x1x1, .f32⟩
  | 65 => ⟨S8x100x1x1, .i1⟩
  | 66 => ⟨S_, .f32⟩
  | 67 => ⟨S_, .f32⟩
  | 68 => ⟨S8x100x1x1, .f32⟩
  | 69 => ⟨S8x100x1x1, .f32⟩
  | 70 => ⟨S8x100x1x1, .f32⟩
  | 71 => ⟨S_, .f32⟩
  | 72 => ⟨S8x100x1x1, .f32⟩
  | 73 => ⟨S8x100x1x1, .f32⟩
  | 74 => ⟨S_, .f32⟩
  | 75 => ⟨S8x100x1x1, .f32⟩
  | 76 => ⟨S8x100x1x1, .f32⟩
  | 77 => ⟨S_, .f32⟩
  | 78 => ⟨S8x100x1x1, .f32⟩
  | 79 => ⟨S8x100x1x1, .f32⟩
  | 80 => ⟨S_, .f32⟩
  | 81 => ⟨S8x100x1x1, .f32⟩
  | 82 => ⟨S8x100x1x1, .f32⟩
  | 83 => ⟨S8x100x1x1, .f32⟩
  | 84 => ⟨S8x100x1x1, .f32⟩
  | 85 => ⟨S8x100x1x1, .f32⟩
  | 86 => ⟨S8x100x1x1, .f32⟩
  | 87 => ⟨S_, .f32⟩
  | 88 => ⟨S8x100x1x1, .f32⟩
  | 89 => ⟨S8x100x1x1, .f32⟩
  | 90 => ⟨S_, .f32⟩
  | 91 => ⟨S8x100x1x1, .f32⟩
  | 92 => ⟨S8x100x1x1, .f32⟩
  | 93 => ⟨S8x100x1x1, .f32⟩
  | 94 => ⟨S_, .f32⟩
  | 95 => ⟨S8x100x1x1, .f32⟩
  | 96 => ⟨S8x100x1x1, .f32⟩
  | 97 => ⟨S8x100x1x1, .f32⟩
  | 98 => ⟨S_, .f32⟩
  | 99 => ⟨S8x100x1x1, .f32⟩
  | 100 => ⟨S8x100x1x1, .f32⟩
  | 101 => ⟨S8x100x1x1, .f32⟩
  | 102 => ⟨S8x100x1x1, .f32⟩
  | 103 => ⟨S8x100x1x1, .f32⟩
  | 104 => ⟨S8x100x1x1, .f32⟩
  | 105 => ⟨S8x100x1x1, .f32⟩
  | 106 => ⟨S_, .f32⟩
  | 107 => ⟨S8x100x1x1, .f32⟩
  | 108 => ⟨S8x100x1x1, .i1⟩
  | 109 => ⟨S8x100x1x1, .f32⟩
  | 110 => ⟨S8x100x1x1, .f32⟩
  | 111 => ⟨S8x100x20000x1, .f32⟩
  | 112 => ⟨S8x100x20000x1, .f32⟩
  | 113 => ⟨S8x100x20000x1, .f32⟩
  | 114 => ⟨S8x100x20000x1, .f32⟩
  | 115 => ⟨S_, .f32⟩
  | 116 => ⟨S8x100x20000x1, .f32⟩
  | 117 => ⟨S8x100x20000x1, .f32⟩
  | 118 => ⟨S8x100x20000, .f32⟩
  | 119 => ⟨S8x100x20000, .f32⟩
  | 120 => ⟨S_, .f32⟩
  | 121 => ⟨S8x100x20000, .f32⟩
  | 122 => ⟨S8x100x20000, .f32⟩
  | 123 => ⟨S8x100x20000, .f32⟩
  | 124 => ⟨S8x100x20000, .f32⟩
  | 125 => ⟨S8x100x20000, .f32⟩
  | 126 => ⟨S8x100x20000, .f32⟩
  | 127 => ⟨S8x100x20000, .f32⟩
  | _ => ⟨S8x20000x80, .f32⟩

abbrev hbmTy0_2 (i : Nat) : BufTy := match i % 128 with
  | 0 => ⟨S_, .f32⟩
  | 1 => ⟨S8x100x20000, .f32⟩
  | 2 => ⟨S8x100x20000, .f32⟩
  | 3 => ⟨S8x100x20000, .f32⟩
  | 4 => ⟨S8x100x20000, .f32⟩
  | 5 => ⟨S8x100x20000, .f32⟩
  | 6 => ⟨S8x100x20000, .f32⟩
  | 7 => ⟨S_, .f32⟩
  | 8 => ⟨S_, .f32⟩
  | 9 => ⟨S8x100x20000, .i1⟩
  | 10 => ⟨S8x100x20000, .f32⟩
  | 11 => ⟨S8x100x20000, .f32⟩
  | 12 => ⟨S8x100x2, .f32⟩
  | 13 => ⟨S8x100x1x2, .f32⟩
  | 14 => ⟨S1x1x20000x2, .f32⟩
  | 15 => ⟨S8x100x20000x2, .f32⟩
  | 16 => ⟨S8x100x20000x2, .f32⟩
  | 17 => ⟨S8x100x20000x2, .i1⟩
  | 18 => ⟨S8x100x2, .f32⟩
  | 19 => ⟨S8x100x1x2, .f32⟩
  | 20 => ⟨S1x1x20000x2, .f32⟩
  | 21 => ⟨S8x100x20000x2, .f32⟩
  | 22 => ⟨S8x100x20000x2, .f32⟩
  | 23 => ⟨S8x100x20000x2, .i1⟩
  | 24 => ⟨S8x100x20000x2, .i1⟩
  | 25 => ⟨S_, .i1⟩
  | 26 => ⟨S8x100x20000, .i1⟩
  | 27 => ⟨S_, .f32⟩
  | 28 => ⟨S_, .f32⟩
  | 29 => ⟨S8x100x20000, .f32⟩
  | 30 => ⟨S8x100x20000, .f32⟩
  | 31 => ⟨S8x100x10, .f32⟩
  | 32 => ⟨S8x100x10, .i32⟩
  | 33 => ⟨S_, .f32⟩
  | 34 => ⟨S8x100x10, .f32⟩
  | 35 => ⟨S8x100x10, .i1⟩
  | 36 => ⟨S_, .i32⟩
  | 37 => ⟨S_, .i32⟩
  | 38 => ⟨S8x100x10, .i32⟩
  | 39 => ⟨S8x100x10, .i32⟩
  | 40 => ⟨S_, .f32⟩
  | 41 => ⟨S8x100x20000, .f32⟩
  | 42 => ⟨S8x100x1, .i32⟩
  | 43 => ⟨S8x100, .i32⟩
  | 44 => ⟨S8x100x1, .i32⟩
  | 45 => ⟨S1x1x20000, .i32⟩
  | 46 => ⟨S8x100x20000, .i32⟩
  | 47 => ⟨S8x100x20000, .i32⟩
  | 48 => ⟨S8x100x20000, .i1⟩
  | 49 => ⟨S8x100x20000, .f32⟩
  | 50 => ⟨S8x100x20000, .f32⟩
  | 51 => ⟨S8x100x1, .i32⟩
  | 52 => ⟨S8x100, .i32⟩
  | 53 => ⟨S8x100x1, .i32⟩
  | 54 => ⟨S1x1x20000, .i32⟩
  | 55 => ⟨S8x100x20000, .i32⟩
  | 56 => ⟨S8x100x20000, .i32⟩
  | 57 => ⟨S8x100x20000, .i1⟩
  | 58 => ⟨S8x100x20000, .f32⟩
  | 59 => ⟨S8x100x20000, .f32⟩
  | 60 => ⟨S8x100x1, .i32⟩
  | 61 => ⟨S8x100, .i32⟩
  | 62 => ⟨S8x100x1, .i32⟩
  | 63 => ⟨S1x1x20000, .i32⟩
  | 64 => ⟨S8x100x20000, .i32⟩
  | 65 => ⟨S8x100x20000, .i32⟩
  | 66 => ⟨S8x100x20000, .i1⟩
  | 67 => ⟨S8x100x20000, .f32⟩
  | 68 => ⟨S8x100x20000, .f32⟩
  | 69 => ⟨S8x100x1, .i32⟩
  | 70 => ⟨S8x100, .i32⟩
  | 71 => ⟨S8x100x1, .i32⟩
  | 72 => ⟨S1x1x20000, .i32⟩
  | 73 => ⟨S8x100x20000, .i32⟩
  | 74 => ⟨S8x100x20000, .i32⟩
  | 75 => ⟨S8x100x20000, .i1⟩
  | 76 => ⟨S8x100x20000, .f32⟩
  | 77 => ⟨S8x100x20000, .f32⟩
  | 78 => ⟨S8x100x1, .i32⟩
  | 79 => ⟨S8x100, .i32⟩
  | 80 => ⟨S8x100x1, .i32⟩
  | 81 => ⟨S1x1x20000, .i32⟩
  | 82 => ⟨S8x100x20000, .i32⟩
  | 83 => ⟨S8x100x20000, .i32⟩
  | 84 => ⟨S8x100x20000, .i1⟩
  | 85 => ⟨S8x100x20000, .f32⟩
  | 86 => ⟨S8x100x20000, .f32⟩
  | 87 => ⟨S8x100x1, .i32⟩
  | 88 => ⟨S8x100, .i32⟩
  | 89 => ⟨S8x100x1, .i32⟩
  | 90 => ⟨S1x1x20000, .i32⟩
  | 91 => ⟨S8x100x20000, .i32⟩
  | 92 => ⟨S8x100x20000, .i32⟩
  | 93 => ⟨S8x100x20000, .i1⟩
  | 94 => ⟨S8x100x20000, .f32⟩
  | 95 => ⟨S8x100x20000, .f32⟩
  | 96 => ⟨S8x100x1, .i32⟩
  | 97 => ⟨S8x100, .i32⟩
  | 98 => ⟨S8x100x1, .i32⟩
  | 99 => ⟨S1x1x20000, .i32⟩
  | 100 => ⟨S8x100x20000, .i32⟩
  | 101 => ⟨S8x100x20000, .i32⟩
  | 102 => ⟨S8x100x20000, .i1⟩
  | 103 => ⟨S8x100x20000, .f32⟩
  | 104 => ⟨S8x100x20000, .f32⟩
  | 105 => ⟨S8x100x1, .i32⟩
  | 106 => ⟨S8x100, .i32⟩
  | 107 => ⟨S8x100x1, .i32⟩
  | 108 => ⟨S1x1x20000, .i32⟩
  | 109 => ⟨S8x100x20000, .i32⟩
  | 110 => ⟨S8x100x20000, .i32⟩
  | 111 => ⟨S8x100x20000, .i1⟩
  | 112 => ⟨S8x100x20000, .f32⟩
  | 113 => ⟨S8x100x20000, .f32⟩
  | 114 => ⟨S8x100x1, .i32⟩
  | 115 => ⟨S8x100, .i32⟩
  | 116 => ⟨S8x100x1, .i32⟩
  | 117 => ⟨S1x1x20000, .i32⟩
  | 118 => ⟨S8x100x20000, .i32⟩
  | 119 => ⟨S8x100x20000, .i32⟩
  | 120 => ⟨S8x100x20000, .i1⟩
  | 121 => ⟨S8x100x20000, .f32⟩
  | 122 => ⟨S8x100x20000, .f32⟩
  | 123 => ⟨S8x100x1, .i32⟩
  | 124 => ⟨S8x100, .i32⟩
  | 125 => ⟨S8x100x1, .i32⟩
  | 126 => ⟨S1x1x20000, .i32⟩
  | 127 => ⟨S8x100x20000, .i32⟩
  | _ => ⟨S8x20000x80, .f32⟩

abbrev hbmTy0_3 (i : Nat) : BufTy := match i % 128 with
  | 0 => ⟨S8x100x20000, .i32⟩
  | 1 => ⟨S8x100x20000, .i1⟩
  | 2 => ⟨S8x100x20000, .f32⟩
  | 3 => ⟨S8x100x20000, .f32⟩
  | 4 => ⟨S8x100x20000, .f32⟩
  | 5 => ⟨S8x20000x100, .f32⟩
  | 6 => ⟨S8x20000x1, .f32⟩
  | 7 => ⟨S8x20000x1, .i32⟩
  | 8 => ⟨S8x20000, .i32⟩
  | 9 => ⟨S_, .f32⟩
  | 10 => ⟨S8x20000, .f32⟩
  | 11 => ⟨S_, .f32⟩
  | 12 => ⟨S8x20000, .f32⟩
  | 13 => ⟨S8x20000, .i1⟩
  | 14 => ⟨S8x20000x1, .i32⟩
  | 15 => ⟨S_, .i32⟩
  | 16 => ⟨S8x20000x1, .i32⟩
  | 17 => ⟨S8x20000x1, .i1⟩
  | 18 => ⟨S_, .i32⟩
  | 19 => ⟨S8x20000x1, .i32⟩
  | 20 => ⟨S8x20000x1, .i32⟩
  | 21 => ⟨S8x20000x1, .i32⟩
  | 22 => ⟨S1, .i32⟩
  | 23 => ⟨S_, .i32⟩
  | 24 => ⟨S8x20000x1, .i32⟩
  | 25 => ⟨S8x20000x1, .i1⟩
  | 26 => ⟨S1x1x1, .i32⟩
  | 27 => ⟨S8x20000x1, .i32⟩
  | 28 => ⟨S8x20000x1, .i1⟩
  | 29 => ⟨S8x20000x1, .i1⟩
  | 30 => ⟨S_, .i1⟩
  | 31 => ⟨S8x20000, .i1⟩
  | 32 => ⟨S8x20000x4, .f32⟩
  | 33 => ⟨S8x20000x4, .i1⟩
  | 34 => ⟨S_, .f32⟩
  | 35 => ⟨S8x20000x4, .f32⟩
  | 36 => ⟨S8x20000x4, .f32⟩
  | 37 => ⟨S8x20000x1, .i1⟩
  | 38 => ⟨S_, .f32⟩
  | 39 => ⟨S_, .f32⟩
  | 40 => ⟨S8x20000x4, .i1⟩
  | 41 => ⟨S8x20000x4, .f32⟩
  | 42 => ⟨S8x20000x4, .f32⟩
  | 43 => ⟨S_, .i32⟩
  | 44 => ⟨S8x20000, .i32⟩
  | 45 => ⟨S8x20000, .i1⟩
  | 46 => ⟨S_, .i32⟩
  | 47 => ⟨S8x20000, .i32⟩
  | 48 => ⟨S8x20000, .i32⟩
  | 49 => ⟨S8x20000, .i32⟩
  | 50 => ⟨S8x20000x1, .i32⟩
  | 51 => ⟨S1, .i32⟩
  | 52 => ⟨S_, .i32⟩
  | 53 => ⟨S8x20000x1, .i32⟩
  | 54 => ⟨S8x20000x1, .i1⟩
  | 55 => ⟨S1x1x1, .i32⟩
  | 56 => ⟨S8x20000x1, .i32⟩
  | 57 => ⟨S8x20000x1, .i1⟩
  | 58 => ⟨S8x20000x1, .i1⟩
  | 59 => ⟨S_, .i1⟩
  | 60 => ⟨S8x20000, .i1⟩
  | 61 => ⟨S8x20000, .i32⟩
  | 62 => ⟨S_, .i32⟩
  | 63 => ⟨S8x20000, .i32⟩
  | 64 => ⟨S8x20000, .i32⟩
  | 65 => ⟨S_, .i32⟩
  | 66 => ⟨S_, .i32⟩
  | 67 => ⟨S8x20000, .i32⟩
  | 68 => ⟨S8x20000, .i32⟩
  | 69 => ⟨S8x20000x1, .i32⟩
  | 70 => ⟨S1x1x80, .i32⟩
  | 71 => ⟨S8x20000x80, .i32⟩
  | 72 => ⟨S8x20000x80, .i32⟩
  | 73 => ⟨S8x20000x80, .i1⟩
  | 74 => ⟨S8x20000x80, .f32⟩
  | 75 => ⟨S8x100x20000, .f32⟩
  | 76 => ⟨S_, .f32⟩
  | 77 => ⟨S8x100, .f32⟩
  | 78 => ⟨S8x100x1, .f32⟩
  | 79 => ⟨S_, .f32⟩
  | 80 => ⟨S8x100, .f32⟩
  | 81 => ⟨S8x100x1, .f32⟩
  | 82 => ⟨S8x100x20000, .f32⟩
  | 83 => ⟨S8x100x20000, .f32⟩
  | 84 => ⟨S_, .f32⟩
  | 85 => ⟨S8x100x1, .f32⟩
  | 86 => ⟨S8x100x1, .f32⟩
  | 87 => ⟨S8x100x20000, .f32⟩
  | 88 => ⟨S8x100x20000, .f32⟩
  | 89 => ⟨S_, .f32⟩
  | 90 => ⟨S8x20000, .f32⟩
  | 91 => ⟨S8x20000x1, .f32⟩
  | 92 => ⟨S8x20000x80, .f32⟩
  | 93 => ⟨S8x20000x80, .f32⟩
  | 94 => ⟨S_, .i32⟩
  | 95 => ⟨S8x20000, .i32⟩
  | 96 => ⟨S8x20000, .i1⟩
  | 97 => ⟨S8x20000, .f32⟩
  | _ => ⟨S8x20000x80, .f32⟩

abbrev hbmTy (i : Nat) : BufTy := match i / 128 with
  | 0 => hbmTy0_0 i
  | 1 => hbmTy0_1 i
  | 2 => hbmTy0_2 i
  | 3 => hbmTy0_3 i
  | _ => ⟨S8x20000x80, .f32⟩

abbrev bufTy : (tb : Table) → Fin (tcTables nBuf tb) → BufTy
  | .hbm, ⟨i, _⟩ => hbmTy i
  | _, _ => ⟨S8x20000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_0 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_1 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_2 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_3 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_4 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_5 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_6 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_7 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_8 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_9 : Ref sig .tc := ⟨.hbm, 135, rfl⟩
abbrev main_v96 : Ref sig .tc := ⟨.hbm, 136, rfl⟩
abbrev main_v97 : Ref sig .tc := ⟨.hbm, 137, rfl⟩
abbrev main_cst_10 : Ref sig .tc := ⟨.hbm, 138, rfl⟩
abbrev main_v98 : Ref sig .tc := ⟨.hbm, 139, rfl⟩
abbrev main_v99 : Ref sig .tc := ⟨.hbm, 140, rfl⟩
abbrev main_cst_11 : Ref sig .tc := ⟨.hbm, 141, rfl⟩
abbrev main_cst_12 : Ref sig .tc := ⟨.hbm, 142, rfl⟩
abbrev main_call1_v0 : Ref sig .tc := ⟨.hbm, 143, rfl⟩
abbrev main_call1_v1 : Ref sig .tc := ⟨.hbm, 144, rfl⟩
abbrev main_v100 : Ref sig .tc := ⟨.hbm, 145, rfl⟩
abbrev main_cst_13 : Ref sig .tc := ⟨.hbm, 146, rfl⟩
abbrev main_call2_v0 : Ref sig .tc := ⟨.hbm, 147, rfl⟩
abbrev main_v101 : Ref sig .tc := ⟨.hbm, 148, rfl⟩
abbrev main_cst_14 : Ref sig .tc := ⟨.hbm, 149, rfl⟩
abbrev main_v102 : Ref sig .tc := ⟨.hbm, 150, rfl⟩
abbrev main_v103 : Ref sig .tc := ⟨.hbm, 151, rfl⟩
abbrev main_cst_15 : Ref sig .tc := ⟨.hbm, 152, rfl⟩
abbrev main_v104 : Ref sig .tc := ⟨.hbm, 153, rfl⟩
abbrev main_v105 : Ref sig .tc := ⟨.hbm, 154, rfl⟩
abbrev main_cst_16 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_17 : Ref sig .tc := ⟨.hbm, 162, rfl⟩
abbrev main_v112 : Ref sig .tc := ⟨.hbm, 163, rfl⟩
abbrev main_v113 : Ref sig .tc := ⟨.hbm, 164, rfl⟩
abbrev main_cst_18 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_19 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_20 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_21 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_22 : Ref sig .tc := ⟨.hbm, 188, rfl⟩
abbrev main_v133 : Ref sig .tc := ⟨.hbm, 189, rfl⟩
abbrev main_v134 : Ref sig .tc := ⟨.hbm, 190, rfl⟩
abbrev main_cst_23 : Ref sig .tc := ⟨.hbm, 191, rfl⟩
abbrev main_v135 : Ref sig .tc := ⟨.hbm, 192, rfl⟩
abbrev main_v136 : Ref sig .tc := ⟨.hbm, 193, rfl⟩
abbrev main_cst_24 : Ref sig .tc := ⟨.hbm, 194, rfl⟩
abbrev main_cst_25 : Ref sig .tc := ⟨.hbm, 195, rfl⟩
abbrev main_call6_v0 : Ref sig .tc := ⟨.hbm, 196, rfl⟩
abbrev main_call6_v1 : Ref sig .tc := ⟨.hbm, 197, rfl⟩
abbrev main_v137 : Ref sig .tc := ⟨.hbm, 198, rfl⟩
abbrev main_cst_26 : Ref sig .tc := ⟨.hbm, 199, rfl⟩
abbrev main_call7_v0 : Ref sig .tc := ⟨.hbm, 200, rfl⟩
abbrev main_v138 : Ref sig .tc := ⟨.hbm, 201, rfl⟩
abbrev main_cst_27 : Ref sig .tc := ⟨.hbm, 202, rfl⟩
abbrev main_v139 : Ref sig .tc := ⟨.hbm, 203, rfl⟩
abbrev main_v140 : Ref sig .tc := ⟨.hbm, 204, rfl⟩
abbrev main_cst_28 : Ref sig .tc := ⟨.hbm, 205, rfl⟩
abbrev main_v141 : Ref sig .tc := ⟨.hbm, 206, rfl⟩
abbrev main_v142 : Ref sig .tc := ⟨.hbm, 207, rfl⟩
abbrev main_cst_29 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_cst_30 : Ref sig .tc := ⟨.hbm, 215, rfl⟩
abbrev main_v149 : Ref sig .tc := ⟨.hbm, 216, rfl⟩
abbrev main_v150 : Ref sig .tc := ⟨.hbm, 217, rfl⟩
abbrev main_cst_31 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_cst_32 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_cst_33 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_cst_34 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_cst_35 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_cst_36 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_cst_37 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_cst_38 : Ref sig .tc := ⟨.hbm, 263, rfl⟩
abbrev main_call11_v0 : Ref sig .tc := ⟨.hbm, 264, rfl⟩
abbrev main_call11_v1 : Ref sig .tc := ⟨.hbm, 265, rfl⟩
abbrev main_call11_v2 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_c_39 : Ref sig .tc := ⟨.hbm, 281, rfl⟩
abbrev main_v203 : Ref sig .tc := ⟨.hbm, 282, rfl⟩
abbrev main_cst_40 : Ref sig .tc := ⟨.hbm, 283, rfl⟩
abbrev main_call12_v0 : Ref sig .tc := ⟨.hbm, 284, rfl⟩
abbrev main_call12_v1 : Ref sig .tc := ⟨.hbm, 285, rfl⟩
abbrev main_v204 : Ref sig .tc := ⟨.hbm, 286, rfl⟩
abbrev main_values : Ref sig .tc := ⟨.hbm, 287, rfl⟩
abbrev main_indices : Ref sig .tc := ⟨.hbm, 288, rfl⟩
abbrev main_cst_41 : Ref sig .tc := ⟨.hbm, 289, rfl⟩
abbrev main_v205 : Ref sig .tc := ⟨.hbm, 290, rfl⟩
abbrev main_v206 : Ref sig .tc := ⟨.hbm, 291, rfl⟩
abbrev main_c_42 : Ref sig .tc := ⟨.hbm, 292, rfl⟩
abbrev main_call13_v0 : Ref sig .tc := ⟨.hbm, 293, rfl⟩
abbrev main_call13_v1 : Ref sig .tc := ⟨.hbm, 294, rfl⟩
abbrev main_v207 : Ref sig .tc := ⟨.hbm, 295, rfl⟩
abbrev main_cst_43 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_call14_v0 : Ref sig .tc := ⟨.hbm, 300, rfl⟩
abbrev main_call14_v1 : Ref sig .tc := ⟨.hbm, 301, rfl⟩
abbrev main_call14_v2 : Ref sig .tc := ⟨.hbm, 302, rfl⟩
abbrev main_call14_v3 : Ref sig .tc := ⟨.hbm, 303, rfl⟩
abbrev main_call14_v4 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_call15_v0 : Ref sig .tc := ⟨.hbm, 309, rfl⟩
abbrev main_call15_v1 : Ref sig .tc := ⟨.hbm, 310, rfl⟩
abbrev main_call15_v2 : Ref sig .tc := ⟨.hbm, 311, rfl⟩
abbrev main_call15_v3 : Ref sig .tc := ⟨.hbm, 312, rfl⟩
abbrev main_call15_v4 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_call16_v0 : Ref sig .tc := ⟨.hbm, 318, rfl⟩
abbrev main_call16_v1 : Ref sig .tc := ⟨.hbm, 319, rfl⟩
abbrev main_call16_v2 : Ref sig .tc := ⟨.hbm, 320, rfl⟩
abbrev main_call16_v3 : Ref sig .tc := ⟨.hbm, 321, rfl⟩
abbrev main_call16_v4 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_call17_v0 : Ref sig .tc := ⟨.hbm, 327, rfl⟩
abbrev main_call17_v1 : Ref sig .tc := ⟨.hbm, 328, rfl⟩
abbrev main_call17_v2 : Ref sig .tc := ⟨.hbm, 329, rfl⟩
abbrev main_call17_v3 : Ref sig .tc := ⟨.hbm, 330, rfl⟩
abbrev main_call17_v4 : Ref sig .tc := ⟨.hbm, 331, rfl⟩
abbrev main_v223 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_call18_v0 : Ref sig .tc := ⟨.hbm, 336, rfl⟩
abbrev main_call18_v1 : Ref sig .tc := ⟨.hbm, 337, rfl⟩
abbrev main_call18_v2 : Ref sig .tc := ⟨.hbm, 338, rfl⟩
abbrev main_call18_v3 : Ref sig .tc := ⟨.hbm, 339, rfl⟩
abbrev main_call18_v4 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_call19_v0 : Ref sig .tc := ⟨.hbm, 345, rfl⟩
abbrev main_call19_v1 : Ref sig .tc := ⟨.hbm, 346, rfl⟩
abbrev main_call19_v2 : Ref sig .tc := ⟨.hbm, 347, rfl⟩
abbrev main_call19_v3 : Ref sig .tc := ⟨.hbm, 348, rfl⟩
abbrev main_call19_v4 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩
abbrev main_call20_v0 : Ref sig .tc := ⟨.hbm, 354, rfl⟩
abbrev main_call20_v1 : Ref sig .tc := ⟨.hbm, 355, rfl⟩
abbrev main_call20_v2 : Ref sig .tc := ⟨.hbm, 356, rfl⟩
abbrev main_call20_v3 : Ref sig .tc := ⟨.hbm, 357, rfl⟩
abbrev main_call20_v4 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_call21_v0 : Ref sig .tc := ⟨.hbm, 363, rfl⟩
abbrev main_call21_v1 : Ref sig .tc := ⟨.hbm, 364, rfl⟩
abbrev main_call21_v2 : Ref sig .tc := ⟨.hbm, 365, rfl⟩
abbrev main_call21_v3 : Ref sig .tc := ⟨.hbm, 366, rfl⟩
abbrev main_call21_v4 : Ref sig .tc := ⟨.hbm, 367, rfl⟩
abbrev main_v239 : Ref sig .tc := ⟨.hbm, 368, rfl⟩
abbrev main_v240 : Ref sig .tc := ⟨.hbm, 369, rfl⟩
abbrev main_v241 : Ref sig .tc := ⟨.hbm, 370, rfl⟩
abbrev main_v242 : Ref sig .tc := ⟨.hbm, 371, rfl⟩
abbrev main_call22_v0 : Ref sig .tc := ⟨.hbm, 372, rfl⟩
abbrev main_call22_v1 : Ref sig .tc := ⟨.hbm, 373, rfl⟩
abbrev main_call22_v2 : Ref sig .tc := ⟨.hbm, 374, rfl⟩
abbrev main_call22_v3 : Ref sig .tc := ⟨.hbm, 375, rfl⟩
abbrev main_call22_v4 : Ref sig .tc := ⟨.hbm, 376, rfl⟩
abbrev main_v243 : Ref sig .tc := ⟨.hbm, 377, rfl⟩
abbrev main_v244 : Ref sig .tc := ⟨.hbm, 378, rfl⟩
abbrev main_v245 : Ref sig .tc := ⟨.hbm, 379, rfl⟩
abbrev main_v246 : Ref sig .tc := ⟨.hbm, 380, rfl⟩
abbrev main_call23_v0 : Ref sig .tc := ⟨.hbm, 381, rfl⟩
abbrev main_call23_v1 : Ref sig .tc := ⟨.hbm, 382, rfl⟩
abbrev main_call23_v2 : Ref sig .tc := ⟨.hbm, 383, rfl⟩
abbrev main_call23_v3 : Ref sig .tc := ⟨.hbm, 384, rfl⟩
abbrev main_call23_v4 : Ref sig .tc := ⟨.hbm, 385, rfl⟩
abbrev main_v247 : Ref sig .tc := ⟨.hbm, 386, rfl⟩
abbrev main_v248 : Ref sig .tc := ⟨.hbm, 387, rfl⟩
abbrev main_v249 : Ref sig .tc := ⟨.hbm, 388, rfl⟩
abbrev main_v250 : Ref sig .tc := ⟨.hbm, 389, rfl⟩
abbrev main_values_44 : Ref sig .tc := ⟨.hbm, 390, rfl⟩
abbrev main_indices_45 : Ref sig .tc := ⟨.hbm, 391, rfl⟩
abbrev main_v251 : Ref sig .tc := ⟨.hbm, 392, rfl⟩
abbrev main_cst_46 : Ref sig .tc := ⟨.hbm, 393, rfl⟩
abbrev main_v252 : Ref sig .tc := ⟨.hbm, 394, rfl⟩
abbrev main_cst_47 : Ref sig .tc := ⟨.hbm, 395, rfl⟩
abbrev main_v253 : Ref sig .tc := ⟨.hbm, 396, rfl⟩
abbrev main_v254 : Ref sig .tc := ⟨.hbm, 397, rfl⟩
abbrev main_v255 : Ref sig .tc := ⟨.hbm, 398, rfl⟩
abbrev main_call24_c : Ref sig .tc := ⟨.hbm, 399, rfl⟩
abbrev main_call24_v0 : Ref sig .tc := ⟨.hbm, 400, rfl⟩
abbrev main_call24_v1 : Ref sig .tc := ⟨.hbm, 401, rfl⟩
abbrev main_call24_c_0 : Ref sig .tc := ⟨.hbm, 402, rfl⟩
abbrev main_call24_v2 : Ref sig .tc := ⟨.hbm, 403, rfl⟩
abbrev main_call24_v3 : Ref sig .tc := ⟨.hbm, 404, rfl⟩
abbrev main_call24_v4 : Ref sig .tc := ⟨.hbm, 405, rfl⟩
abbrev main_call24_c_1 : Ref sig .tc := ⟨.hbm, 406, rfl⟩
abbrev main_call24_c_2 : Ref sig .tc := ⟨.hbm, 407, rfl⟩
abbrev main_call24_v5 : Ref sig .tc := ⟨.hbm, 408, rfl⟩
abbrev main_call24_v6 : Ref sig .tc := ⟨.hbm, 409, rfl⟩
abbrev main_call24_v7 : Ref sig .tc := ⟨.hbm, 410, rfl⟩
abbrev main_call24_v8 : Ref sig .tc := ⟨.hbm, 411, rfl⟩
abbrev main_call24_v9 : Ref sig .tc := ⟨.hbm, 412, rfl⟩
abbrev main_call24_v10 : Ref sig .tc := ⟨.hbm, 413, rfl⟩
abbrev main_call24_c_3 : Ref sig .tc := ⟨.hbm, 414, rfl⟩
abbrev main_call24_v11 : Ref sig .tc := ⟨.hbm, 415, rfl⟩
abbrev main_call24_v12 : Ref sig .tc := ⟨.hbm, 416, rfl⟩
abbrev main_call24_v13 : Ref sig .tc := ⟨.hbm, 417, rfl⟩
abbrev main_call24_cst : Ref sig .tc := ⟨.hbm, 418, rfl⟩
abbrev main_call24_v14 : Ref sig .tc := ⟨.hbm, 419, rfl⟩
abbrev main_v256 : Ref sig .tc := ⟨.hbm, 420, rfl⟩
abbrev main_v257 : Ref sig .tc := ⟨.hbm, 421, rfl⟩
abbrev main_cst_48 : Ref sig .tc := ⟨.hbm, 422, rfl⟩
abbrev main_call25_v0 : Ref sig .tc := ⟨.hbm, 423, rfl⟩
abbrev main_call25_v1 : Ref sig .tc := ⟨.hbm, 424, rfl⟩
abbrev main_call25_v2 : Ref sig .tc := ⟨.hbm, 425, rfl⟩
abbrev main_v258 : Ref sig .tc := ⟨.hbm, 426, rfl⟩
abbrev main_call26_c : Ref sig .tc := ⟨.hbm, 427, rfl⟩
abbrev main_call26_v0 : Ref sig .tc := ⟨.hbm, 428, rfl⟩
abbrev main_call26_v1 : Ref sig .tc := ⟨.hbm, 429, rfl⟩
abbrev main_call26_c_0 : Ref sig .tc := ⟨.hbm, 430, rfl⟩
abbrev main_call26_v2 : Ref sig .tc := ⟨.hbm, 431, rfl⟩
abbrev main_call26_v3 : Ref sig .tc := ⟨.hbm, 432, rfl⟩
abbrev main_call26_v4 : Ref sig .tc := ⟨.hbm, 433, rfl⟩
abbrev main_call26_v5 : Ref sig .tc := ⟨.hbm, 434, rfl⟩
abbrev main_call26_c_1 : Ref sig .tc := ⟨.hbm, 435, rfl⟩
abbrev main_call26_c_2 : Ref sig .tc := ⟨.hbm, 436, rfl⟩
abbrev main_call26_v6 : Ref sig .tc := ⟨.hbm, 437, rfl⟩
abbrev main_call26_v7 : Ref sig .tc := ⟨.hbm, 438, rfl⟩
abbrev main_call26_v8 : Ref sig .tc := ⟨.hbm, 439, rfl⟩
abbrev main_call26_v9 : Ref sig .tc := ⟨.hbm, 440, rfl⟩
abbrev main_call26_v10 : Ref sig .tc := ⟨.hbm, 441, rfl⟩
abbrev main_call26_v11 : Ref sig .tc := ⟨.hbm, 442, rfl⟩
abbrev main_call26_c_3 : Ref sig .tc := ⟨.hbm, 443, rfl⟩
abbrev main_call26_v12 : Ref sig .tc := ⟨.hbm, 444, rfl⟩
abbrev main_call26_v13 : Ref sig .tc := ⟨.hbm, 445, rfl⟩
abbrev main_call26_c_4 : Ref sig .tc := ⟨.hbm, 446, rfl⟩
abbrev main_call26_v14 : Ref sig .tc := ⟨.hbm, 447, rfl⟩
abbrev main_v259 : Ref sig .tc := ⟨.hbm, 448, rfl⟩
abbrev main_c_49 : Ref sig .tc := ⟨.hbm, 449, rfl⟩
abbrev main_call27_v0 : Ref sig .tc := ⟨.hbm, 450, rfl⟩
abbrev main_call27_v1 : Ref sig .tc := ⟨.hbm, 451, rfl⟩
abbrev main_v260 : Ref sig .tc := ⟨.hbm, 452, rfl⟩
abbrev main_call28_v0 : Ref sig .tc := ⟨.hbm, 453, rfl⟩
abbrev main_call28_v1 : Ref sig .tc := ⟨.hbm, 454, rfl⟩
abbrev main_call28_v2 : Ref sig .tc := ⟨.hbm, 455, rfl⟩
abbrev main_call28_v3 : Ref sig .tc := ⟨.hbm, 456, rfl⟩
abbrev main_call28_v4 : Ref sig .tc := ⟨.hbm, 457, rfl⟩
abbrev main_v261 : Ref sig .tc := ⟨.hbm, 458, rfl⟩
abbrev main_v262 : Ref sig .tc := ⟨.hbm, 459, rfl⟩
abbrev main_cst_50 : Ref sig .tc := ⟨.hbm, 460, rfl⟩
abbrev main_v263 : Ref sig .tc := ⟨.hbm, 461, rfl⟩
abbrev main_v264 : Ref sig .tc := ⟨.hbm, 462, rfl⟩
abbrev main_cst_51 : Ref sig .tc := ⟨.hbm, 463, rfl⟩
abbrev main_v265 : Ref sig .tc := ⟨.hbm, 464, rfl⟩
abbrev main_v266 : Ref sig .tc := ⟨.hbm, 465, rfl⟩
abbrev main_v267 : Ref sig .tc := ⟨.hbm, 466, rfl⟩
abbrev main_v268 : Ref sig .tc := ⟨.hbm, 467, rfl⟩
abbrev main_cst_52 : Ref sig .tc := ⟨.hbm, 468, rfl⟩
abbrev main_v269 : Ref sig .tc := ⟨.hbm, 469, rfl⟩
abbrev main_v270 : Ref sig .tc := ⟨.hbm, 470, rfl⟩
abbrev main_v271 : Ref sig .tc := ⟨.hbm, 471, rfl⟩
abbrev main_v272 : Ref sig .tc := ⟨.hbm, 472, rfl⟩
abbrev main_cst_53 : Ref sig .tc := ⟨.hbm, 473, rfl⟩
abbrev main_v273 : Ref sig .tc := ⟨.hbm, 474, rfl⟩
abbrev main_v274 : Ref sig .tc := ⟨.hbm, 475, rfl⟩
abbrev main_v275 : Ref sig .tc := ⟨.hbm, 476, rfl⟩
abbrev main_v276 : Ref sig .tc := ⟨.hbm, 477, rfl⟩
abbrev main_c_54 : Ref sig .tc := ⟨.hbm, 478, rfl⟩
abbrev main_v277 : Ref sig .tc := ⟨.hbm, 479, rfl⟩
abbrev main_v278 : Ref sig .tc := ⟨.hbm, 480, rfl⟩
abbrev main_v279 : Ref sig .tc := ⟨.hbm, 481, rfl⟩

abbrev nD : Nat := 1
abbrev τ : Topo := Topo.v7x

variable {F : FTy → Type} [FloatOps F]
-- ==== Proof.Scalar.lean ====
module

public import Idealize.ShloMosaic.Lib.Pointwise

@[expose] public section

/-!
The scalar formulas of the assignment: the overlap score of two boxes, whether an anchor lies in a box, and the alignment metric.
-/

noncomputable section

namespace Cert.Asg

open Idealize.ShloMosaic

/-- The arctangent of `x` by range reduction and an odd polynomial. -/
def atanF (x : EReal) : EReal :=
  let a : EReal := FloatOps.absf (F := Ideal) (φ := .f32) x
  let t : EReal :=
    if Ideal.ofBits .f32 1075479162#32 < a then Ideal.div (Ideal.ofBits .f32 3212836864#32) a
    else if Ideal.ofBits .f32 1054086093#32 < a then Ideal.div (a - 1) (a + 1) else a
  let y : EReal :=
    if Ideal.ofBits .f32 1075479162#32 < a then Ideal.ofBits .f32 1070141403#32
    else if Ideal.ofBits .f32 1054086093#32 < a then Ideal.ofBits .f32 1061752795#32 else 0
  let z : EReal := t * t
  let p : EReal :=
    ((Ideal.ofBits .f32 1034219729#32 * z - Ideal.ofBits .f32 1041111941#32) * z + Ideal.ofBits .f32 1045205599#32) * z
      - Ideal.ofBits .f32 1051372074#32
  let r : EReal := y + t + t * z * p
  if x < 0 then 0 - r else r

/-- The overlap score (CIoU) of the box `g` and the box `d`. -/
def ciouF (gx1 gy1 gx2 gy2 dx1 dy1 dx2 dy2 : EReal) : EReal :=
  let e : EReal := Ideal.ofBits .f32 869711765#32
  let w1 : EReal := gx2 - gx1
  let h1 : EReal := gy2 - gy1 + e
  let w2 : EReal := dx2 - dx1
  let h2 : EReal := dy2 - dy1 + e
  let inter : EReal := max (min gx2 dx2 - max gx1 dx1) 0 * max (min gy2 dy2 - max gy1 dy1) 0
  let union : EReal := w1 * h1 + w2 * h2 - inter + e
  let iou : EReal := Ideal.div inter union
  let cw : EReal := max gx2 dx2 - min gx1 dx1
  let ch : EReal := max gy2 dy2 - min gy1 dy1
  let c2 : EReal := cw * cw + ch * ch + e
  let rx : EReal := (gx1 + gx2) * Ideal.ofBits .f32 1056964608#32 - (dx1 + dx2) * Ideal.ofBits .f32 1056964608#32
  let ry : EReal := (gy1 + gy2) * Ideal.ofBits .f32 1056964608#32 - (dy1 + dy2) * Ideal.ofBits .f32 1056964608#32
  let rho : EReal := rx * rx + ry * ry
  let t : EReal := atanF (Ideal.div w2 h2) - atanF (Ideal.div w1 h1)
  let v : EReal := Ideal.ofBits .f32 1053786491#32 * (t * t)
  let alpha : EReal := Ideal.div v (v - iou + Ideal.ofBits .f32 1065353217#32)
  iou - (Ideal.div rho c2 + v * alpha)

/-- One where the anchor `(ax, ay)` lies inside the box, as a bit. -/
def inBox (gx1 gy1 gx2 gy2 ax ay : EReal) : BitVec 1 :=
  IntOp.andi
    (IntOp.andi (IntOp.andi (BitVec.ofBool (decide (gx1 < ax))) (BitVec.ofBool (decide (ax < gx2)))) (BitVec.ofBool (decide (gy1 < ay))))
    (BitVec.ofBool (decide (ay < gy2)))

/-- The sixth power as the kernel takes it: the cube of the square. -/
def six (c : EReal) : EReal := c * c * (c * c) * (c * c)

end Cert.Asg
-- ==== Proof.RefCiou.lean ====
module

public import proofs.«01_k».proof.Proof.Gen.ReferenceIdeal.Read
public import proofs.«01_k».proof.Proof.Scalar

@[expose] public section

/-!
The reference's overlap score at an index.
-/

noncomputable section

namespace Cert.Asg.Ref

open Idealize.ShloMosaic Cert.ReferenceIdeal Cert.ReferenceIdeal.Read

variable (x1 : FVec Ideal S8x20000x4 .f32) (x4 : FVec Ideal S8x100x4 .f32)
variable (b : Fin 8) (g : Fin 100) (a : Fin 20000)

theorem i_v23 : idx_main_v23 (ix4 b g a 0) = ix4 b g 0 0 := by funext x; fin_cases x <;> rfl

theorem i_v24 : idx_main_v24 (ix4 b g a 0) = ix4 b 0 a 0 := by funext x; fin_cases x <;> rfl

theorem i_v26 : idx_main_v26 (ix4 b g a 0) = ix4 b g 0 0 := by funext x; fin_cases x <;> rfl

theorem i_v27 : idx_main_v27 (ix4 b g a 0) = ix4 b 0 a 0 := by funext x; fin_cases x <;> rfl

theorem i_v32 : idx_main_v32 (ix4 b g a 0) = ix4 b g 0 0 := by funext x; fin_cases x <;> rfl

theorem i_v33 : idx_main_v33 (ix4 b g a 0) = ix4 b 0 a 0 := by funext x; fin_cases x <;> rfl

theorem i_v35 : idx_main_v35 (ix4 b g a 0) = ix4 b g 0 0 := by funext x; fin_cases x <;> rfl

theorem i_v36 : idx_main_v36 (ix4 b g a 0) = ix4 b 0 a 0 := by funext x; fin_cases x <;> rfl

theorem i_v44 : idx_main_v44 (ix4 b g a 0) = ix4 b g 0 0 := by funext x; fin_cases x <;> rfl

theorem i_v45 : idx_main_v45 (ix4 b g a 0) = ix4 b 0 a 0 := by funext x; fin_cases x <;> rfl

theorem i_v52 : idx_main_v52 (ix4 b g a 0) = ix4 b g 0 0 := by funext x; fin_cases x <;> rfl

theorem i_v53 : idx_main_v53 (ix4 b g a 0) = ix4 b 0 a 0 := by funext x; fin_cases x <;> rfl

theorem i_v55 : idx_main_v55 (ix4 b g a 0) = ix4 b g 0 0 := by funext x; fin_cases x <;> rfl

theorem i_v56 : idx_main_v56 (ix4 b g a 0) = ix4 b 0 a 0 := by funext x; fin_cases x <;> rfl

theorem i_v59 : idx_main_v59 (ix4 b g a 0) = ix4 b g 0 0 := by funext x; fin_cases x <;> rfl

theorem i_v60 : idx_main_v60 (ix4 b g a 0) = ix4 b 0 a 0 := by funext x; fin_cases x <;> rfl

theorem i_v62 : idx_main_v62 (ix4 b g a 0) = ix4 b g 0 0 := by funext x; fin_cases x <;> rfl

theorem i_v63 : idx_main_v63 (ix4 b g a 0) = ix4 b 0 a 0 := by funext x; fin_cases x <;> rfl

theorem i_v78 : idx_main_v78 (ix4 b g a 0) = ix4 b g 0 0 := by funext x; fin_cases x <;> rfl

theorem i_v79 : idx_main_v79 (ix4 b g a 0) = ix4 b 0 a 0 := by funext x; fin_cases x <;> rfl

theorem i_v88 : idx_main_v88 (ix4 b g a 0) = ix4 b g 0 0 := by funext x; fin_cases x <;> rfl

theorem i_v89 : idx_main_v89 (ix4 b g a 0) = ix4 b 0 a 0 := by funext x; fin_cases x <;> rfl

theorem i_v168 : idx_main_v168 (ix4 b g a 0) = ix4 b 0 a 0 := by funext x; fin_cases x <;> rfl

theorem i_v169 : idx_main_v169 (ix4 b g a 0) = ix4 b g 0 0 := by funext x; fin_cases x <;> rfl

/-- Coordinate 0 of a true box. -/
theorem a_v7 : val_main_v7 (F := Ideal) x4 (ix4 b g 0 0) = x4 (ix3 b g 0) := by
  rw [val_main_v7_apply, val_main_v5_apply]
  refine congrArg x4 ?_
  funext x; fin_cases x <;> rfl

/-- Coordinate 1 of a true box. -/
theorem a_v8 : val_main_v8 (F := Ideal) x4 (ix4 b g 0 0) = x4 (ix3 b g 1) := by
  rw [val_main_v8_apply, val_main_v5_apply]
  refine congrArg x4 ?_
  funext x; fin_cases x <;> rfl

/-- Coordinate 2 of a true box. -/
theorem a_v9 : val_main_v9 (F := Ideal) x4 (ix4 b g 0 0) = x4 (ix3 b g 2) := by
  rw [val_main_v9_apply, val_main_v5_apply]
  refine congrArg x4 ?_
  funext x; fin_cases x <;> rfl

/-- Coordinate 3 of a true box. -/
theorem a_v10 : val_main_v10 (F := Ideal) x4 (ix4 b g 0 0) = x4 (ix3 b g 3) := by
  rw [val_main_v10_apply, val_main_v5_apply]
  refine congrArg x4 ?_
  funext x; fin_cases x <;> rfl

/-- Coordinate 0 of a decoded box. -/
theorem a_v11 : val_main_v11 (F := Ideal) x1 (ix4 b 0 a 0) = x1 (ix3 b a 0) := by
  rw [val_main_v11_apply, val_main_v6_apply]
  refine congrArg x1 ?_
  funext x; fin_cases x <;> rfl

/-- Coordinate 1 of a decoded box. -/
theorem a_v12 : val_main_v12 (F := Ideal) x1 (ix4 b 0 a 0) = x1 (ix3 b a 1) := by
  rw [val_main_v12_apply, val_main_v6_apply]
  refine congrArg x1 ?_
  funext x; fin_cases x <;> rfl

/-- Coordinate 2 of a decoded box. -/
theorem a_v13 : val_main_v13 (F := Ideal) x1 (ix4 b 0 a 0) = x1 (ix3 b a 2) := by
  rw [val_main_v13_apply, val_main_v6_apply]
  refine congrArg x1 ?_
  funext x; fin_cases x <;> rfl

/-- Coordinate 3 of a decoded box. -/
theorem a_v14 : val_main_v14 (F := Ideal) x1 (ix4 b 0 a 0) = x1 (ix3 b a 3) := by
  rw [val_main_v14_apply, val_main_v6_apply]
  refine congrArg x1 ?_
  funext x; fin_cases x <;> rfl

/-- A side of a box. -/
theorem a_v15 : val_main_v15 (F := Ideal) x4 (ix4 b g 0 0) = (x4 (ix3 b g 2) - x4 (ix3 b g 0)) := by
  simp only [val_main_v15_apply, val_main_v16_apply, val_main_v17_apply, val_main_cst_apply, val_main_v18_apply, val_main_v19_apply, val_main_v20_apply, val_main_cst_0_apply, val_main_v21_apply, val_main_v22_apply, a_v7, a_v8, a_v9, a_v10, a_v11, a_v12, a_v13, a_v14]
  rfl

/-- A side of a box. -/
theorem a_v18 : val_main_v18 (F := Ideal) x4 (ix4 b g 0 0) = (x4 (ix3 b g 3) - x4 (ix3 b g 1) + Ideal.ofBits .f32 869711765#32) := by
  simp only [val_main_v15_apply, val_main_v16_apply, val_main_v17_apply, val_main_cst_apply, val_main_v18_apply, val_main_v19_apply, val_main_v20_apply, val_main_cst_0_apply, val_main_v21_apply, val_main_v22_apply, a_v7, a_v8, a_v9, a_v10, a_v11, a_v12, a_v13, a_v14]
  rfl

/-- A side of a box. -/
theorem a_v19 : val_main_v19 (F := Ideal) x1 (ix4 b 0 a 0) = (x1 (ix3 b a 2) - x1 (ix3 b a 0)) := by
  simp only [val_main_v15_apply, val_main_v16_apply, val_main_v17_apply, val_main_cst_apply, val_main_v18_apply, val_main_v19_apply, val_main_v20_apply, val_main_cst_0_apply, val_main_v21_apply, val_main_v22_apply, a_v7, a_v8, a_v9, a_v10, a_v11, a_v12, a_v13, a_v14]
  rfl

/-- A side of a box. -/
theorem a_v22 : val_main_v22 (F := Ideal) x1 (ix4 b 0 a 0) = (x1 (ix3 b a 3) - x1 (ix3 b a 1) + Ideal.ofBits .f32 869711765#32) := by
  simp only [val_main_v15_apply, val_main_v16_apply, val_main_v17_apply, val_main_cst_apply, val_main_v18_apply, val_main_v19_apply, val_main_v20_apply, val_main_cst_0_apply, val_main_v21_apply, val_main_v22_apply, a_v7, a_v8, a_v9, a_v10, a_v11, a_v12, a_v13, a_v14]
  rfl

/-- The reference's arctangent of a number. -/
theorem atan_ref (x : EReal) :
    (let q : EReal := FloatOps.hostAbsf (F := Ideal) (φ := .f32) x
     let big := FloatOps.cmpf (F := Ideal) (φ := .f32) .ogt q (FloatOps.ofBits (F := Ideal) .f32 0x401A827A#32)
     let sm := FloatOps.cmpf (F := Ideal) (φ := .f32) .ole q (FloatOps.ofBits (F := Ideal) .f32 0x3ED413CD#32)
     let y : EReal := Scalar.select big (Ideal.ofBits .f32 0x3FC90FDB#32) (Scalar.select sm (Ideal.ofBits .f32 0x00000000#32) (Ideal.ofBits .f32 0x3F490FDB#32))
     let t : EReal := Scalar.select big (Ideal.div (Ideal.ofBits .f32 0xBF800000#32) q)
       (Scalar.select sm q (Ideal.div (q - Ideal.ofBits .f32 0x3F800000#32) (q + Ideal.ofBits .f32 0x3F800000#32)))
     let z : EReal := t * t
     let p : EReal := ((Ideal.ofBits .f32 0x3DA4F0D1#32 * z - Ideal.ofBits .f32 0x3E0E1B85#32) * z + Ideal.ofBits .f32 0x3E4C925F#32) * z - Ideal.ofBits .f32 0x3EAAAA2A#32
     let r : EReal := y + t + t * z * p
     Scalar.select (FloatOps.cmpf (F := Ideal) (φ := .f32) .olt x (Ideal.ofBits .f32 0x00000000#32)) (FloatOps.hostNegf (F := Ideal) (φ := .f32) r) r) = atanF x := by
  have e0 : Ideal.ofBits .f32 0x00000000#32 = 0 := Ideal.ofBits_zero_f32
  have e1 : Ideal.ofBits .f32 0x3F800000#32 = 1 := Ideal.ofBits_one_f32
  have hs : ∀ (p : Prop) [Decidable p] (u v : EReal), Scalar.select (BitVec.ofBool (decide p)) u v = if p then u else v := by
    intro p _ u v
    by_cases h : p <;> simp [Scalar.select, h]
  have hle : ∀ (u v s t : EReal), (if u ≤ v then s else t) = if v < u then t else s := by
    intro u v s t
    by_cases h : u ≤ v
    · rw [if_pos h, if_neg h.not_gt]
    · rw [if_neg h, if_pos (not_le.1 h)]
  have c1 : ∀ u v : EReal, FloatOps.cmpf (F := Ideal) (φ := .f32) .ogt u v = BitVec.ofBool (decide (v < u)) := fun _ _ => rfl
  have c2 : ∀ u v : EReal, FloatOps.cmpf (F := Ideal) (φ := .f32) .ole u v = BitVec.ofBool (decide (u ≤ v)) := fun _ _ => rfl
  have c3 : ∀ u v : EReal, FloatOps.cmpf (F := Ideal) (φ := .f32) .olt u v = BitVec.ofBool (decide (u < v)) := fun _ _ => rfl
  have n1 : ∀ r : EReal, FloatOps.hostNegf (F := Ideal) (φ := .f32) r = 0 - r := fun r => by
    rw [zero_sub]; rfl
  dsimp only
  rw [c1, c2, c3, n1]
  simp only [hs, hle, e0, e1]
  rfl

/-- The arctangent of a decoded box. -/
theorem a_v130 : val_main_v130 (F := Ideal) x1 (ix4 b 0 a 0) = atanF (Ideal.div (x1 (ix3 b a 2) - x1 (ix3 b a 0)) (x1 (ix3 b a 3) - x1 (ix3 b a 1) + Ideal.ofBits .f32 869711765#32)) := by
  simp only [val_main_v94_apply, val_main_v95_apply, val_main_cst_9_apply, val_main_v96_apply, val_main_v97_apply, val_main_cst_10_apply, val_main_v98_apply, val_main_v99_apply, val_main_cst_11_apply, val_main_cst_12_apply, val_main_call1_v0_apply, val_main_call1_v1_apply, val_main_v100_apply, val_main_cst_13_apply, val_main_call2_v0_apply, val_main_v101_apply, val_main_cst_14_apply, val_main_v102_apply, val_main_v103_apply, val_main_cst_15_apply, val_main_v104_apply, val_main_v105_apply, val_main_cst_16_apply, val_main_v106_apply, val_main_v107_apply, val_main_v108_apply, val_main_v109_apply, val_main_v110_apply, val_main_v111_apply, val_main_cst_17_apply, val_main_v112_apply, val_main_v113_apply, val_main_cst_18_apply, val_main_v114_apply, val_main_v115_apply, val_main_v116_apply, val_main_cst_19_apply, val_main_v117_apply, val_main_v118_apply, val_main_v119_apply, val_main_cst_20_apply, val_main_v120_apply, val_main_v121_apply, val_main_v122_apply, val_main_v123_apply, val_main_v124_apply, val_main_v125_apply, val_main_v126_apply, val_main_cst_21_apply, val_main_v127_apply, val_main_v128_apply, val_main_v129_apply, val_main_v130_apply, a_v15, a_v18, a_v19, a_v22]
  exact atan_ref _

/-- The arctangent of a true box. -/
theorem a_v167 : val_main_v167 (F := Ideal) x4 (ix4 b g 0 0) = atanF (Ideal.div (x4 (ix3 b g 2) - x4 (ix3 b g 0)) (x4 (ix3 b g 3) - x4 (ix3 b g 1) + Ideal.ofBits .f32 869711765#32)) := by
  simp only [val_main_v131_apply, val_main_v132_apply, val_main_cst_22_apply, val_main_v133_apply, val_main_v134_apply, val_main_cst_23_apply, val_main_v135_apply, val_main_v136_apply, val_main_cst_24_apply, val_main_cst_25_apply, val_main_call6_v0_apply, val_main_call6_v1_apply, val_main_v137_apply, val_main_cst_26_apply, val_main_call7_v0_apply, val_main_v138_apply, val_main_cst_27_apply, val_main_v139_apply, val_main_v140_apply, val_main_cst_28_apply, val_main_v141_apply, val_main_v142_apply, val_main_cst_29_apply, val_main_v143_apply, val_main_v144_apply, val_main_v145_apply, val_main_v146_apply, val_main_v147_apply, val_main_v148_apply, val_main_cst_30_apply, val_main_v149_apply, val_main_v150_apply, val_main_cst_31_apply, val_main_v151_apply, val_main_v152_apply, val_main_v153_apply, val_main_cst_32_apply, val_main_v154_apply, val_main_v155_apply, val_main_v156_apply, val_main_cst_33_apply, val_main_v157_apply, val_main_v158_apply, val_main_v159_apply, val_main_v160_apply, val_main_v161_apply, val_main_v162_apply, val_main_v163_apply, val_main_cst_34_apply, val_main_v164_apply, val_main_v165_apply, val_main_v166_apply, val_main_v167_apply, a_v15, a_v18, a_v19, a_v22]
  exact atan_ref _

/-- A trailing dimension of one is dropped. -/
theorem i_v51 : idx_main_v51 (ix3 b g a) = ix4 b g a 0 := by
  have hb := b.2; have hg := g.2; have ha := a.2
  have h0 : ((b.1 * 100 + g.1) * 20000 + a.1) / 2000000 = b.1 := by omega
  have h1 : ((b.1 * 100 + g.1) * 20000 + a.1) / 20000 % 100 = g.1 := by omega
  have h2 : ((b.1 * 100 + g.1) * 20000 + a.1) / 1 % 20000 = a.1 := by omega
  funext x
  fin_cases x
  · exact Fin.ext h0
  · exact Fin.ext h1
  · exact Fin.ext h2
  · rfl
theorem i_v71 : idx_main_v71 (ix3 b g a) = ix4 b g a 0 := i_v51 b g a
theorem i_v93 : idx_main_v93 (ix3 b g a) = ix4 b g a 0 := i_v51 b g a
theorem i_v174 : idx_main_v174 (ix3 b g a) = ix4 b g a 0 := i_v51 b g a

/-- The intersection over the union. -/
theorem a_v51 : val_main_v51 (F := Ideal) x1 x4 (ix3 b g a) =
      Ideal.div (max (min (x4 (ix3 b g 2)) (x1 (ix3 b a 2)) - max (x4 (ix3 b g 0)) (x1 (ix3 b a 0))) 0 * max (min (x4 (ix3 b g 3)) (x1 (ix3 b a 3)) - max (x4 (ix3 b g 1)) (x1 (ix3 b a 1))) 0) ((x4 (ix3 b g 2) - x4 (ix3 b g 0)) * (x4 (ix3 b g 3) - x4 (ix3 b g 1) + Ideal.ofBits .f32 869711765#32) + (x1 (ix3 b a 2) - x1 (ix3 b a 0)) * (x1 (ix3 b a 3) - x1 (ix3 b a 1) + Ideal.ofBits .f32 869711765#32) - (max (min (x4 (ix3 b g 2)) (x1 (ix3 b a 2)) - max (x4 (ix3 b g 0)) (x1 (ix3 b a 0))) 0 * max (min (x4 (ix3 b g 3)) (x1 (ix3 b a 3)) - max (x4 (ix3 b g 1)) (x1 (ix3 b a 1))) 0) + Ideal.ofBits .f32 869711765#32) := by
  simp only [val_main_v23_apply, val_main_v24_apply, val_main_v25_apply, val_main_v26_apply, val_main_v27_apply, val_main_v28_apply, val_main_v29_apply, val_main_cst_1_apply, val_main_v30_apply, val_main_v31_apply, val_main_v32_apply, val_main_v33_apply, val_main_v34_apply, val_main_v35_apply, val_main_v36_apply, val_main_v37_apply, val_main_v38_apply, val_main_cst_2_apply, val_main_v39_apply, val_main_v40_apply, val_main_v41_apply, val_main_v42_apply, val_main_v43_apply, val_main_v44_apply, val_main_v45_apply, val_main_v46_apply, val_main_v47_apply, val_main_cst_3_apply, val_main_v48_apply, val_main_v49_apply, val_main_v50_apply, val_main_v51_apply, i_v51, i_v23, i_v24, i_v26, i_v27, i_v32, i_v33, i_v35, i_v36, i_v44, i_v45, i_v52, i_v53, i_v55, i_v56, i_v59, i_v60, i_v62, i_v63, i_v78, i_v79, i_v88, i_v89, i_v168, i_v169, a_v15, a_v18, a_v19, a_v22, a_v7, a_v8, a_v9, a_v10, a_v11, a_v12, a_v13, a_v14]
  have e0 : Ideal.ofBits .f32 0x00000000#32 = 0 := Ideal.ofBits_zero_f32
  rw [← e0]
  rfl

/-- The squared diagonal of the enclosing box. -/
theorem a_v71 : val_main_v71 (F := Ideal) x1 x4 (ix3 b g a) = (max (x4 (ix3 b g 2)) (x1 (ix3 b a 2)) - min (x4 (ix3 b g 0)) (x1 (ix3 b a 0))) * (max (x4 (ix3 b g 2)) (x1 (ix3 b a 2)) - min (x4 (ix3 b g 0)) (x1 (ix3 b a 0))) + (max (x4 (ix3 b g 3)) (x1 (ix3 b a 3)) - min (x4 (ix3 b g 1)) (x1 (ix3 b a 1))) * (max (x4 (ix3 b g 3)) (x1 (ix3 b a 3)) - min (x4 (ix3 b g 1)) (x1 (ix3 b a 1))) + Ideal.ofBits .f32 869711765#32 := by
  simp only [val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_cst_4_apply, val_main_v69_apply, val_main_v70_apply, val_main_v71_apply, i_v71, i_v23, i_v24, i_v26, i_v27, i_v32, i_v33, i_v35, i_v36, i_v44, i_v45, i_v52, i_v53, i_v55, i_v56, i_v59, i_v60, i_v62, i_v63, i_v78, i_v79, i_v88, i_v89, i_v168, i_v169, a_v7, a_v8, a_v9, a_v10, a_v11, a_v12, a_v13, a_v14]
  rfl

/-- Dividing by two is multiplying by one half. -/
theorem half (x : EReal) : FloatOps.hostDivf (F := Ideal) (φ := .f32) x (FloatOps.ofBits (F := Ideal) .f32 0x40000000#32) = x * Ideal.ofBits .f32 1056964608#32 := by
  have h2 : Ideal.ofBits .f32 0x40000000#32 = ((2 : ℝ) : EReal) := by
    simp [Ideal.ofBits, Ideal.ieee, -EReal.coe_mul]; norm_num
  have hh : Ideal.ofBits .f32 1056964608#32 = ((1 / 2 : ℝ) : EReal) := by
    simp [Ideal.ofBits, Ideal.ieee, -EReal.coe_mul]; norm_num
  show Ideal.div x (Ideal.ofBits .f32 0x40000000#32) = x * Ideal.ofBits .f32 1056964608#32
  rw [h2, hh, Ideal.div_coe (by norm_num)]

/-- The squared distance of the centres. -/
theorem a_v93 : val_main_v93 (F := Ideal) x1 x4 (ix3 b g a) = ((x4 (ix3 b g 0) + x4 (ix3 b g 2)) * Ideal.ofBits .f32 1056964608#32 - (x1 (ix3 b a 0) + x1 (ix3 b a 2)) * Ideal.ofBits .f32 1056964608#32) * ((x4 (ix3 b g 0) + x4 (ix3 b g 2)) * Ideal.ofBits .f32 1056964608#32 - (x1 (ix3 b a 0) + x1 (ix3 b a 2)) * Ideal.ofBits .f32 1056964608#32) + ((x4 (ix3 b g 1) + x4 (ix3 b g 3)) * Ideal.ofBits .f32 1056964608#32 - (x1 (ix3 b a 1) + x1 (ix3 b a 3)) * Ideal.ofBits .f32 1056964608#32) * ((x4 (ix3 b g 1) + x4 (ix3 b g 3)) * Ideal.ofBits .f32 1056964608#32 - (x1 (ix3 b a 1) + x1 (ix3 b a 3)) * Ideal.ofBits .f32 1056964608#32) := by
  simp only [val_main_v72_apply, val_main_cst_5_apply, val_main_v73_apply, val_main_v74_apply, val_main_v75_apply, val_main_cst_6_apply, val_main_v76_apply, val_main_v77_apply, val_main_v78_apply, val_main_v79_apply, val_main_v80_apply, val_main_v81_apply, val_main_v82_apply, val_main_cst_7_apply, val_main_v83_apply, val_main_v84_apply, val_main_v85_apply, val_main_cst_8_apply, val_main_v86_apply, val_main_v87_apply, val_main_v88_apply, val_main_v89_apply, val_main_v90_apply, val_main_v91_apply, val_main_v92_apply, val_main_v93_apply, i_v93, half, i_v23, i_v24, i_v26, i_v27, i_v32, i_v33, i_v35, i_v36, i_v44, i_v45, i_v52, i_v53, i_v55, i_v56, i_v59, i_v60, i_v62, i_v63, i_v78, i_v79, i_v88, i_v89, i_v168, i_v169, a_v7, a_v8, a_v9, a_v10, a_v11, a_v12, a_v13, a_v14]
  rfl

/-- The shape term. -/
theorem a_v174 : val_main_v174 (F := Ideal) x1 x4 (ix3 b g a) = Ideal.ofBits .f32 1053786491#32 * ((atanF (Ideal.div (x1 (ix3 b a 2) - x1 (ix3 b a 0)) (x1 (ix3 b a 3) - x1 (ix3 b a 1) + Ideal.ofBits .f32 869711765#32)) - atanF (Ideal.div (x4 (ix3 b g 2) - x4 (ix3 b g 0)) (x4 (ix3 b g 3) - x4 (ix3 b g 1) + Ideal.ofBits .f32 869711765#32))) * (atanF (Ideal.div (x1 (ix3 b a 2) - x1 (ix3 b a 0)) (x1 (ix3 b a 3) - x1 (ix3 b a 1) + Ideal.ofBits .f32 869711765#32)) - atanF (Ideal.div (x4 (ix3 b g 2) - x4 (ix3 b g 0)) (x4 (ix3 b g 3) - x4 (ix3 b g 1) + Ideal.ofBits .f32 869711765#32)))) := by
  simp only [val_main_v168_apply, val_main_v169_apply, val_main_v170_apply, val_main_v171_apply, val_main_cst_35_apply, val_main_v172_apply, val_main_v173_apply, val_main_v174_apply, i_v174, a_v130, a_v167, i_v23, i_v24, i_v26, i_v27, i_v32, i_v33, i_v35, i_v36, i_v44, i_v45, i_v52, i_v53, i_v55, i_v56, i_v59, i_v60, i_v62, i_v63, i_v78, i_v79, i_v88, i_v89, i_v168, i_v169]
  rfl

/-- The reference's overlap score is the score of the two boxes. -/
theorem a_v182 : val_main_v182 (F := Ideal) x1 x4 (ix3 b g a) =
    ciouF (x4 (ix3 b g 0)) (x4 (ix3 b g 1)) (x4 (ix3 b g 2)) (x4 (ix3 b g 3)) (x1 (ix3 b a 0)) (x1 (ix3 b a 1)) (x1 (ix3 b a 2)) (x1 (ix3 b a 3)) := by
  simp only [val_main_v175_apply, val_main_cst_36_apply, val_main_v176_apply, val_main_v177_apply, val_main_v178_apply,
    val_main_v179_apply, val_main_v180_apply, val_main_v181_apply, val_main_v182_apply, a_v51, a_v71, a_v93, a_v174]
  rfl

end Cert.Asg.Ref
-- ==== Proof.Argmax.lean ====
module

public import Idealize.ShloMosaic.Lib.Pointwise

@[expose] public section

/-!
The first place of a row's largest value, and what one round does to the row.
-/

noncomputable section

namespace Cert.Asg

open Idealize.ShloMosaic

/-- `k` is the first place where `f` is largest. -/
def Top {n : ℕ} (f : Fin n → EReal) (k : Fin n) : Prop := (∀ j, f j ≤ f k) ∧ ∀ j, j < k → f j < f k

/-- A row that is not empty has a first largest place. -/
theorem exists_top {n : ℕ} (hn : 0 < n) (f : Fin n → EReal) : ∃ k, Top f k := by
  classical
  haveI : Nonempty (Fin n) := ⟨⟨0, hn⟩⟩
  obtain ⟨k₀, _, hk₀⟩ := Finset.exists_max_image (Finset.univ : Finset (Fin n)) f Finset.univ_nonempty
  let s := Finset.univ.filter fun k : Fin n => f k = f k₀
  have hs : s.Nonempty := ⟨k₀, by simp [s]⟩
  have hm := s.min'_mem hs
  have he : f (s.min' hs) = f k₀ := (Finset.mem_filter.1 hm).2
  refine ⟨s.min' hs, fun j => he ▸ hk₀ j (Finset.mem_univ j), fun j hj => ?_⟩
  refine lt_of_le_of_ne (he ▸ hk₀ j (Finset.mem_univ j)) fun h => ?_
  exact absurd (s.min'_le j (Finset.mem_filter.2 ⟨Finset.mem_univ j, h.trans he⟩)) (not_le.2 hj)

/-- There is only one first largest place. -/
theorem Top.unique {n : ℕ} {f : Fin n → EReal} {k l : Fin n} (hk : Top f k) (hl : Top f l) : k = l := by
  rcases lt_trichotomy k l with h | h | h
  · exact absurd (hl.2 k h) (not_lt.2 (hk.1 l))
  · exact h
  · exact absurd (hk.2 l h) (not_lt.2 (hl.1 k))

/-- The first largest place of a row of 20096. -/
def amax (f : Fin 20096 → EReal) : Fin 20096 := (exists_top (by norm_num) f).choose

theorem amax_top (f : Fin 20096 → EReal) : Top f (amax f) := (exists_top (by norm_num) f).choose_spec

/-- A row after one round: the negative of the largest value stands at its first place. -/
def nxt (f : Fin 20096 → EReal) (a : Fin 20096) : EReal := if a = amax f then 0 - f (amax f) else f a

/-- Words of small numbers compare as the numbers. -/
theorem minsi_ofNat {a b : ℕ} (ha : a < 2 ^ 31) (hb : b < 2 ^ 31) :
    IntOp.minsi (BitVec.ofNat 32 a) (BitVec.ofNat 32 b) = BitVec.ofNat 32 (min a b) := by
  have h : (BitVec.ofNat 32 a).slt (BitVec.ofNat 32 b) = decide (a < b) := by
    rw [BitVec.slt, BitVec.toInt_ofNat', BitVec.toInt_ofNat']
    refine decide_eq_decide.2 ?_
    rw [Int.bmod_eq_of_le (by omega) (by omega), Int.bmod_eq_of_le (by omega) (by omega)]
    omega
  unfold IntOp.minsi
  rw [h]
  by_cases hab : a < b
  · simp [hab, min_eq_left hab.le]
  · simp [hab, min_eq_right (not_lt.1 hab)]

/-- The least of finitely many words of small numbers is the word of the least number. -/
theorem fold_minsi {ι : Type*} [DecidableEq ι] (s : Finset ι) (t : ι → ℕ) (ht : ∀ x, t x < 2 ^ 31) (b : ℕ) (hb : b < 2 ^ 31) :
    ∃ n, Finset.fold IntOp.minsi (BitVec.ofNat 32 b) (fun x => BitVec.ofNat 32 (t x)) s = BitVec.ofNat 32 n
      ∧ n ≤ b ∧ (∀ x ∈ s, n ≤ t x) ∧ (n = b ∨ ∃ x ∈ s, n = t x) := by
  induction s using Finset.induction_on with
  | empty => exact ⟨b, rfl, le_rfl, by simp, Or.inl rfl⟩
  | insert a s ha ih =>
    obtain ⟨n, h1, h2, h3, h4⟩ := ih
    refine ⟨min (t a) n, ?_, le_trans (min_le_right _ _) h2, ?_, ?_⟩
    · rw [Finset.fold_insert ha, h1, minsi_ofNat (ht a) (lt_of_le_of_lt h2 hb)]
    · intro x hx
      rcases Finset.mem_insert.1 hx with rfl | hx
      · exact min_le_left _ _
      · exact le_trans (min_le_right _ _) (h3 x hx)
    · rcases le_total (t a) n with h | h
      · exact Or.inr ⟨a, Finset.mem_insert_self _ _, min_eq_left h⟩
      · rw [min_eq_right h]
        rcases h4 with h4 | ⟨x, hx, h4⟩
        · exact Or.inl h4
        · exact Or.inr ⟨x, Finset.mem_insert_of_mem hx, h4⟩

/-- The largest value of a row, taken as a fold from minus infinity, is the one at the first largest place. -/
theorem fold_max_top {n : ℕ} {f : Fin n → EReal} {k : Fin n} (hk : Top f k) (b : EReal) (hb : b = ⊥) :
    Finset.fold max b f Finset.univ = f k := by
  subst hb
  refine le_antisymm ?_ ?_
  · exact (Finset.fold_max_le _).2 ⟨bot_le, fun x _ => hk.1 x⟩
  · exact (Finset.le_fold_max _).2 (Or.inr ⟨k, Finset.mem_univ k, le_rfl⟩)

/-- The reading of the word of minus infinity. -/
theorem ofBits_negInf : Ideal.ofBits .f32 4286578688#32 = ⊥ := by
  simp [Ideal.ofBits, Ideal.ieee]

/-- The first column where a chunk's row has its largest value, as a fold. -/
theorem fold_arg {w off : ℕ} {f : Fin w → EReal} {k : Fin w} (hk : Top f k) (m : EReal) (hm : m = f k) (ho : off + w ≤ 20096) :
    Finset.fold IntOp.minsi 2147483647#32
      (fun x : Fin w => if f x = m then IntOp.addi (BitVec.ofNat 32 x.1) (BitVec.ofNat 32 off) else 20096#32) Finset.univ
      = BitVec.ofNat 32 (off + k.1) := by
  classical
  have hf : (fun x : Fin w => if f x = m then IntOp.addi (BitVec.ofNat 32 x.1) (BitVec.ofNat 32 off) else 20096#32)
      = fun x : Fin w => BitVec.ofNat 32 (if f x = m then off + x.1 else 20096) := by
    funext x
    split
    · rw [show IntOp.addi (BitVec.ofNat 32 x.1) (BitVec.ofNat 32 off) = BitVec.ofNat 32 x.1 + BitVec.ofNat 32 off from rfl,
        ← BitVec.ofNat_add, Nat.add_comm]
    · rfl
  rw [hf]
  obtain ⟨n, h1, h2, h3, h4⟩ := fold_minsi (Finset.univ : Finset (Fin w)) (fun x => if f x = m then off + x.1 else 20096)
    (fun x => by have := x.2; split <;> omega) 2147483647 (by norm_num)
  rw [show (2147483647#32) = BitVec.ofNat 32 2147483647 from rfl, h1]
  congr 1
  have hk3 := h3 k (Finset.mem_univ k)
  have hkl := k.2
  rw [if_pos hm.symm] at hk3
  rcases h4 with h4 | ⟨x, _, h4⟩
  · omega
  · by_cases hx : f x = m
    · rw [if_pos hx] at h4
      have : ¬ x < k := fun h => absurd (hk.2 x h) (by rw [hx, hm]; exact lt_irrefl _)
      have : k.1 ≤ x.1 := not_lt.1 this
      omega
    · rw [if_neg hx] at h4
      omega

end Cert.Asg
-- ==== Proof.Rank.lean ====
module

public import Idealize.ShloMosaic.Lib.SortPrefix
public import proofs.«01_k».proof.Proof.Argmax

@[expose] public section

/-!
Places of a row in the order of its values, greatest first and equal ones by place; the rounds and a stable
sort both go by it.
-/

noncomputable section

namespace Cert.Asg

open Idealize.ShloMosaic

variable {n : ℕ}

/-- Place `b` comes before place `a`. -/
def Before (f : Fin n → EReal) (b a : Fin n) : Prop := f a < f b ∨ f b = f a ∧ b < a

/-- How many places come before place `a`. -/
def rank (f : Fin n → EReal) (a : Fin n) : ℕ := by
  classical
  exact (Finset.univ.filter fun b => Before f b a).card

theorem Before.irrefl (f : Fin n → EReal) (a) : ¬Before f a a := by
  rintro (h | ⟨_, h⟩) <;> exact lt_irrefl _ h

theorem Before.trans {f : Fin n → EReal} {a b c} (h : Before f a b) (k : Before f b c) : Before f a c := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

theorem Before.total (f : Fin n → EReal) {a b} (h : a ≠ b) : Before f a b ∨ Before f b a := by
  rcases lt_trichotomy (f a) (f b) with k | k | k
  · exact Or.inr (Or.inl k)
  · rcases lt_or_gt_of_ne h with l | l
    · exact Or.inl (Or.inr ⟨k, l⟩)
    · exact Or.inr (Or.inr ⟨k.symm, l⟩)
  · exact Or.inl (Or.inl k)

/-- An earlier place has a smaller rank. -/
theorem rank_lt {f : Fin n → EReal} {a b} (h : Before f b a) : rank f b < rank f a := by
  classical
  unfold rank
  refine Finset.card_lt_card ⟨fun x hx => ?_, fun hs => ?_⟩
  · simp only [Finset.mem_filter, Finset.mem_univ, true_and] at hx ⊢
    exact hx.trans h
  · have := hs (show b ∈ Finset.univ.filter fun x => Before f x a by simpa using h)
    simp only [Finset.mem_filter, Finset.mem_univ, true_and] at this
    exact Before.irrefl f b this

/-- Different places have different ranks. -/
theorem rank_inj {f : Fin n → EReal} {a b} (h : rank f a = rank f b) : a = b := by
  by_contra hn
  rcases Before.total f hn with k | k
  · exact absurd h (rank_lt k).ne
  · exact absurd h (rank_lt k).ne'

/-- A place of a smaller rank comes before. -/
theorem before_of_rank {f : Fin n → EReal} {a b} (h : rank f b < rank f a) : Before f b a := by
  have hn : b ≠ a := fun e => by rw [e] at h; exact lt_irrefl _ h
  rcases Before.total f hn with k | k
  · exact k
  · exact absurd h (rank_lt k).not_gt

/-- The comparison of the sort. -/
def gtB (f : Fin n → EReal) (k k' : Fin n) : Bool := FloatOps.cmpfTotal (F := Ideal) (φ := .f32) .gt (f k) (f k') == 1#1

theorem gtB_iff (f : Fin n → EReal) (k k') : gtB f k k' = true ↔ f k' < f k := by
  unfold gtB
  show (BitVec.ofBool (decide _) == 1#1) = true ↔ _
  by_cases h : f k' < f k <;> simp [h]

/-- The order of places as a test. -/
def befB (f : Fin n → EReal) (k k' : Fin n) : Bool := @decide (Before f k k') (Classical.propDecidable _)

theorem befB_iff (f : Fin n → EReal) (k k') : befB f k k' = true ↔ Before f k k' := by
  exact @decide_eq_true_iff _ (Classical.propDecidable _)

/-- Sorting a list that stands in increasing order by the values alone keeps equal ones in order. -/
theorem sort_eq (f : Fin n → EReal) (l : List (Fin n)) (hl : l.Pairwise (· < ·)) : stableSort (gtB f) l = stableSort (befB f) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.1 hb)
    rw [Bool.eq_iff_iff, gtB_iff, befB_iff]
    constructor
    · exact Or.inl
    · rintro (h | ⟨_, h⟩)
      · exact h
      · exact absurd hab h.not_gt

/-- The order of places is a strict total one. -/
theorem befB_total (f : Fin n → EReal) : StrictTotalBefore (befB f) where
  irrefl a := by
    rw [← Bool.not_eq_true, befB_iff]; exact Before.irrefl f a
  trans a b c h k := by
    rw [befB_iff] at *; exact h.trans k
  total a b h := by
    rw [befB_iff, befB_iff]; exact Before.total f h

theorem exists_src (f : Fin n → EReal) : ∃ s : Fin n → Fin n, s = sortedFrom (gtB f) := ⟨_, rfl⟩

/-- Where the sort takes its `i`-th value from. -/
def src (f : Fin n → EReal) : Fin n → Fin n := Classical.choose (exists_src f)

theorem src_def (f : Fin n → EReal) : src f = sortedFrom (gtB f) := Classical.choose_spec (exists_src f)

theorem src_eq (f : Fin n → EReal) : src f = sortedFrom (befB f) := by
  rw [src_def]
  funext i
  unfold sortedFrom
  have h : sortPositions n (gtB f) = sortPositions n (befB f) := sort_eq f (List.finRange n) (List.pairwise_lt_finRange n)
  rw [List.get_of_eq h]
  rfl

/-- The sort takes its `i`-th value from the place of rank `i`. -/
theorem rank_src (f : Fin n → EReal) (i : Fin n) : rank f (src f i) = i.1 := by
  classical
  have hi : Function.Injective (src f) := by rw [src_eq]; exact sortedFrom_injective _
  have hs : Function.Surjective (src f) := by rw [src_eq]; exact sortedFrom_surjective _
  have ho : ∀ i j, i < j → Before f (src f i) (src f j) := by
    intro i j hij
    have h := sortedFrom_noInversion (befB f) (befB f) (fun a b h => (befB_total f).asymm a b h) (fun _ _ h => h) (befB_total f).negTrans i j hij
    rw [← src_eq, ← Bool.not_eq_true, befB_iff] at h
    exact (Before.total f (hi.ne hij.ne)).resolve_right h
  have : (Finset.univ.filter fun b => Before f b (src f i)) = (Finset.univ.filter fun j : Fin n => j < i).image (src f) := by
    ext b
    simp only [Finset.mem_filter, Finset.mem_univ, true_and, Finset.mem_image]
    constructor
    · intro hb
      obtain ⟨j, rfl⟩ := hs b
      refine ⟨j, ?_, rfl⟩
      rcases lt_trichotomy j i with h | h | h
      · exact h
      · subst h; exact absurd hb (Before.irrefl f _)
      · exact absurd (hb.trans (ho i j h)) (Before.irrefl f _)
    · rintro ⟨j, hj, rfl⟩
      exact ho j i hj
  unfold rank
  rw [this, Finset.card_image_of_injective _ hi]
  have h2 : (Finset.univ.filter fun j : Fin n => j < i) = Finset.Iio i := by ext; simp
  rw [h2, Fin.card_Iio]

theorem zero_sub_nonpos {x : EReal} (h : 0 ≤ x) : 0 - x ≤ 0 := by
  rw [zero_sub]
  exact EReal.neg_le_zero.2 h

/-- After `k` rounds the first `k` places stand negated. -/
theorem rounds_rank (f : Fin 20096 → EReal) (hf : ∀ a, 0 ≤ f a) (k : ℕ) (hk : k ≤ 20096) (a : Fin 20096) :
    nxt^[k] f a = if rank f a < k then 0 - f a else f a := by
  induction k generalizing a with
  | zero => rw [if_neg (Nat.not_lt_zero _)]; rfl
  | succ k ih =>
    have ih := ih (by omega)
    rw [Function.iterate_succ_apply']
    set h := nxt^[k] f with hh
    set a0 := src f ⟨k, by omega⟩ with ha0
    have hr : rank f a0 = k := rank_src f ⟨k, by omega⟩
    have h0 : h a0 = f a0 := by rw [ih, if_neg (by omega)]
    have hle : ∀ j, ¬rank f j < k → f j ≤ f a0 := by
      intro j hj
      by_cases e : j = a0
      · rw [e]
      · have : rank f a0 < rank f j := by
          have : rank f j ≠ k := fun e' => e (rank_inj (e'.trans hr.symm))
          omega
        rcases before_of_rank this with h | ⟨h, _⟩
        · exact h.le
        · exact h.ge
    rcases (hf a0).lt_or_eq with hp | hz
    · have ht : Top h a0 := by
        refine ⟨fun j => ?_, fun j hj => ?_⟩
        · rw [h0, ih]
          split
          · exact (zero_sub_nonpos (hf j)).trans hp.le
          · rename_i hj; exact hle j hj
        · rw [h0, ih]
          split
          · exact (zero_sub_nonpos (hf j)).trans_lt hp
          · rename_i hn
            have : rank f a0 < rank f j := by
              have : rank f j ≠ k := fun e' => hj.ne (rank_inj (e'.trans hr.symm))
              omega
            rcases before_of_rank this with h | ⟨_, h⟩
            · exact h
            · exact absurd hj h.not_gt
      have he : amax h = a0 := (amax_top h).unique ht
      unfold nxt
      rw [he]
      by_cases e : a = a0
      · rw [if_pos e, h0, e, if_pos (by omega)]
      · have hne : rank f a ≠ k := fun e' => e (rank_inj (e'.trans hr.symm))
        rw [if_neg e, ih]
        by_cases hc : rank f a < k
        · rw [if_pos hc, if_pos (by omega)]
        · rw [if_neg hc, if_neg (by omega)]
    · have hle0 : ∀ j, h j ≤ 0 := by
        intro j
        rw [ih]
        split
        · exact zero_sub_nonpos (hf j)
        · rename_i hj; rw [hz]; exact hle j hj
      have hm : h (amax h) = 0 := le_antisymm (hle0 _) (by
        have := (amax_top h).1 a0
        rwa [h0, ← hz] at this)
      have hn : nxt h a = h a := by
        unfold nxt
        split
        · rename_i e; rw [e, hm, sub_zero]
        · rfl
      rw [hn, ih]
      by_cases e : a = a0
      · rw [e, if_neg (by omega), if_pos (by omega), ← hz, sub_zero]
      · have hne : rank f a ≠ k := fun e' => e (rank_inj (e'.trans hr.symm))
        by_cases hc : rank f a < k
        · rw [if_pos hc, if_pos (by omega)]
        · rw [if_neg hc, if_neg (by omega)]

/-- A place is taken: it is among the first ten, and its value is not zero. -/
def Taken (f : Fin n → EReal) (a : Fin n) : Prop := 0 < f a ∧ rank f a < 10

/-- The places taken are the negative ones after ten rounds. -/
theorem rounds_neg (f : Fin 20096 → EReal) (hf : ∀ a, 0 ≤ f a) (a : Fin 20096) : nxt^[10] f a < 0 ↔ Taken f a := by
  rw [rounds_rank f hf 10 (by norm_num)]
  unfold Taken
  split
  · rename_i h
    rw [zero_sub, EReal.neg_lt_comm, neg_zero]
    exact ⟨fun k => ⟨k, h⟩, fun k => k.1⟩
  · rename_i h
    exact ⟨fun k => absurd k (hf a).not_gt, fun k => absurd k.2 h⟩

/-- The negative part after ten rounds is the value where the place is taken. -/
theorem rounds_part (f : Fin 20096 → EReal) (hf : ∀ a, 0 ≤ f a) (a : Fin 20096) [Decidable (Taken f a)] :
    max (0 - nxt^[10] f a) 0 = if Taken f a then f a else 0 := by
  rw [rounds_rank f hf 10 (by norm_num)]
  by_cases h : rank f a < 10
  · rw [if_pos h, zero_sub, zero_sub, neg_neg, max_eq_left (hf a)]
    by_cases k : 0 < f a
    · rw [if_pos ⟨k, h⟩]
    · rw [if_neg fun t => k t.1]; exact le_antisymm (not_lt.1 k) (hf a)
  · rw [if_neg h, if_neg fun t => h t.2, max_eq_right (zero_sub_nonpos (hf a))]

/-- Places added at the end with the value zero do not change which places are taken. -/
theorem taken_pad {m : ℕ} (hm : m ≤ n) (f : Fin n → EReal) (f' : Fin m → EReal) (h : ∀ a : Fin m, f (a.castLE hm) = f' a)
    (h0 : ∀ a : Fin n, m ≤ a.1 → f a = 0) (a : Fin m) : Taken f (a.castLE hm) ↔ Taken f' a := by
  classical
  unfold Taken
  rw [h]
  refine and_congr_right fun hp => ?_
  have : rank f (a.castLE hm) = rank f' a := by
    unfold rank
    refine Eq.symm (Finset.card_bij (fun b _ => Fin.castLE hm b) ?_ ?_ ?_)
    · intro b hb
      simp only [Finset.mem_filter, Finset.mem_univ, true_and] at hb ⊢
      unfold Before at *
      rw [h, h]
      exact hb
    · intro b _ c _ e; exact Fin.castLE_injective hm e
    · intro b hb
      simp only [Finset.mem_filter, Finset.mem_univ, true_and] at hb
      have hb' : b.1 < m := by
        by_contra hn
        have h1 := h0 b (by omega)
        rcases hb with hb | ⟨hb, _⟩
        · rw [h1, h] at hb; exact absurd hb hp.not_gt
        · rw [h1, h] at hb; exact absurd hb hp.ne
      refine ⟨⟨b.1, hb'⟩, ?_, Fin.ext rfl⟩
      simp only [Finset.mem_filter, Finset.mem_univ, true_and]
      unfold Before at *
      have e : f' ⟨b.1, hb'⟩ = f b := (h ⟨b.1, hb'⟩).symm
      rw [h] at hb
      rw [e]
      exact hb
  rw [this]

/-- Added places are not taken. -/
theorem not_taken_of_zero {f : Fin n → EReal} {a} (h : f a = 0) : ¬Taken f a := fun t => by
  have := t.1; rw [h] at this; exact lt_irrefl _ this

/-- The sort's first ten places with a value, marked one by one, are the places taken. -/
theorem sum_marks (f : Fin n → EReal) (hn : 10 ≤ n) (a : Fin n) [Decidable (Taken f a)] :
    (∑ k : Fin 10, if 0 < f (src f (k.castLE hn)) ∧ src f (k.castLE hn) = a then (1 : EReal) else 0) = if Taken f a then 1 else 0 := by
  classical
  by_cases t : Taken f a
  · rw [if_pos t]
    rw [Finset.sum_eq_single (⟨rank f a, t.2⟩ : Fin 10)]
    · have e : src f ((⟨rank f a, t.2⟩ : Fin 10).castLE hn) = a := rank_inj (f := f) (rank_src f _)
      rw [e, if_pos ⟨t.1, rfl⟩]
    · intro k _ hk
      refine if_neg fun h => hk (Fin.ext ?_)
      have := rank_src f (k.castLE hn)
      rw [h.2] at this
      exact this.symm
    · intro h; exact absurd (Finset.mem_univ _) h
  · rw [if_neg t]
    refine Finset.sum_eq_zero fun k _ => if_neg ?_
    rintro ⟨h1, h2⟩
    have := rank_src f (k.castLE hn)
    rw [h2] at this h1
    refine t ⟨h1, ?_⟩
    rw [this]
    exact k.2

/-- The sort's first value stands at the first largest place. -/
theorem src_zero_top (f : Fin n → EReal) (hn : 0 < n) : Top f (src f ⟨0, hn⟩) := by
  have hr := rank_src f ⟨0, hn⟩
  have hb : ∀ j, ¬Before f j (src f ⟨0, hn⟩) := fun j h => by
    have := rank_lt h; rw [hr] at this; exact absurd this (Nat.not_lt_zero _)
  refine ⟨fun j => not_lt.1 fun h => hb j (Or.inl h), fun j hj => lt_of_le_of_ne (not_lt.1 fun h => hb j (Or.inl h)) fun e => hb j (Or.inr ⟨e, hj⟩)⟩

end Cert.Asg
-- ==== Proof.RefOps.lean ====
module

public import proofs.«01_k».proof.Proof.Gen.ReferenceIdeal.Read
public import proofs.«01_k».proof.Proof.Rank
public import Idealize.ShloMosaic.Lib.Pointwise

@[expose] public section

/-!
The reference's operations that are not elementwise, at an index: the greatest values along the last axis, and the three gathers.
-/

noncomputable section

namespace Cert.Asg.Ref

open Idealize.ShloMosaic Cert.ReferenceIdeal Cert.ReferenceIdeal.Gen

/-- Position `j` of the greatest values stands where the stable sort has it. -/
theorem topK_at {p q n k : ℕ} (v : FVec Ideal ⟨3, ![p, q, n]⟩ .f32)
    (h : (⟨3, ![p, q, n]⟩ : Shape).Slices (fun _ => 0) ⟨3, ![p, q, k]⟩) (hk : k ≤ n) (b : Fin p) (g : Fin q) (j : Fin k) :
    (Host.topK ⟨3, ![p, q, k]⟩ 2 (FloatOps.cmpfTotal (F := Ideal) (φ := .f32) .gt) v h).1 (ix3 b g j)
        = v (ix3 b g (src (fun a => v (ix3 b g a)) (j.castLE hk)))
      ∧ (Host.topK ⟨3, ![p, q, k]⟩ 2 (FloatOps.cmpfTotal (F := Ideal) (φ := .f32) .gt) v h).2 (ix3 b g j)
        = BitVec.ofNat 32 (src (fun a => v (ix3 b g a)) (j.castLE hk)).1 := by
  have hal : ∀ k' : Fin n, (ix3 b g (j.castLE hk)).along (s := ⟨3, ![p, q, n]⟩) (2 : Fin 3) k' = ix3 b g k' := by
    intro k'
    funext x
    fin_cases x <;> rfl
  rw [src_def]
  have hi : (fun a : Fin 3 => (⟨0 + ((ix3 b g j : (⟨3, ![p, q, k]⟩ : Shape).Idx) (a.cast h.1.symm)).val,
      Nat.lt_of_lt_of_le (Nat.add_lt_add_left ((ix3 b g j : (⟨3, ![p, q, k]⟩ : Shape).Idx) _).isLt _) (h.2 a)⟩ : Fin (![p, q, n] a)))
      = ix3 b g (j.castLE hk) := by
    funext x
    refine Fin.ext ?_
    fin_cases x <;> exact Nat.zero_add _
  have hs : ∀ (y : IVec ⟨3, ![p, q, n]⟩ 32), (Host.sort2 ⟨3, ![p, q, n]⟩ 2 (fun l r => FloatOps.cmpfTotal (F := Ideal) (φ := .f32) .gt l.1 r.1) v y).1 (ix3 b g (j.castLE hk))
        = v (ix3 b g (sortedFrom (gtB fun a => v (ix3 b g a)) (j.castLE hk)))
      ∧ (Host.sort2 ⟨3, ![p, q, n]⟩ 2 (fun l r => FloatOps.cmpfTotal (F := Ideal) (φ := .f32) .gt l.1 r.1) v y).2 (ix3 b g (j.castLE hk))
        = y (ix3 b g (sortedFrom (gtB fun a => v (ix3 b g a)) (j.castLE hk))) := by
    intro y
    unfold Host.sort2
    rw [dif_pos (show 2 < (⟨3, ![p, q, n]⟩ : Shape).rank by norm_num)]
    dsimp only
    have e : (fun k k' : Fin n => FloatOps.cmpfTotal (F := Ideal) (φ := .f32) .gt
        (v ((ix3 b g (j.castLE hk)).along (s := ⟨3, ![p, q, n]⟩) (2 : Fin 3) k))
        (v ((ix3 b g (j.castLE hk)).along (s := ⟨3, ![p, q, n]⟩) (2 : Fin 3) k')) == 1#1) = gtB fun a => v (ix3 b g a) := by
      funext k k'
      rw [hal, hal]
      rfl
    constructor
    · refine (congrArg v (hal _)).trans (congrArg (fun t => v (ix3 b g t)) ?_)
      exact congrArg (fun B => sortedFrom B (j.castLE hk)) e
    · refine (congrArg y (hal _)).trans (congrArg (fun t => y (ix3 b g t)) ?_)
      exact congrArg (fun B => sortedFrom B (j.castLE hk)) e
  constructor
  · refine Eq.trans ?_ (hs fun i => BitVec.ofNat 32 (i 2).val).1
    exact congrArg (Host.sort2 ⟨3, ![p, q, n]⟩ 2 (fun l r => FloatOps.cmpfTotal (F := Ideal) (φ := .f32) .gt l.1 r.1) v
      fun i => BitVec.ofNat 32 (i 2).val).1 hi
  · refine Eq.trans ?_ (hs fun i => BitVec.ofNat 32 (i 2).val).2
    exact congrArg (Host.sort2 ⟨3, ![p, q, n]⟩ 2 (fun l r => FloatOps.cmpfTotal (F := Ideal) (φ := .f32) .gt l.1 r.1) v
      fun i => BitVec.ofNat 32 (i 2).val).2 hi

variable {α : Type}

/-- The scores taken at each box's class. -/
theorem gather_score (x : S8x20000x80.Idx → α) (idx : IVec S8x100x1 32) (b : Fin 8) (a : Fin 20000) (g : Fin 100) :
    Host.gather gather_S8x20000x80_S8x100x1_S8x20000x100_1_2_0_0_2_2_1200001 x idx (ix3 b a g)
      = x (ix3 b a ⟨min (idx (ix3 b g 0)).toInt.toNat 79, by omega⟩) := by
  set d := gather_S8x20000x80_S8x100x1_S8x20000x100_1_2_0_0_2_2_1200001 with hd
  unfold Host.gather
  refine congrArg x ?_
  funext c
  refine Fin.ext ?_
  show d.start (ix3 b a g) idx c + d.batchCoord (ix3 b a g) c + d.offCoord (ix3 b a g) c = _
  match c with
  | ⟨0, h⟩ =>
    rw [GatherDims.start_batching _ _ _ _ (by rw [hd]; decide +kernel +revert), GatherDims.offCoord_eq_zero _ _ _ (by rw [hd]; decide +kernel +revert)]
    rw [Nat.zero_add, Nat.add_zero]
    rfl
  | ⟨1, h⟩ =>
    rw [GatherDims.batchCoord_eq_zero _ _ _ (by rw [hd]; decide +kernel +revert)]
    have : d.start (ix3 b a g) idx ⟨1, h⟩ = 0 := by
      unfold GatherDims.start; rw [dif_neg (by rw [hd]; decide +kernel +revert)]
    rw [this, Nat.zero_add]
    rfl
  | ⟨2, h⟩ =>
    rw [GatherDims.batchCoord_eq_zero _ _ _ (by rw [hd]; decide +kernel +revert), GatherDims.offCoord_eq_zero _ _ _ (by rw [hd]; decide +kernel +revert)]
    rw [Nat.add_zero]
    unfold GatherDims.start
    rw [dif_pos (by rw [hd]; decide +kernel +revert)]
    have hsi : d.siIdx (ix3 b a g) ⟨List.idxOf (⟨2, h⟩ : Fin 3) d.startIndexMap, List.idxOf_lt_length_iff.2 (by rw [hd]; decide +kernel +revert)⟩ = ix3 b g 0 := by
      funext e; refine Fin.ext ?_
      fin_cases e <;> rfl
    rw [hsi]
    rfl

/-- A box's row taken at each anchor's box. -/
theorem gather_box (x : S8x100x4.Idx → α) (idx : IVec S8x20000x1 32) (b : Fin 8) (a : Fin 20000) (k : Fin 4) :
    Host.gather gather_S8x100x4_S8x20000x1_S8x20000x4_2_1_0_0_1_2_114 x idx (ix3 b a k)
      = x (ix3 b ⟨min (idx (ix3 b a 0)).toInt.toNat 99, by omega⟩ k) := by
  set d := gather_S8x100x4_S8x20000x1_S8x20000x4_2_1_0_0_1_2_114 with hd
  unfold Host.gather
  refine congrArg x ?_
  funext c
  refine Fin.ext ?_
  show d.start (ix3 b a k) idx c + d.batchCoord (ix3 b a k) c + d.offCoord (ix3 b a k) c = _
  match c with
  | ⟨0, h⟩ =>
    rw [GatherDims.start_batching _ _ _ _ (by rw [hd]; decide +kernel +revert), GatherDims.offCoord_eq_zero _ _ _ (by rw [hd]; decide +kernel +revert)]
    rw [Nat.zero_add, Nat.add_zero]
    rfl
  | ⟨2, h⟩ =>
    rw [GatherDims.batchCoord_eq_zero _ _ _ (by rw [hd]; decide +kernel +revert)]
    have : d.start (ix3 b a k) idx ⟨2, h⟩ = 0 := by
      unfold GatherDims.start; rw [dif_neg (by rw [hd]; decide +kernel +revert)]
    rw [this, Nat.zero_add]
    rfl
  | ⟨1, h⟩ =>
    rw [GatherDims.batchCoord_eq_zero _ _ _ (by rw [hd]; decide +kernel +revert), GatherDims.offCoord_eq_zero _ _ _ (by rw [hd]; decide +kernel +revert)]
    rw [Nat.add_zero]
    unfold GatherDims.start
    rw [dif_pos (by rw [hd]; decide +kernel +revert)]
    have hsi : d.siIdx (ix3 b a k) ⟨List.idxOf (⟨1, h⟩ : Fin 3) d.startIndexMap, List.idxOf_lt_length_iff.2 (by rw [hd]; decide +kernel +revert)⟩ = ix3 b a 0 := by
      funext e; refine Fin.ext ?_
      fin_cases e <;> rfl
    rw [hsi]
    rfl

/-- A box's class taken at each anchor's box. -/
theorem gather_label (x : S8x100.Idx → α) (idx : IVec S8x20000x1 32) (b : Fin 8) (a : Fin 20000) :
    Host.gather gather_S8x100_S8x20000x1_S8x20000_n_1_0_0_1_2_11 x idx (ix2 b a)
      = x (ix2 b ⟨min (idx (ix3 b a 0)).toInt.toNat 99, by omega⟩) := by
  set d := gather_S8x100_S8x20000x1_S8x20000_n_1_0_0_1_2_11 with hd
  unfold Host.gather
  refine congrArg x ?_
  funext c
  refine Fin.ext ?_
  show d.start (ix2 b a) idx c + d.batchCoord (ix2 b a) c + d.offCoord (ix2 b a) c = _
  match c with
  | ⟨0, h⟩ =>
    rw [GatherDims.start_batching _ _ _ _ (by rw [hd]; decide +kernel +revert), GatherDims.offCoord_eq_zero _ _ _ (by rw [hd]; decide +kernel +revert)]
    rw [Nat.zero_add, Nat.add_zero]
    rfl
  | ⟨1, h⟩ =>
    rw [GatherDims.batchCoord_eq_zero _ _ _ (by rw [hd]; decide +kernel +revert), GatherDims.offCoord_eq_zero _ _ _ (by rw [hd]; decide +kernel +revert)]
    rw [Nat.add_zero]
    unfold GatherDims.start
    rw [dif_pos (by rw [hd]; decide +kernel +revert)]
    have hsi : d.siIdx (ix2 b a) ⟨List.idxOf (⟨1, h⟩ : Fin 2) d.startIndexMap, List.idxOf_lt_length_iff.2 (by rw [hd]; decide +kernel +revert)⟩ = ix3 b a 0 := by
      funext e; refine Fin.ext ?_
      fin_cases e <;> rfl
    rw [hsi]
    rfl

/-- A fold of "and" over an axis of length one. -/
theorem and_one (r : BitVec 1) (v : Fin 1 → BitVec 1) : Finset.univ.fold IntOp.andi r v = IntOp.andi (v 0) r := by
  rw [Finset.univ_unique, Finset.fold_singleton]
  rfl

/-- A fold of "and" over an axis of length two. -/
theorem and_two (r : BitVec 1) (v : Fin 2 → BitVec 1) : Finset.univ.fold IntOp.andi r v = IntOp.andi (v 0) (IntOp.andi (v 1) r) := by
  rw [show (Finset.univ : Finset (Fin 2)) = insert 0 {1} from rfl, Finset.fold_insert (by decide), Finset.fold_singleton]

/-- Greatest over the middle axis. -/
theorem max_mid (v : FVec Ideal S8x100x20000 .f32) (c : FVec Ideal S_ .f32) (b : Fin 8) (a : Fin 20000) :
    Host.reduce (FloatOps.maximumf (F := Ideal) (φ := .f32)) v c reducesTo_S8x100x20000_S8x20000_d1 h_S_ (ix2 b a)
      = Finset.univ.fold max (c (Shape.Idx.first h_S_)) fun g : Fin 100 => v (ix3 b g a) := by
  simp only [pointwise]

/-- Greatest over the last axis. -/
theorem max_last (v : FVec Ideal S8x100x20000 .f32) (c : FVec Ideal S_ .f32) (b : Fin 8) (g : Fin 100) :
    Host.reduce (FloatOps.maximumf (F := Ideal) (φ := .f32)) v c reducesTo_S8x100x20000_S8x100_d2 h_S_ (ix2 b g)
      = Finset.univ.fold max (c (Shape.Idx.first h_S_)) fun a : Fin 20000 => v (ix3 b g a) := by
  simp only [pointwise]

theorem and_idx (v : IVec S8x100x1 1) (c : IVec S_ 1) (b : Fin 8) (g : Fin 100) :
    Host.reduce IntOp.andi v c reducesTo_S8x100x1_S8x100_d2 h_S_ (ix2 b g) = IntOp.andi (v (ix3 b g 0)) (c (Shape.Idx.first h_S_)) := by
  simp only [pointwise]
  exact and_one _ _

theorem and_anchor (v : IVec S8x20000x1 1) (c : IVec S_ 1) (b : Fin 8) (a : Fin 20000) :
    Host.reduce IntOp.andi v c reducesTo_S8x20000x1_S8x20000_d2 h_S_ (ix2 b a) = IntOp.andi (v (ix3 b a 0)) (c (Shape.Idx.first h_S_)) := by
  simp only [pointwise]
  exact and_one _ _

theorem and_box (v : IVec S8x100x20000x2 1) (c : IVec S_ 1) (b : Fin 8) (g : Fin 100) (a : Fin 20000) :
    Host.reduce IntOp.andi v c reducesTo_S8x100x20000x2_S8x100x20000_d3 h_S_ (ix3 b g a)
      = IntOp.andi (v (ix4 b g a 0)) (IntOp.andi (v (ix4 b g a 1)) (c (Shape.Idx.first h_S_))) := by
  simp only [pointwise]
  exact and_two _ _

end Cert.Asg.Ref
-- ==== Proof.RefMetric.lean ====
module

public import proofs.«01_k».proof.Proof.RefCiou
public import proofs.«01_k».proof.Proof.RefOps

@[expose] public section

/-!
The reference's alignment metric at an index, for scores that are not negative, labels that name classes and no box masked.
-/

noncomputable section

namespace Cert.Asg.Ref

open Idealize.ShloMosaic Cert.ReferenceIdeal Cert.ReferenceIdeal.Gen Cert.ReferenceIdeal.Read

/-- The reference's arguments, and the number of each box's class. -/
structure Arg where
  x0 : FVec Ideal S8x20000x80 .f32
  x1 : FVec Ideal S8x20000x4 .f32
  x2 : FVec Ideal S20000x2 .f32
  x3 : IVec S8x100 32
  x4 : FVec Ideal S8x100x4 .f32
  x5 : IVec S8x100x1 1
  lab : Fin 8 → Fin 100 → Fin 80
  pos : ∀ i, (0 : EReal) ≤ x0 i
  label : ∀ b g, x3 (ix2 b g) = BitVec.ofNat 32 (lab b g).1
  mask : ∀ i, x5 i = 1#1

variable (R : Arg) (b : Fin 8) (g : Fin 100) (a : Fin 20000)

/-- The overlap score of a box and an anchor. -/
def Arg.ciou (g : Fin 100) (a : Fin 20000) : EReal :=
  ciouF (R.x4 (ix3 b g 0)) (R.x4 (ix3 b g 1)) (R.x4 (ix3 b g 2)) (R.x4 (ix3 b g 3))
    (R.x1 (ix3 b a 0)) (R.x1 (ix3 b a 1)) (R.x1 (ix3 b a 2)) (R.x1 (ix3 b a 3))

/-- The alignment metric of a box and an anchor. -/
def Arg.met (g : Fin 100) (a : Fin 20000) : EReal :=
  Scalar.select (inBox (R.x4 (ix3 b g 0)) (R.x4 (ix3 b g 1)) (R.x4 (ix3 b g 2)) (R.x4 (ix3 b g 3)) (R.x2 (ix2 a 0)) (R.x2 (ix2 a 1)))
    (Ideal.sqrt (R.x0 (ix3 b a (R.lab b g))) * six (R.ciou b g a)) 0

theorem i_c5 : idx_main_call0_v5 (ix3 b g 0) = ix3 b 0 g := by
  have hb := b.2; have hg := g.2
  have h0 : ((b.1 * 100 + g.1) * 1 + 0) / 100 = b.1 := by omega
  have h1 : ((b.1 * 100 + g.1) * 1 + 0) % 100 = g.1 := by omega
  funext x
  fin_cases x
  · exact Fin.ext h0
  · rfl
  · refine Fin.ext ?_
    first
      | exact h1
      | (show ((b.1 * 100 + g.1) * 1 + 0) / 1 % 100 = g.1; omega)

theorem i_v0 : idx_main_v0 (ix3 b 0 g) = ix2 b g := by funext x; fin_cases x <;> rfl

/-- A class number is left as it is. -/
theorem a_c5 : val_main_call0_v5 (F := Ideal) R.x3 (ix3 b g 0) = BitVec.ofNat 32 (R.lab b g).1 := by
  simp only [val_main_call0_v5_apply, i_c5, val_main_call0_v4_apply, val_main_call0_v3_apply, val_main_call0_v2_apply,
    val_main_call0_v1_apply, val_main_call0_v0_apply, val_main_v2_apply, val_main_v1_apply, val_main_v0_apply, i_v0, R.label,
    val_main_c_apply, val_main_call0_c_apply, val_main_call0_c_0_apply]
  generalize R.lab b g = n
  revert n
  decide +kernel

/-- A class number is within the classes. -/
theorem a_c12 : val_main_call0_v12 (F := Ideal) R.x3 (ix2 b g) = 1#1 := by
  unfold val_main_call0_v12
  refine (and_idx _ _ _ _).trans ?_
  simp only [val_main_call0_v11_apply, val_main_call0_v10_apply, val_main_call0_v9_apply, val_main_call0_v8_apply, val_main_call0_v7_apply,
    val_main_call0_v6_apply, a_c5, val_main_call0_c_1_apply, val_main_call0_c_2_apply, val_main_call0_c_3_apply]
  generalize R.lab b g = n
  revert n
  decide +kernel

theorem i_v4 : idx_main_v4 (ix3 b g a) = ix3 b a g := by funext x; fin_cases x <;> rfl
theorem i_c14 : idx_main_call0_v14 (ix3 b a g) = ix2 b g := by funext x; fin_cases x <;> rfl

/-- A word of a class number, read signed. -/
theorem lab_nat (n : Fin 80) : (BitVec.ofNat 32 n.1).toInt.toNat = n.1 := by
  revert n; decide +kernel

/-- The score of a box's class at an anchor. -/
theorem a_v4 : val_main_v4 (F := Ideal) R.x0 R.x3 (ix3 b g a) = R.x0 (ix3 b a (R.lab b g)) := by
  simp only [val_main_v4_apply, i_v4, val_main_v3_apply, val_main_call0_v14_apply, i_c14, a_c12]
  unfold val_main_call0_v13
  rw [gather_score]
  have h : R.x0 (ix3 b a ⟨min (val_main_call0_v5 (F := Ideal) R.x3 (ix3 b g 0)).toInt.toNat 79, by omega⟩) = R.x0 (ix3 b a (R.lab b g)) := by
    refine congrArg (fun t => R.x0 (ix3 b a t)) (Fin.ext ?_)
    show min (val_main_call0_v5 (F := Ideal) R.x3 (ix3 b g 0)).toInt.toNat 79 = (R.lab b g).1
    rw [a_c5, lab_nat]
    have := (R.lab b g).2
    omega
  rw [h]
  rfl

/-- The power one half of a number that is not negative is its root. -/
theorem pow_half {x : EReal} (h : 0 ≤ x) : Ideal.pow x (Ideal.ofBits .f32 0x3F000000#32) = Ideal.sqrt x := by
  have hh : Ideal.ofBits .f32 0x3F000000#32 = ((1 / 2 : ℝ) : EReal) := by
    simp [Ideal.ofBits, Ideal.ieee, -EReal.coe_mul]; norm_num
  rw [hh]
  induction x using EReal.rec with
  | bot => exact absurd h (by simp)
  | top =>
    show (if (0 : EReal) < ((1 / 2 : ℝ) : EReal) then (⊤ : EReal) else _) = ⊤
    rw [if_pos (by exact_mod_cast (by norm_num : (0 : ℝ) < 1 / 2))]
  | coe r =>
    have hr : 0 ≤ r := by exact_mod_cast h
    show ((Real.rpow r (1 / 2) : ℝ) : EReal) = if r < 0 then ⊥ else (Real.sqrt r : EReal)
    rw [if_neg hr.not_gt, Real.sqrt_eq_rpow]
    rfl

theorem i_v193 (c : Fin 2) : idx_main_v193 (ix4 b g a c) = ix4 b g 0 c := by funext x; fin_cases x <;> rfl
theorem i_v194 (c : Fin 2) : idx_main_v194 (ix4 b g a c) = ix4 0 0 a c := by funext x; fin_cases x <;> rfl
theorem i_v199 (c : Fin 2) : idx_main_v199 (ix4 b g a c) = ix4 b g 0 c := by funext x; fin_cases x <;> rfl
theorem i_v200 (c : Fin 2) : idx_main_v200 (ix4 b g a c) = ix4 0 0 a c := by funext x; fin_cases x <;> rfl
theorem i_v191 (c : Fin 2) : idx_main_v191 (ix4 b g 0 c) = ix3 b g c := by funext x; fin_cases x <;> rfl
theorem i_v197 (c : Fin 2) : idx_main_v197 (ix4 b g 0 c) = ix3 b g c := by funext x; fin_cases x <;> rfl
theorem i_v192 (c : Fin 2) : idx_main_v192 (ix4 0 0 a c) = ix2 a c := by funext x; fin_cases x <;> rfl
theorem i_v198 (c : Fin 2) : idx_main_v198 (ix4 0 0 a c) = ix2 a c := by funext x; fin_cases x <;> rfl
theorem i_v190 (c : Fin 2) : idx_main_v190 (ix3 b g c) = ix3 b g (c.castLE (by norm_num)) := by funext x; fin_cases x <;> rfl
theorem i_v196 (c : Fin 2) : idx_main_v196 (ix3 b g c) = ix3 b g (c.natAdd 2) := by
  funext x
  fin_cases x
  · rfl
  · rfl
  · refine Fin.ext ?_
    first
      | rfl
      | exact Nat.add_comm _ _

/-- The anchor lies in the box. -/
theorem a_v203 : val_main_v203 (F := Ideal) R.x2 R.x4 (ix3 b g a) =
    inBox (R.x4 (ix3 b g 0)) (R.x4 (ix3 b g 1)) (R.x4 (ix3 b g 2)) (R.x4 (ix3 b g 3)) (R.x2 (ix2 a 0)) (R.x2 (ix2 a 1)) := by
  unfold val_main_v203
  refine (and_box _ _ _ _ _).trans ?_
  simp only [val_main_v202_apply, val_main_v201_apply, val_main_v200_apply, val_main_v199_apply, val_main_v198_apply, val_main_v197_apply,
    val_main_v196_apply, val_main_v195_apply, val_main_v194_apply, val_main_v193_apply, val_main_v192_apply, val_main_v191_apply,
    val_main_v190_apply, i_v190, i_v191, i_v192, i_v193, i_v194, i_v196, i_v197, i_v198, i_v199, i_v200, val_main_c_39_apply]
  have key : ∀ p q r s : BitVec 1, IntOp.andi (IntOp.andi p q) (IntOp.andi (IntOp.andi r s) 1#1) = IntOp.andi (IntOp.andi (IntOp.andi p q) r) s := by decide
  exact key _ _ _ _

theorem i_m11 : idx_main_call11_v1 (ix3 b g a) = ix3 b g 0 := by funext x; fin_cases x <;> rfl

/-- The reference's alignment metric. -/
theorem a_v204 : val_main_v204 (F := Ideal) R.x0 R.x1 R.x2 R.x3 R.x4 R.x5 (ix3 b g a) = R.met b g a := by
  simp only [val_main_v204_apply, a_v203, val_main_v189_apply, val_main_v188_apply, val_main_v187_apply, val_main_v186_apply, val_main_v185_apply,
    val_main_v184_apply, val_main_v183_apply, val_main_cst_37_apply, a_v4, a_v182, val_main_call11_v1_apply, R.mask]
  have hp : FloatOps.hostPowf (F := Ideal) (φ := .f32) (R.x0 (ix3 b a (R.lab b g))) (FloatOps.ofBits (F := Ideal) .f32 0x3F000000#32)
      = Ideal.sqrt (R.x0 (ix3 b a (R.lab b g))) := pow_half (R.pos _)
  rw [hp]
  have hz : val_main_call12_v1 (F := Ideal) (ix3 b g a) = (0 : EReal) := by
    simp only [val_main_call12_v1_apply, val_main_call12_v0_apply, val_main_cst_40_apply]
    exact Ideal.ofBits_zero_f32
  rw [hz]
  unfold Arg.met six
  rw [mul_assoc (R.ciou b g a * R.ciou b g a)]
  rfl

/-- The metric is not negative. -/
theorem met_nonneg : 0 ≤ R.met b g a := by
  unfold Arg.met Scalar.select
  split
  · have hsq : ∀ c : EReal, 0 ≤ c * c := fun c => by
      rcases le_total 0 c with h | h
      · exact mul_nonneg h h
      · rw [← neg_mul_neg]
        exact mul_nonneg (EReal.neg_nonneg.2 h) (EReal.neg_nonneg.2 h)
    refine mul_nonneg ?_ (mul_nonneg (mul_nonneg (hsq _) (hsq _)) (hsq _))
    have := R.pos (ix3 b a (R.lab b g))
    generalize R.x0 (ix3 b a (R.lab b g)) = x at this
    induction x using EReal.rec with
    | bot => exact absurd this (by simp)
    | top => exact le_top
    | coe r =>
      have hr : 0 ≤ r := by exact_mod_cast this
      show (0 : EReal) ≤ if r < 0 then ⊥ else (Real.sqrt r : EReal)
      rw [if_neg hr.not_gt]
      exact_mod_cast Real.sqrt_nonneg r
  · exact le_rfl

end Cert.Asg.Ref
-- ==== Proof.RefMatch.lean ====
module

public import proofs.«01_k».proof.Proof.RefMetric

@[expose] public section

/-!
The anchors the reference takes for each box, and what it keeps of the overlap scores and the metrics there.
-/

noncomputable section

namespace Cert.Asg.Ref

open Idealize.ShloMosaic Cert.ReferenceIdeal Cert.ReferenceIdeal.Gen Cert.ReferenceIdeal.Read

variable (R : Arg) (b : Fin 8) (g : Fin 100) (a : Fin 20000)

/-- The metrics of a box stand in the reference's array. -/
theorem row_v204 : (fun a => val_main_v204 (F := Ideal) R.x0 R.x1 R.x2 R.x3 R.x4 R.x5 (ix3 b g a)) = R.met b g :=
  funext fun a => a_v204 R b g a

/-- The anchor of place `k` in the order of a box's metrics, greatest first. -/
def Arg.cand (k : Fin 10) : Fin 20000 := src (R.met b g) (k.castLE (by norm_num))

theorem a_values (k : Fin 10) : val_main_values (F := Ideal) R.x0 R.x1 R.x2 R.x3 R.x4 R.x5 (ix3 b g k) = R.met b g (R.cand b g k) := by
  have h := (topK_at (val_main_v204 (F := Ideal) R.x0 R.x1 R.x2 R.x3 R.x4 R.x5) sliceFits_S8x100x20000_S8x100x10 (by norm_num) b g k).1
  rw [row_v204, a_v204] at h
  unfold Arg.cand val_main_values
  exact h

theorem a_indices (k : Fin 10) : val_main_indices (F := Ideal) R.x0 R.x1 R.x2 R.x3 R.x4 R.x5 (ix3 b g k) = BitVec.ofNat 32 (R.cand b g k).1 := by
  have h := (topK_at (val_main_v204 (F := Ideal) R.x0 R.x1 R.x2 R.x3 R.x4 R.x5) sliceFits_S8x100x20000_S8x100x10 (by norm_num) b g k).2
  rw [row_v204] at h
  unfold Arg.cand val_main_indices
  exact h

/-- The test against zero, as a bit. -/
theorem pos_bit (x : EReal) : FloatOps.cmpf (F := Ideal) (φ := .f32) .ogt x (FloatOps.ofBits (F := Ideal) .f32 0x00000000#32)
    = BitVec.ofBool (decide (0 < x)) := by
  have c1 : ∀ u v : EReal, FloatOps.cmpf (F := Ideal) (φ := .f32) .ogt u v = BitVec.ofBool (decide (v < u)) := fun _ _ => rfl
  have e : FloatOps.ofBits (F := Ideal) .f32 0x00000000#32 = (0 : EReal) := Ideal.ofBits_zero_f32
  rw [e, c1]

/-- A candidate's number, or minus one where its metric is zero, from the two arrays of the greatest values. -/
theorem a_v207_of (k : Fin 10) (x : EReal) (w : BitVec 32)
    (hx : val_main_values (F := Ideal) R.x0 R.x1 R.x2 R.x3 R.x4 R.x5 (ix3 b g k) = x)
    (hw : val_main_indices (F := Ideal) R.x0 R.x1 R.x2 R.x3 R.x4 R.x5 (ix3 b g k) = w) :
    val_main_v207 (F := Ideal) R.x0 R.x1 R.x2 R.x3 R.x4 R.x5 (ix3 b g k) =
      Scalar.select (BitVec.ofBool (decide (0 < x))) w 4294967295#32 := by
  rw [val_main_v207_apply, val_main_v206_apply, hx, hw, val_main_v205_apply, val_main_cst_41_apply,
    val_main_call13_v1_apply, val_main_call13_v0_apply, val_main_c_42_apply, pos_bit]

/-- A candidate's number, or minus one where its metric is zero. -/
theorem a_v207 (k : Fin 10) : val_main_v207 (F := Ideal) R.x0 R.x1 R.x2 R.x3 R.x4 R.x5 (ix3 b g k) =
    Scalar.select (BitVec.ofBool (decide (0 < R.met b g (R.cand b g k)))) (BitVec.ofNat 32 (R.cand b g k).1) 4294967295#32 :=
  a_v207_of R b g k _ _ (a_values R b g k) (a_indices R b g k)

/-- A place's mark: one where the candidate has a metric and is the anchor. -/
theorem mark (x : EReal) (s a : Fin 20000) :
    FloatOps.uitofp (F := Ideal) .f32 (IntOp.cmpi .eq (Scalar.select (BitVec.ofBool (decide (0 < x))) (BitVec.ofNat 32 s.1) 4294967295#32) (BitVec.ofNat 32 a.1))
      = if 0 < x ∧ s = a then (1 : EReal) else 0 := by
  have hs := s.2
  have ha := a.2
  have e1 : FloatOps.uitofp (F := Ideal) .f32 (1#1) = (1 : EReal) := by
    show (((1#1 : BitVec 1).toNat : ℝ) : EReal) = 1
    simp
  have e0 : FloatOps.uitofp (F := Ideal) .f32 (0#1) = (0 : EReal) := by
    show (((0#1 : BitVec 1).toNat : ℝ) : EReal) = 0
    simp
  have hc : ∀ u v : BitVec 32, IntOp.cmpi .eq u v = if u = v then 1#1 else 0#1 := by
    intro u v
    by_cases h : u = v
    · subst h; simp [IntOp.cmpi]
    · have : (u == v) = false := by simpa using h
      simp [IntOp.cmpi, h, this]
  have hn : ∀ n : ℕ, n < 20000 → (BitVec.ofNat 32 n).toNat = n := fun n h => by
    rw [BitVec.toNat_ofNat]; exact Nat.mod_eq_of_lt (by omega)
  by_cases hx : 0 < x
  · have e : Scalar.select (BitVec.ofBool (decide (0 < x))) (BitVec.ofNat 32 s.1) 4294967295#32 = BitVec.ofNat 32 s.1 := by
      simp [Scalar.select, hx]
    rw [e, hc]
    by_cases h : s = a
    · rw [if_pos (by rw [h]), if_pos ⟨hx, h⟩, e1]
    · rw [if_neg (fun k => h (Fin.ext (by have := congrArg BitVec.toNat k; rwa [hn _ hs, hn _ ha] at this))), if_neg (fun k => h k.2), e0]
  · have e : Scalar.select (BitVec.ofBool (decide (0 < x))) (BitVec.ofNat 32 s.1) 4294967295#32 = 4294967295#32 := by
      simp [Scalar.select, hx]
    rw [e, hc, if_neg (fun k => by
      have := congrArg BitVec.toNat k
      rw [hn _ ha] at this
      have h2 : (4294967295#32 : BitVec 32).toNat = 4294967295 := rfl
      omega), if_neg (fun k => hx k.1), e0]

/-- A candidate's mark at an anchor. -/
def Arg.mark (k : Fin 10) (a : Fin 20000) : EReal :=
  if 0 < R.met b g (R.cand b g k) ∧ R.cand b g k = a then 1 else 0

theorem i_v210 : idx_main_v210 (ix2 b g) = ix3 b g 0 := by
  have hb := b.2; have hg := g.2
  have h0 : (b.1 * 100 + g.1) / 100 = b.1 := by omega
  have h1 : (b.1 * 100 + g.1) / 1 % 100 = g.1 := by omega
  funext x
  fin_cases x
  · exact Fin.ext h0
  · exact Fin.ext h1
  · rfl
theorem i_h0 : idx_main_call14_v0 (ix3 b g 0) = ix2 b g := by funext x; fin_cases x <;> rfl
theorem i_h2 : idx_main_call14_v2 (ix3 b g a) = ix3 b g 0 := by funext x; fin_cases x <;> rfl
theorem i_h3 : idx_main_call14_v3 (ix3 b g a) = ix3 0 0 a := by funext x; fin_cases x <;> rfl

theorem i_v209 : idx_main_v209 (ix3 b g 0) = ix3 b g 0 := by funext x; fin_cases x <;> rfl

/-- The mark of candidate 0. -/
theorem a_v211 : val_main_v211 (F := Ideal) R.x0 R.x1 R.x2 R.x3 R.x4 R.x5 (ix3 b g a) = R.mark b g 0 a := by
  have h2 : idx_main_call14_v2 (ix3 b g a) = ix3 b g 0 := i_h2 b g a
  have h0 : idx_main_call14_v0 (ix3 b g 0) = ix2 b g := i_h0 b g
  have h3 : idx_main_call14_v3 (ix3 b g a) = ix3 0 0 a := i_h3 b g a
  have h1 : idx_main_v210 (ix2 b g) = ix3 b g 0 := i_v210 b g
  rw [val_main_v211_apply, val_main_call14_v4_apply, val_main_call14_v2_apply, h2, val_main_call14_v0_apply, h0,
    val_main_v210_apply, h1, val_main_v209_apply, i_v209, a_v207, val_main_call14_v3_apply, h3, val_main_call14_v1_apply]
  exact mark _ _ _

theorem i_v213 : idx_main_v213 (ix3 b g 0) = ix3 b g 1 := by funext x; fin_cases x <;> rfl

/-- The mark of candidate 1. -/
theorem a_v215 : val_main_v215 (F := Ideal) R.x0 R.x1 R.x2 R.x3 R.x4 R.x5 (ix3 b g a) = R.mark b g 1 a := by
  have h2 : idx_main_call15_v2 (ix3 b g a) = ix3 b g 0 := i_h2 b g a
  have h0 : idx_main_call15_v0 (ix3 b g 0) = ix2 b g := i_h0 b g
  have h3 : idx_main_call15_v3 (ix3 b g a) = ix3 0 0 a := i_h3 b g a
  have h1 : idx_main_v214 (ix2 b g) = ix3 b g 0 := i_v210 b g
  rw [val_main_v215_apply, val_main_call15_v4_apply, val_main_call15_v2_apply, h2, val_main_call15_v0_apply, h0,
    val_main_v214_apply, h1, val_main_v213_apply, i_v213, a_v207, val_main_call15_v3_apply, h3, val_main_call15_v1_apply]
  exact mark _ _ _

theorem i_v217 : idx_main_v217 (ix3 b g 0) = ix3 b g 2 := by funext x; fin_cases x <;> rfl

/-- The mark of candidate 2. -/
theorem a_v219 : val_main_v219 (F := Ideal) R.x0 R.x1 R.x2 R.x3 R.x4 R.x5 (ix3 b g a) = R.mark b g 2 a := by
  have h2 : idx_main_call16_v2 (ix3 b g a) = ix3 b g 0 := i_h2 b g a
  have h0 : idx_main_call16_v0 (ix3 b g 0) = ix2 b g := i_h0 b g
  have h3 : idx_main_call16_v3 (ix3 b g a) = ix3 0 0 a := i_h3 b g a
  have h1 : idx_main_v218 (ix2 b g) = ix3 b g 0 := i_v210 b g
  rw [val_main_v219_apply, val_main_call16_v4_apply, val_main_call16_v2_apply, h2, val_main_call16_v0_apply, h0,
    val_main_v218_apply, h1, val_main_v217_apply, i_v217, a_v207, val_main_call16_v3_apply, h3, val_main_call16_v1_apply]
  exact mark _ _ _

theorem i_v221 : idx_main_v221 (ix3 b g 0) = ix3 b g 3 := by funext x; fin_cases x <;> rfl

/-- The mark of candidate 3. -/
theorem a_v223 : val_main_v223 (F := Ideal) R.x0 R.x1 R.x2 R.x3 R.x4 R.x5 (ix3 b g a) = R.mark b g 3 a := by
  have h2 : idx_main_call17_v2 (ix3 b g a) = ix3 b g 0 := i_h2 b g a
  have h0 : idx_main_call17_v0 (ix3 b g 0) = ix2 b g := i_h0 b g
  have h3 : idx_main_call17_v3 (ix3 b g a) = ix3 0 0 a := i_h3 b g a
  have h1 : idx_main_v222 (ix2 b g) = ix3 b g 0 := i_v210 b g
  rw [val_main_v223_apply, val_main_call17_v4_apply, val_main_call17_v2_apply, h2, val_main_call17_v0_apply, h0,
    val_main_v222_apply, h1, val_main_v221_apply, i_v221, a_v207, val_main_call17_v3_apply, h3, val_main_call17_v1_apply]
  exact mark _ _ _

theorem i_v225 : idx_main_v225 (ix3 b g 0) = ix3 b g 4 := by funext x; fin_cases x <;> rfl

/-- The mark of candidate 4. -/
theorem a_v227 : val_main_v227 (F := Ideal) R.x0 R.x1 R.x2 R.x3 R.x4 R.x5 (ix3 b g a) = R.mark b g 4 a := by
  have h2 : idx_main_call18_v2 (ix3 b g a) = ix3 b g 0 := i_h2 b g a
  have h0 : idx_main_call18_v0 (ix3 b g 0) = ix2 b g := i_h0 b g
  have h3 : idx_main_call18_v3 (ix3 b g a) = ix3 0 0 a := i_h3 b g a
  have h1 : idx_main_v226 (ix2 b g) = ix3 b g 0 := i_v210 b g
  rw [val_main_v227_apply, val_main_call18_v4_apply, val_main_call18_v2_apply, h2, val_main_call18_v0_apply, h0,
    val_main_v226_apply, h1, val_main_v225_apply, i_v225, a_v207, val_main_call18_v3_apply, h3, val_main_call18_v1_apply]
  exact mark _ _ _

theorem i_v229 : idx_main_v229 (ix3 b g 0) = ix3 b g 5 := by funext x; fin_cases x <;> rfl

/-- The mark of candidate 5. -/
theorem a_v231 : val_main_v231 (F := Ideal) R.x0 R.x1 R.x2 R.x3 R.x4 R.x5 (ix3 b g a) = R.mark b g 5 a := by
  have h2 : idx_main_call19_v2 (ix3 b g a) = ix3 b g 0 := i_h2 b g a
  have h0 : idx_main_call19_v0 (ix3 b g 0) = ix2 b g := i_h0 b g
  have h3 : idx_main_call19_v3 (ix3 b g a) = ix3 0 0 a := i_h3 b g a
  have h1 : idx_main_v230 (ix2 b g) = ix3 b g 0 := i_v210 b g
  rw [val_main_v231_apply, val_main_call19_v4_apply, val_main_call19_v2_apply, h2, val_main_call19_v0_apply, h0,
    val_main_v230_apply, h1, val_main_v229_apply, i_v229, a_v207, val_main_call19_v3_apply, h3, val_main_call19_v1_apply]
  exact mark _ _ _

theorem i_v233 : idx_main_v233 (ix3 b g 0) = ix3 b g 6 := by funext x; fin_cases x <;> rfl

/-- The mark of candidate 6. -/
theorem a_v235 : val_main_v235 (F := Ideal) R.x0 R.x1 R.x2 R.x3 R.x4 R.x5 (ix3 b g a) = R.mark b g 6 a := by
  have h2 : idx_main_call20_v2 (ix3 b g a) = ix3 b g 0 := i_h2 b g a
  have h0 : idx_main_call20_v0 (ix3 b g 0) = ix2 b g := i_h0 b g
  have h3 : idx_main_call20_v3 (ix3 b g a) = ix3 0 0 a := i_h3 b g a
  have h1 : idx_main_v234 (ix2 b g) = ix3 b g 0 := i_v210 b g
  rw [val_main_v235_apply, val_main_call20_v4_apply, val_main_call20_v2_apply, h2, val_main_call20_v0_apply, h0,
    val_main_v234_apply, h1, val_main_v233_apply, i_v233, a_v207, val_main_call20_v3_apply, h3, val_main_call20_v1_apply]
  exact mark _ _ _

theorem i_v237 : idx_main_v237 (ix3 b g 0) = ix3 b g 7 := by funext x; fin_cases x <;> rfl

/-- The mark of candidate 7. -/
theorem a_v239 : val_main_v239 (F := Ideal) R.x0 R.x1 R.x2 R.x3 R.x4 R.x5 (ix3 b g a) = R.mark b g 7 a := by
  have h2 : idx_main_call21_v2 (ix3 b g a) = ix3 b g 0 := i_h2 b g a
  have h0 : idx_main_call21_v0 (ix3 b g 0) = ix2 b g := i_h0 b g
  have h3 : idx_main_call21_v3 (ix3 b g a) = ix3 0 0 a := i_h3 b g a
  have h1 : idx_main_v238 (ix2 b g) = ix3 b g 0 := i_v210 b g
  rw [val_main_v239_apply, val_main_call21_v4_apply, val_main_call21_v2_apply, h2, val_main_call21_v0_apply, h0,
    val_main_v238_apply, h1, val_main_v237_apply, i_v237, a_v207, val_main_call21_v3_apply, h3, val_main_call21_v1_apply]
  exact mark _ _ _

theorem i_v241 : idx_main_v241 (ix3 b g 0) = ix3 b g 8 := by funext x; fin_cases x <;> rfl

/-- The mark of candidate 8. -/
theorem a_v243 : val_main_v243 (F := Ideal) R.x0 R.x1 R.x2 R.x3 R.x4 R.x5 (ix3 b g a) = R.mark b g 8 a := by
  have h2 : idx_main_call22_v2 (ix3 b g a) = ix3 b g 0 := i_h2 b g a
  have h0 : idx_main_call22_v0 (ix3 b g 0) = ix2 b g := i_h0 b g
  have h3 : idx_main_call22_v3 (ix3 b g a) = ix3 0 0 a := i_h3 b g a
  have h1 : idx_main_v242 (ix2 b g) = ix3 b g 0 := i_v210 b g
  rw [val_main_v243_apply, val_main_call22_v4_apply, val_main_call22_v2_apply, h2, val_main_call22_v0_apply, h0,
    val_main_v242_apply, h1, val_main_v241_apply, i_v241, a_v207, val_main_call22_v3_apply, h3, val_main_call22_v1_apply]
  exact mark _ _ _

theorem i_v245 : idx_main_v245 (ix3 b g 0) = ix3 b g 9 := by funext x; fin_cases x <;> rfl

/-- The mark of candidate 9. -/
theorem a_v247 : val_main_v247 (F := Ideal) R.x0 R.x1 R.x2 R.x3 R.x4 R.x5 (ix3 b g a) = R.mark b g 9 a := by
  have h2 : idx_main_call23_v2 (ix3 b g a) = ix3 b g 0 := i_h2 b g a
  have h0 : idx_main_call23_v0 (ix3 b g 0) = ix2 b g := i_h0 b g
  have h3 : idx_main_call23_v3 (ix3 b g a) = ix3 0 0 a := i_h3 b g a
  have h1 : idx_main_v246 (ix2 b g) = ix3 b g 0 := i_v210 b g
  rw [val_main_v247_apply, val_main_call23_v4_apply, val_main_call23_v2_apply, h2, val_main_call23_v0_apply, h0,
    val_main_v246_apply, h1, val_main_v245_apply, i_v245, a_v207, val_main_call23_v3_apply, h3, val_main_call23_v1_apply]
  exact mark _ _ _

/-- Ten terms added one after the other. -/
theorem sum_ten (m : Fin 10 → EReal) : 0 + m 0 + m 1 + m 2 + m 3 + m 4 + m 5 + m 6 + m 7 + m 8 + m 9 = ∑ k, m k := by
  iterate 10 rw [Fin.sum_univ_castSucc]
  rw [Fin.sum_univ_zero]
  rfl

open Classical in
/-- The reference marks the places taken. -/
theorem a_v248 : val_main_v248 (F := Ideal) R.x0 R.x1 R.x2 R.x3 R.x4 R.x5 (ix3 b g a) = if Taken (R.met b g) a then (1 : EReal) else 0 := by
  simp only [val_main_v212_apply, val_main_v216_apply, val_main_v220_apply, val_main_v224_apply, val_main_v228_apply, val_main_v232_apply, val_main_v236_apply, val_main_v240_apply, val_main_v244_apply, val_main_v248_apply, a_v211, a_v215, a_v219, a_v223, a_v227, a_v231, a_v235, a_v239, a_v243, a_v247,
    val_main_v208_apply, val_main_cst_43_apply]
  have hz : FloatOps.ofBits (F := Ideal) .f32 0x00000000#32 = (0 : EReal) := Ideal.ofBits_zero_f32
  rw [hz]
  refine (sum_ten fun k => R.mark b g k a).trans ?_
  refine Eq.trans ?_ (sum_marks (R.met b g) (by norm_num) a)
  refine Finset.sum_congr rfl fun k _ => ?_
  unfold Arg.mark Arg.cand
  split <;> first | rfl | (split <;> first | rfl | contradiction)

open Classical in
/-- The overlap score where the place is taken, zero elsewhere. -/
def Arg.over (g : Fin 100) (a : Fin 20000) : EReal := if Taken (R.met b g) a then R.ciou b g a else 0

open Classical in
/-- The metric where the place is taken, zero elsewhere. -/
def Arg.align (g : Fin 100) (a : Fin 20000) : EReal := if Taken (R.met b g) a then R.met b g a else 0

theorem a_v249 : val_main_v249 (F := Ideal) R.x0 R.x1 R.x2 R.x3 R.x4 R.x5 (ix3 b g a) = R.over b g a := by
  rw [val_main_v249_apply, a_v248, a_v182]
  show R.ciou b g a * _ = _
  unfold Arg.over
  split
  · rw [mul_one]
  · rw [mul_zero]

theorem a_v262 : val_main_v262 (F := Ideal) R.x0 R.x1 R.x2 R.x3 R.x4 R.x5 (ix3 b g a) = R.align b g a := by
  rw [val_main_v262_apply, a_v248, a_v204]
  show R.met b g a * _ = _
  unfold Arg.align
  split
  · rw [mul_one]
  · rw [mul_zero]

end Cert.Asg.Ref
-- ==== Proof.RefOut.lean ====
module

public import proofs.«01_k».proof.Proof.RefMatch

@[expose] public section

/-!
The reference's three results at an index.
-/

noncomputable section

namespace Cert.Asg.Ref

open Idealize.ShloMosaic Cert.ReferenceIdeal Cert.ReferenceIdeal.Gen Cert.ReferenceIdeal.Read

variable (R : Arg) (b : Fin 8) (g : Fin 100) (a : Fin 20000)

theorem i_v250 : idx_main_v250 (ix3 b a g) = ix3 b g a := by funext x; fin_cases x <;> rfl

theorem row_v250 : (fun g => val_main_v250 (F := Ideal) R.x0 R.x1 R.x2 R.x3 R.x4 R.x5 (ix3 b a g)) = fun g => R.over b g a := by
  funext g
  rw [val_main_v250_apply, i_v250, a_v249]

/-- The box of an anchor: the first of the greatest kept overlap score. -/
def Arg.best : Fin 100 := src (fun g => R.over b g a) ⟨0, by norm_num⟩

theorem best_top : Top (fun g => R.over b g a) (R.best b a) := src_zero_top _ _

theorem a_best : val_main_indices_45 (F := Ideal) R.x0 R.x1 R.x2 R.x3 R.x4 R.x5 (ix3 b a 0) = BitVec.ofNat 32 (R.best b a).1 := by
  have h := (topK_at (val_main_v250 (F := Ideal) R.x0 R.x1 R.x2 R.x3 R.x4 R.x5) sliceFits_S8x20000x100_S8x20000x1 (by norm_num) b a 0).2
  rw [row_v250] at h
  unfold Arg.best val_main_indices_45
  exact h

theorem i_v251 : idx_main_v251 (ix2 b a) = ix3 b a 0 := by
  have hb := b.2; have ha := a.2
  have h0 : (b.1 * 20000 + a.1) / 20000 = b.1 := by omega
  have h1 : (b.1 * 20000 + a.1) / 1 % 20000 = a.1 := by omega
  funext x
  fin_cases x
  · exact Fin.ext h0
  · exact Fin.ext h1
  · rfl

theorem a_v251 : val_main_v251 (F := Ideal) R.x0 R.x1 R.x2 R.x3 R.x4 R.x5 (ix2 b a) = BitVec.ofNat 32 (R.best b a).1 := by
  rw [val_main_v251_apply, i_v251, a_best]

/-- The number of a box is left as it is. -/
theorem wrap (n : Fin 100) : Scalar.select (IntOp.cmpi .slt (BitVec.ofNat 32 n.1) 0#32) (IntOp.addi (BitVec.ofNat 32 n.1) 100#32) (BitVec.ofNat 32 n.1)
    = BitVec.ofNat 32 n.1 := by
  revert n; decide +kernel

/-- The number of a box is within the boxes. -/
theorem within (n : Fin 100) : IntOp.andi (IntOp.andi (IntOp.cmpi .sge (BitVec.ofNat 32 n.1) 0#32) (IntOp.cmpi .sle (BitVec.ofNat 32 n.1) 99#32)) 1#1 = 1#1 := by
  revert n; decide +kernel

/-- The number of a box, read signed. -/
theorem box_nat (n : Fin 100) : (BitVec.ofNat 32 n.1).toInt.toNat = n.1 := by
  revert n; decide +kernel

theorem i_v255 : idx_main_v255 (ix3 b a 0) = ix2 b a := by funext x; fin_cases x <;> rfl

theorem a_w4 : val_main_call24_v4 (F := Ideal) R.x0 R.x1 R.x2 R.x3 R.x4 R.x5 (ix3 b a 0) = BitVec.ofNat 32 (R.best b a).1 := by
  rw [val_main_call24_v4_apply, val_main_call24_v1_apply, val_main_call24_v3_apply, val_main_v255_apply, i_v255, a_v251,
    val_main_call24_v0_apply, val_main_call24_c_apply, val_main_call24_v2_apply, val_main_call24_c_0_apply]
  exact wrap _

theorem a_w11 : val_main_call24_v11 (F := Ideal) R.x0 R.x1 R.x2 R.x3 R.x4 R.x5 (ix2 b a) = 1#1 := by
  unfold val_main_call24_v11
  refine (and_anchor _ _ _ _).trans ?_
  rw [val_main_call24_v10_apply, val_main_call24_v9_apply, val_main_call24_v6_apply, a_w4, val_main_call24_v5_apply, val_main_call24_c_2_apply,
    val_main_call24_v8_apply, val_main_call24_v7_apply, val_main_call24_c_1_apply, val_main_call24_c_3_apply]
  exact within _

theorem i_w13 (k : Fin 4) : idx_main_call24_v13 (ix3 b a k) = ix2 b a := by funext x; fin_cases x <;> rfl

/-- The coordinates of an anchor's box. -/
theorem a_v256 (k : Fin 4) : val_main_v256 (F := Ideal) R.x0 R.x1 R.x2 R.x3 R.x4 R.x5 (ix3 b a k) = R.x4 (ix3 b (R.best b a) k) := by
  have h : val_main_call24_v12 (F := Ideal) R.x0 R.x1 R.x2 R.x3 R.x4 R.x5 (ix3 b a k) = R.x4 (ix3 b (R.best b a) k) := by
    unfold val_main_call24_v12
    refine (gather_box _ _ _ _ _).trans (congrArg (fun t => R.x4 (ix3 b t k)) (Fin.ext ?_))
    show min (val_main_call24_v4 (F := Ideal) R.x0 R.x1 R.x2 R.x3 R.x4 R.x5 (ix3 b a 0)).toInt.toNat 99 = (R.best b a).1
    rw [a_w4, box_nat]
    have := (R.best b a).2
    omega
  rw [val_main_v256_apply, val_main_call24_v13_apply, i_w13, a_w11, h]
  rfl

/-- The greatest kept overlap score of an anchor. -/
def Arg.top : EReal := Finset.univ.fold max (Ideal.ofBits .f32 4286578688#32) fun g => R.over b g a

theorem a_v252 : val_main_v252 (F := Ideal) R.x0 R.x1 R.x2 R.x3 R.x4 R.x5 (ix2 b a) = R.top b a := by
  unfold val_main_v252
  refine (max_mid _ _ _ _).trans ?_
  rw [val_main_cst_46_apply]
  unfold Arg.top
  refine congrArg (fun f => Finset.univ.fold max (Ideal.ofBits .f32 4286578688#32) f) ?_
  funext g
  exact a_v249 R b g a

theorem a_v254 : val_main_v254 (F := Ideal) R.x0 R.x1 R.x2 R.x3 R.x4 R.x5 (ix2 b a) = BitVec.ofBool (decide (0 < R.top b a)) := by
  rw [val_main_v254_apply, a_v252, val_main_v253_apply, val_main_cst_47_apply, pos_bit]

theorem sel (x : EReal) {α : Type} (u v : α) : Scalar.select (BitVec.ofBool (decide (0 < x))) u v = if 0 < x then u else v := by
  by_cases h : 0 < x <;> simp [Scalar.select, h]

theorem i_v257 : idx_main_v257 (ix3 b a 0) = ix2 b a := by funext x; fin_cases x <;> rfl
theorem i_x1 (k : Fin 4) : idx_main_call25_v1 (ix3 b a k) = ix3 b a 0 := by funext x; fin_cases x <;> rfl

/-- The first result: the anchor's box where it has one. -/
theorem a_v258 (k : Fin 4) : val_main_v258 (F := Ideal) R.x0 R.x1 R.x2 R.x3 R.x4 R.x5 (ix3 b a k) =
    if 0 < R.top b a then R.x4 (ix3 b (R.best b a) k) else Ideal.ofBits .f32 3212836864#32 := by
  rw [val_main_v258_apply, a_v256, val_main_call25_v1_apply, i_x1, val_main_v257_apply, i_v257, a_v254, val_main_call25_v2_apply,
    val_main_call25_v0_apply, val_main_cst_48_apply]
  exact sel _ _ _

theorem a_u4 : val_main_call26_v4 (F := Ideal) R.x0 R.x1 R.x2 R.x3 R.x4 R.x5 (ix2 b a) = BitVec.ofNat 32 (R.best b a).1 := by
  rw [val_main_call26_v4_apply, val_main_call26_v1_apply, val_main_call26_v3_apply, a_v251,
    val_main_call26_v0_apply, val_main_call26_c_apply, val_main_call26_v2_apply, val_main_call26_c_0_apply]
  exact wrap _

theorem i_u5 : idx_main_call26_v5 (ix3 b a 0) = ix2 b a := by
  have hb := b.2; have ha := a.2
  have h0 : ((b.1 * 20000 + a.1) * 1 + 0) / 20000 = b.1 := by omega
  have h1 : ((b.1 * 20000 + a.1) * 1 + 0) / 1 % 20000 = a.1 := by omega
  have h2 : ((b.1 * 20000 + a.1) * 1 + 0) % 20000 = a.1 := by omega
  funext x
  fin_cases x
  · exact Fin.ext h0
  · refine Fin.ext ?_
    first
      | exact h1
      | exact h2

theorem a_u5 : val_main_call26_v5 (F := Ideal) R.x0 R.x1 R.x2 R.x3 R.x4 R.x5 (ix3 b a 0) = BitVec.ofNat 32 (R.best b a).1 := by
  rw [val_main_call26_v5_apply, i_u5, a_u4]

theorem a_u12 : val_main_call26_v12 (F := Ideal) R.x0 R.x1 R.x2 R.x3 R.x4 R.x5 (ix2 b a) = 1#1 := by
  unfold val_main_call26_v12
  refine (and_anchor _ _ _ _).trans ?_
  rw [val_main_call26_v11_apply, val_main_call26_v10_apply, val_main_call26_v7_apply, a_u5, val_main_call26_v6_apply, val_main_call26_c_2_apply,
    val_main_call26_v9_apply, val_main_call26_v8_apply, val_main_call26_c_1_apply, val_main_call26_c_3_apply]
  exact within _

/-- The class of an anchor's box. -/
theorem a_v259 : val_main_v259 (F := Ideal) R.x0 R.x1 R.x2 R.x3 R.x4 R.x5 (ix2 b a) = BitVec.ofNat 32 (R.lab b (R.best b a)).1 := by
  have h : val_main_call26_v13 (F := Ideal) R.x0 R.x1 R.x2 R.x3 R.x4 R.x5 (ix2 b a) = BitVec.ofNat 32 (R.lab b (R.best b a)).1 := by
    unfold val_main_call26_v13
    refine (gather_label _ _ _ _).trans (Eq.trans (congrArg (fun t => R.x3 (ix2 b t)) (Fin.ext ?_)) (R.label b (R.best b a)))
    show min (val_main_call26_v5 (F := Ideal) R.x0 R.x1 R.x2 R.x3 R.x4 R.x5 (ix3 b a 0)).toInt.toNat 99 = (R.best b a).1
    rw [a_u5, box_nat]
    have := (R.best b a).2
    omega
  rw [val_main_v259_apply, a_u12, h]
  rfl

/-- The word of the class of an anchor's box, or of minus one. -/
theorem a_v260 : val_main_v260 (F := Ideal) R.x0 R.x1 R.x2 R.x3 R.x4 R.x5 (ix2 b a) =
    Scalar.select (BitVec.ofBool (decide (0 < R.top b a))) (BitVec.ofNat 32 (R.lab b (R.best b a)).1) 4294967295#32 := by
  rw [val_main_v260_apply, a_v254, a_v259, val_main_call27_v1_apply, val_main_call27_v0_apply, val_main_c_49_apply]

theorem i_o0 : idx_main_call28_v0 (ix3 b a 0) = ix2 b a := by funext x; fin_cases x <;> rfl
theorem i_o2 (k : Fin 80) : idx_main_call28_v2 (ix3 b a k) = ix3 b a 0 := by funext x; fin_cases x <;> rfl
theorem i_o3 (k : Fin 80) : idx_main_call28_v3 (ix3 b a k) = ix3 0 0 k := by funext x; fin_cases x <;> rfl

/-- The one-hot row of an anchor's class. -/
theorem a_v261 (k : Fin 80) : val_main_v261 (F := Ideal) R.x0 R.x1 R.x2 R.x3 R.x4 R.x5 (ix3 b a k) =
    if 0 < R.top b a ∧ R.lab b (R.best b a) = k then (1 : EReal) else 0 := by
  rw [val_main_v261_apply, val_main_call28_v4_apply, val_main_call28_v2_apply, i_o2, val_main_call28_v0_apply, i_o0, a_v260,
    val_main_call28_v3_apply, i_o3, val_main_call28_v1_apply]
  have h := mark (R.top b a) ((R.lab b (R.best b a)).castLE (by norm_num)) (k.castLE (by norm_num))
  refine Eq.trans h (if_congr (and_congr_right fun _ => ?_) rfl rfl)
  exact (Fin.castLE_injective _).eq_iff

/-- The greatest kept metric of a box. -/
def Arg.maxAlign : EReal := Finset.univ.fold max (Ideal.ofBits .f32 4286578688#32) (R.align b g)

/-- The greatest kept overlap score of a box. -/
def Arg.maxOver : EReal := Finset.univ.fold max (Ideal.ofBits .f32 4286578688#32) (R.over b g)

theorem a_v263 : val_main_v263 (F := Ideal) R.x0 R.x1 R.x2 R.x3 R.x4 R.x5 (ix2 b g) = R.maxAlign b g := by
  unfold val_main_v263
  refine (max_last _ _ _ _).trans ?_
  rw [val_main_cst_50_apply]
  unfold Arg.maxAlign
  refine congrArg (fun f => Finset.univ.fold max (Ideal.ofBits .f32 4286578688#32) f) ?_
  funext a
  exact a_v262 R b g a

theorem a_v265 : val_main_v265 (F := Ideal) R.x0 R.x1 R.x2 R.x3 R.x4 R.x5 (ix2 b g) = R.maxOver b g := by
  unfold val_main_v265
  refine (max_last _ _ _ _).trans ?_
  rw [val_main_cst_51_apply]
  unfold Arg.maxOver
  refine congrArg (fun f => Finset.univ.fold max (Ideal.ofBits .f32 4286578688#32) f) ?_
  funext a
  exact a_v249 R b g a

theorem i_v264 : idx_main_v264 (ix3 b g 0) = ix2 b g := by funext x; fin_cases x <;> rfl
theorem i_v266 : idx_main_v266 (ix3 b g 0) = ix2 b g := by funext x; fin_cases x <;> rfl
theorem i_v267 : idx_main_v267 (ix3 b g a) = ix3 b g 0 := by funext x; fin_cases x <;> rfl
theorem i_v271 : idx_main_v271 (ix3 b g a) = ix3 b g 0 := by funext x; fin_cases x <;> rfl

/-- A metric normalised by its box's greatest ones. -/
theorem a_v272 : val_main_v272 (F := Ideal) R.x0 R.x1 R.x2 R.x3 R.x4 R.x5 (ix3 b g a) =
    Ideal.div (R.align b g a * R.maxOver b g) (R.maxAlign b g + Ideal.ofBits .f32 814313567#32) := by
  rw [val_main_v272_apply, val_main_v268_apply, a_v262, val_main_v267_apply, i_v267, val_main_v266_apply, i_v266, a_v265,
    val_main_v271_apply, i_v271, val_main_v270_apply, val_main_v264_apply, i_v264, a_v263, val_main_v269_apply, val_main_cst_52_apply]
  rfl

/-- The greatest normalised metric of an anchor. -/
def Arg.norm : EReal := Finset.univ.fold max (Ideal.ofBits .f32 4286578688#32) fun g =>
  Ideal.div (R.align b g a * R.maxOver b g) (R.maxAlign b g + Ideal.ofBits .f32 814313567#32)

theorem a_v273 : val_main_v273 (F := Ideal) R.x0 R.x1 R.x2 R.x3 R.x4 R.x5 (ix2 b a) = R.norm b a := by
  unfold val_main_v273
  refine (max_mid _ _ _ _).trans ?_
  rw [val_main_cst_53_apply]
  unfold Arg.norm
  refine congrArg (fun f => Finset.univ.fold max (Ideal.ofBits .f32 4286578688#32) f) ?_
  funext g
  exact a_v272 R b g a

theorem i_v274 : idx_main_v274 (ix3 b a 0) = ix2 b a := by funext x; fin_cases x <;> rfl
theorem i_v275 (k : Fin 80) : idx_main_v275 (ix3 b a k) = ix3 b a 0 := by funext x; fin_cases x <;> rfl

/-- The second result: the one-hot row of the anchor's class times the greatest normalised metric. -/
theorem a_v276 (k : Fin 80) : val_main_v276 (F := Ideal) R.x0 R.x1 R.x2 R.x3 R.x4 R.x5 (ix3 b a k) =
    (if 0 < R.top b a ∧ R.lab b (R.best b a) = k then (1 : EReal) else 0) * R.norm b a := by
  rw [val_main_v276_apply, a_v261, val_main_v275_apply, i_v275, val_main_v274_apply, i_v274, a_v273]
  rfl

/-- The third result is one everywhere: the number of a box is never negative. -/
theorem a_v279 : val_main_v279 (F := Ideal) R.x0 R.x1 R.x2 R.x3 R.x4 R.x5 (ix2 b a) = (1 : EReal) := by
  rw [val_main_v279_apply, val_main_v278_apply, a_v251, val_main_v277_apply, val_main_c_54_apply]
  have h : ∀ n : Fin 100, IntOp.cmpi .sgt (BitVec.ofNat 32 n.1) 4294967295#32 = 1#1 := by decide +kernel
  rw [h]
  show (((1#1 : BitVec 1).toNat : ℝ) : EReal) = 1
  simp

end Cert.Asg.Ref
-- ==== Proof.Chunk.lean ====
module

public import Idealize.ShloMosaic.Lib.Pipeline.FrameBody
public import Idealize.ShloMosaic.Lib.Pointwise

@[expose] public section

/-!
What an array written in column chunks holds: the last chunk that covers a column gives its content.
-/

noncomputable section

namespace Cert.Asg

open Idealize.ShloMosaic

variable {Val : EltTy → Type} [∀ e, Nonempty (Val e)] {e : EltTy}

/-- A chunk of columns written last gives the content of its columns; the earlier writes give the others. -/
theorem canon_col {m n off w : ℕ} {inb : ∀ a, (![0, off] : Fin 2 → ℕ) a + (![m, w] : Fin 2 → ℕ) a ≤ (⟨2, ![m, n]⟩ : Shape).size a}
    (v : (Rect.unit (s := ⟨2, ![m, n]⟩) ![0, off] ![m, w] inb).shape.Idx → Val e) (L : List (View.Piece Val ⟨2, ![m, n]⟩ e))
    (f : Fin m → Fin n → Val e) (g : Fin m) (a : Fin n)
    (hv : ∀ (b : Fin w) (hb : off + b.1 < n), v (ix2 g b) = f g ⟨off + b.1, hb⟩)
    (hL : ¬(off ≤ a.1 ∧ a.1 < off + w) → View.canon L (ix2 g a) = f g a) :
    View.canon (⟨Rect.unit ![0, off] ![m, w] inb, v⟩ :: L) (ix2 g a) = f g a := by
  by_cases h : off ≤ a.1 ∧ a.1 < off + w
  · have hx : (ix2 g a : (⟨2, ![m, n]⟩ : Shape).Idx) =
        (Rect.unit (s := ⟨2, ![m, n]⟩) ![0, off] ![m, w] inb).emb (ix2 g ⟨a.1 - off, by omega⟩ : (⟨2, ![m, w]⟩ : Shape).Idx) := by
      funext i
      refine Fin.ext ?_
      match i with
      | ⟨0, _⟩ => show g.1 = 0 + 1 * g.1; omega
      | ⟨1, _⟩ => show a.1 = off + 1 * (a.1 - off); omega
    rw [hx, View.canon_cons_emb]
    have := hv ⟨a.1 - off, by omega⟩ (by show off + (a.1 - off) < n; omega)
    refine this.trans ?_
    congr 1
    exact Fin.ext (by show off + (a.1 - off) = a.1; omega)
  · rw [View.canon_cons_of_not_mem]
    · exact hL h
    · intro hm
      exact h ((Rect.mem_set_unit (s := ⟨2, ![m, n]⟩) (inb := inb) |>.1 hm) ⟨1, Nat.lt_add_one 1⟩)

/-- The same for a chunk of columns of a one-matrix stack. -/
theorem canon_col3 {m n off w : ℕ} {inb : ∀ a, (![0, 0, off] : Fin 3 → ℕ) a + (![1, m, w] : Fin 3 → ℕ) a ≤ (⟨3, ![1, m, n]⟩ : Shape).size a}
    (v : (Rect.unit (s := ⟨3, ![1, m, n]⟩) ![0, 0, off] ![1, m, w] inb).shape.Idx → Val e) (L : List (View.Piece Val ⟨3, ![1, m, n]⟩ e))
    (f : Fin m → Fin n → Val e) (g : Fin m) (a : Fin n)
    (hv : ∀ (b : Fin w) (hb : off + b.1 < n), v (ix3 0 g b) = f g ⟨off + b.1, hb⟩)
    (hL : ¬(off ≤ a.1 ∧ a.1 < off + w) → View.canon L (ix3 0 g a) = f g a) :
    View.canon (⟨Rect.unit ![0, 0, off] ![1, m, w] inb, v⟩ :: L) (ix3 0 g a) = f g a := by
  by_cases h : off ≤ a.1 ∧ a.1 < off + w
  · have hx : (ix3 0 g a : (⟨3, ![1, m, n]⟩ : Shape).Idx) =
        (Rect.unit (s := ⟨3, ![1, m, n]⟩) ![0, 0, off] ![1, m, w] inb).emb (ix3 0 g ⟨a.1 - off, by omega⟩ : (⟨3, ![1, m, w]⟩ : Shape).Idx) := by
      funext i
      refine Fin.ext ?_
      match i with
      | ⟨0, _⟩ => rfl
      | ⟨1, _⟩ => show g.1 = 0 + 1 * g.1; omega
      | ⟨2, _⟩ => show a.1 = off + 1 * (a.1 - off); omega
    rw [hx, View.canon_cons_emb]
    have := hv ⟨a.1 - off, by omega⟩ (by show off + (a.1 - off) < n; omega)
    refine this.trans ?_
    congr 1
    exact Fin.ext (by show off + (a.1 - off) = a.1; omega)
  · rw [View.canon_cons_of_not_mem]
    · exact hL h
    · intro hm
      exact h ((Rect.mem_set_unit (s := ⟨3, ![1, m, n]⟩) (inb := inb) |>.1 hm) ⟨2, Nat.lt_add_one 2⟩)

/-- A load of a chunk of columns reads the array's columns. -/
theorem readCov_col {sig : RefSig} {κ : Kind} {sp : Space} {m n off w : ℕ}
    {inb : ∀ a, (![0, off] : Fin 2 → ℕ) a + (![m, w] : Fin 2 → ℕ) a ≤ (⟨2, ![m, n]⟩ : Shape).size a}
    (v : View sig κ sp ⟨2, ![m, n]⟩ e) (L : List (View.Piece Val ⟨2, ![m, n]⟩ e)) (g : Fin m) (b : Fin w) (hb : off + b.1 < n) :
    v.readCov L (Rect.unit (s := ⟨2, ![m, n]⟩) ![0, off] ![m, w] inb).toLoadRect (ix2 g b) = View.canon L (ix2 g ⟨off + b.1, hb⟩) := by
  rw [View.readCov_eq_canon']
  refine congrArg (View.canon L) ?_
  funext i
  refine Fin.ext ?_
  match i with
  | ⟨0, _⟩ => show 0 + 1 * g.1 = g.1; omega
  | ⟨1, _⟩ => show off + 1 * b.1 = off + b.1; omega

/-- The same for a one-matrix stack. -/
theorem readCov_col3 {sig : RefSig} {κ : Kind} {sp : Space} {m n off w : ℕ}
    {inb : ∀ a, (![0, 0, off] : Fin 3 → ℕ) a + (![1, m, w] : Fin 3 → ℕ) a ≤ (⟨3, ![1, m, n]⟩ : Shape).size a}
    (v : View sig κ sp ⟨3, ![1, m, n]⟩ e) (L : List (View.Piece Val ⟨3, ![1, m, n]⟩ e)) (g : Fin m) (b : Fin w) (hb : off + b.1 < n) :
    v.readCov L (Rect.unit (s := ⟨3, ![1, m, n]⟩) ![0, 0, off] ![1, m, w] inb).toLoadRect (ix3 0 g b) = View.canon L (ix3 0 g ⟨off + b.1, hb⟩) := by
  rw [View.readCov_eq_canon']
  refine congrArg (View.canon L) ?_
  funext i
  refine Fin.ext ?_
  match i with
  | ⟨0, _⟩ => rfl
  | ⟨1, _⟩ => show 0 + 1 * g.1 = g.1; omega
  | ⟨2, _⟩ => show off + 1 * b.1 = off + b.1; omega

end Cert.Asg
-- ==== Proof.RoundDefs.lean ====
module

public import proofs.«01_k».proof.Proof.Gen.KernelIdeal.Frame
public import proofs.«01_k».proof.Proof.Chunk

@[expose] public section

/-!
One round of the kernel: it takes every row's largest value and its first column, and puts the value's negative there.
The array is read and stored in five chunks of columns.
-/

noncomputable section

namespace Cert.Asg

open Idealize.ShloMosaic Cert.KernelIdeal Cert.KernelIdeal.Gen

/-- What one block's run is given: its memory operands and what the input ones hold. -/
structure Inp where
  c : Dev nD
  arg1 : Memref sig .tc .vmem S1x80x20096 .f32
  harg1 : arg1.IsWhole
  arg2 : Memref sig .tc .vmem S1x4x20096 .f32
  harg2 : arg2.IsWhole
  arg3 : Memref sig .tc .vmem S2x20096 .f32
  harg3 : arg3.IsWhole
  arg4 : Memref sig .tc .vmem S1x1x100 .i32
  harg4 : arg4.IsWhole
  arg5 : Memref sig .tc .vmem S1x100x1 .i32
  harg5 : arg5.IsWhole
  arg6 : Memref sig .tc .vmem S1x100x4 .f32
  harg6 : arg6.IsWhole
  arg7 : Memref sig .tc .vmem S1x4x100 .f32
  harg7 : arg7.IsWhole
  arg8 : Memref sig .tc .vmem S1x4x20096 .f32
  arg9 : Memref sig .tc .vmem S1x80x20096 .f32
  arg10 : Memref sig .tc .vmem S1x1x20096 .f32
  arg11 : Memref sig .tc .vmem S100x20096 .f32
  arg12 : Memref sig .tc .vmem S100x20096 .f32
  arg13 : Memref sig .tc .vmem S100x1 .f32
  arg14 : Memref sig .tc .vmem S100x1 .f32
  arg15 : Memref sig .tc .vmem S1x20096 .f32
  x0 : Vec Ideal S1x80x20096 .f32
  x1 : Vec Ideal S1x4x20096 .f32
  x2 : Vec Ideal S2x20096 .f32
  x3 : Vec Ideal S1x1x100 .i32
  x4 : Vec Ideal S1x100x1 .i32
  x5 : Vec Ideal S1x100x4 .f32
  x6 : Vec Ideal S1x4x100 .f32

/-- The list of pieces of the metric array. -/
abbrev Pieces := List (View.Piece (Elt Ideal) S100x20096 .f32)

variable {ss : RefSig} {κ : Kind} {sp : Space}

/-- The rectangle of a chunk. -/
abbrev R0 : Rect S100x20096 := Rect.unit ![0, 0] S100x4096.size inb_S100x20096_S100x4096_0_0
/-- The rectangle of a chunk. -/
abbrev R1 : Rect S100x20096 := Rect.unit ![0, 4096] S100x4096.size inb_S100x20096_S100x4096_0_4096
/-- The rectangle of a chunk. -/
abbrev R2 : Rect S100x20096 := Rect.unit ![0, 8192] S100x4096.size inb_S100x20096_S100x4096_0_8192
/-- The rectangle of a chunk. -/
abbrev R3 : Rect S100x20096 := Rect.unit ![0, 12288] S100x4096.size inb_S100x20096_S100x4096_0_12288
/-- The rectangle of a chunk. -/
abbrev R4 : Rect S100x20096 := Rect.unit ![0, 16384] S100x3712.size inb_S100x20096_S100x3712_0_16384

/-- A row's largest value in a wide chunk. -/
def rmaxW (v : Vec Ideal S100x4096 .f32) : FVec Ideal S100x1 .f32 :=
  shapeCast S100x1 (multiReduction .maximumf [1] S100 v 0xFF800000#32 reduces_S100x4096_S100 (.inl rfl) rfl) shapeCasts_S100_S100x1

/-- A row's largest value in the narrow chunk. -/
def rmaxN (v : Vec Ideal S100x3712 .f32) : FVec Ideal S100x1 .f32 :=
  shapeCast S100x1 (multiReduction .maximumf [1] S100 v 0xFF800000#32 reduces_S100x3712_S100 (.inl rfl) rfl) shapeCasts_S100_S100x1

/-- The first column of a wide chunk with the row's largest value. -/
def rargW (off : BitVec 32) (v : Vec Ideal S100x4096 .f32) : IVec S100x1 32 :=
  shapeCast S100x1 (multiReductionI .minsi [1] S100
    (select (cmpf .oeq v (broadcastTo S100x4096 (rmaxW v) broadcasts_S100x1_S100x4096))
      (addi (iota .tc S100x4096 32 [1] iota_S100x4096_d1_w32) (broadcast S100x4096 off)) (broadcast S100x4096 20096#32))
    2147483647#32 reduces_S100x4096_S100 rfl) shapeCasts_S100_S100x1

/-- The first column of the narrow chunk with the row's largest value. -/
def rargN (off : BitVec 32) (v : Vec Ideal S100x3712 .f32) : IVec S100x1 32 :=
  shapeCast S100x1 (multiReductionI .minsi [1] S100
    (select (cmpf .oeq v (broadcastTo S100x3712 (rmaxN v) broadcasts_S100x1_S100x3712))
      (addi (iota .tc S100x3712 32 [1] iota_S100x3712_d1_w32) (broadcast S100x3712 off)) (broadcast S100x3712 20096#32))
    2147483647#32 reduces_S100x3712_S100 rfl) shapeCasts_S100_S100x1

/-- A row's largest value in five chunks. -/
def maxOf (a b c d : Vec Ideal S100x4096 .f32) (e : Vec Ideal S100x3712 .f32) : FVec Ideal S100x1 .f32 :=
  maximumf (maximumf (maximumf (maximumf (rmaxW a) (rmaxW b)) (rmaxW c)) (rmaxW d)) (rmaxN e)

/-- A chunk's first column where the chunk's largest value is the row's. -/
def pick (cm m : FVec Ideal S100x1 .f32) (ci : IVec S100x1 32) : IVec S100x1 32 :=
  select (cmpf .oeq cm m) ci (broadcast S100x1 20096#32)

/-- The first column with the row's largest value in five chunks. -/
def argOf (a b c d : Vec Ideal S100x4096 .f32) (e : Vec Ideal S100x3712 .f32) : IVec S100x1 32 :=
  minsi (minsi (minsi (minsi (minsi (broadcast S100x1 20096#32) (pick (rmaxW a) (maxOf a b c d e) (rargW 0#32 a)))
    (pick (rmaxW b) (maxOf a b c d e) (rargW 4096#32 b))) (pick (rmaxW c) (maxOf a b c d e) (rargW 8192#32 c)))
    (pick (rmaxW d) (maxOf a b c d e) (rargW 12288#32 d))) (pick (rmaxN e) (maxOf a b c d e) (rargN 16384#32 e))

/-- A wide chunk with the negative of the row's largest value at the row's column. -/
def updW (off : BitVec 32) (m : FVec Ideal S100x1 .f32) (i : IVec S100x1 32) (v : Vec Ideal S100x4096 .f32) : FVec Ideal S100x4096 .f32 :=
  select (cmpi .eq (addi (iota .tc S100x4096 32 [1] iota_S100x4096_d1_w32) (broadcast S100x4096 off))
      (broadcastTo S100x4096 i broadcasts_S100x1_S100x4096))
    (broadcastTo S100x4096 (shapeCast S100x1 (subf (broadcast S100x1 (Scalar.ofBits .f32 0x00000000#32)) m) shapeCasts_S100x1_S100x1)
      broadcasts_S100x1_S100x4096) v

/-- The narrow chunk with the negative of the row's largest value at the row's column. -/
def updN (off : BitVec 32) (m : FVec Ideal S100x1 .f32) (i : IVec S100x1 32) (v : Vec Ideal S100x3712 .f32) : FVec Ideal S100x3712 .f32 :=
  select (cmpi .eq (addi (iota .tc S100x3712 32 [1] iota_S100x3712_d1_w32) (broadcast S100x3712 off))
      (broadcastTo S100x3712 i broadcasts_S100x1_S100x3712))
    (broadcastTo S100x3712 (shapeCast S100x1 (subf (broadcast S100x1 (Scalar.ofBits .f32 0x00000000#32)) m) shapeCasts_S100x1_S100x1)
      broadcasts_S100x1_S100x3712) v

variable (v : View ss κ sp S100x20096 .f32) (m : FVec Ideal S100x1 .f32) (i : IVec S100x1 32) (L : Pieces)

/-- A chunk that the round leaves. -/
def left0 : Vec Ideal S100x4096 .f32 := updW 0#32 m i (v.readCov L R0.toLoadRect)
/-- The array after one chunk is stored. -/
def put0 : Pieces := ⟨R0, shapeCast S100x4096 (left0 v m i L) shapeCasts_S100x4096_S100x4096⟩ :: L
/-- A chunk that the round leaves. -/
def left1 : Vec Ideal S100x4096 .f32 := updW 4096#32 m i (v.readCov (put0 v m i L) R1.toLoadRect)
/-- The array after two chunks are stored. -/
def put1 : Pieces := ⟨R1, shapeCast S100x4096 (left1 v m i L) shapeCasts_S100x4096_S100x4096⟩ :: put0 v m i L
/-- A chunk that the round leaves. -/
def left2 : Vec Ideal S100x4096 .f32 := updW 8192#32 m i (v.readCov (put1 v m i L) R2.toLoadRect)
/-- The array after three chunks are stored. -/
def put2 : Pieces := ⟨R2, shapeCast S100x4096 (left2 v m i L) shapeCasts_S100x4096_S100x4096⟩ :: put1 v m i L
/-- A chunk that the round leaves. -/
def left3 : Vec Ideal S100x4096 .f32 := updW 12288#32 m i (v.readCov (put2 v m i L) R3.toLoadRect)
/-- The array after four chunks are stored. -/
def put3 : Pieces := ⟨R3, shapeCast S100x4096 (left3 v m i L) shapeCasts_S100x4096_S100x4096⟩ :: put2 v m i L
/-- A chunk that the round leaves. -/
def left4 : Vec Ideal S100x3712 .f32 := updN 16384#32 m i (v.readCov (put3 v m i L) R4.toLoadRect)
/-- The array after the round. -/
def stored : Pieces := ⟨R4, shapeCast S100x3712 (left4 v m i L) shapeCasts_S100x3712_S100x3712⟩ :: put3 v m i L

/-- The largest values of what the round leaves. -/
def nextMax : FVec Ideal S100x1 .f32 := maxOf (left0 v m i L) (left1 v m i L) (left2 v m i L) (left3 v m i L) (left4 v m i L)
/-- Their columns. -/
def nextArg : IVec S100x1 32 := argOf (left0 v m i L) (left1 v m i L) (left2 v m i L) (left3 v m i L) (left4 v m i L)
/-- The largest values of the array. -/
def firstMax : FVec Ideal S100x1 .f32 :=
  maxOf (v.readCov L R0.toLoadRect) (v.readCov L R1.toLoadRect) (v.readCov L R2.toLoadRect) (v.readCov L R3.toLoadRect) (v.readCov L R4.toLoadRect)
/-- Their columns. -/
def firstArg : IVec S100x1 32 :=
  argOf (v.readCov L R0.toLoadRect) (v.readCov L R1.toLoadRect) (v.readCov L R2.toLoadRect) (v.readCov L R3.toLoadRect) (v.readCov L R4.toLoadRect)

end Cert.Asg
-- ==== Proof.Rounds.lean ====
module

public import proofs.«01_k».proof.Proof.Gen.KernelIdeal.Frame
public import proofs.«01_k».proof.Proof.RoundDefs

@[expose] public section

/-!
The ten rounds of one block's run, read off the run: each one stores and finds what one round does.
-/

noncomputable section

namespace Cert.Asg

open Idealize.ShloMosaic Cert.KernelIdeal Cert.KernelIdeal.Gen Cert.KernelIdeal.Gen.kernelRun0_A

namespace Inp

variable (A : Inp)

/-- The metric array before the rounds. -/
def L0 : List (View.Piece (Elt Ideal) S100x20096 .f32) := sl.HS0_10 (F := Ideal) A.c A.arg1 A.harg1 A.arg2 A.harg2 A.arg3 A.harg3 A.arg5 A.harg5 A.arg6 A.harg6 A.x0 A.x1 A.x2 A.x4 A.x5
/-- The metric array after round 1. -/
def L1 : List (View.Piece (Elt Ideal) S100x20096 .f32) := sl.HS0_15 (F := Ideal) A.c A.arg1 A.harg1 A.arg2 A.harg2 A.arg3 A.harg3 A.arg5 A.harg5 A.arg6 A.harg6 A.arg11 A.x0 A.x1 A.x2 A.x4 A.x5
/-- The largest values that round 1 finds. -/
def m1 : FVec Ideal S100x1 .f32 := sl.r_231 (F := Ideal) A.c A.arg1 A.harg1 A.arg2 A.harg2 A.arg3 A.harg3 A.arg5 A.harg5 A.arg6 A.harg6 A.arg11 A.x0 A.x1 A.x2 A.x4 A.x5
/-- The columns that round 1 finds. -/
def i1 : IVec S100x1 32 := sl.r_233 (F := Ideal) A.c A.arg1 A.harg1 A.arg2 A.harg2 A.arg3 A.harg3 A.arg5 A.harg5 A.arg6 A.harg6 A.arg11 A.x0 A.x1 A.x2 A.x4 A.x5
/-- The metric array after round 2. -/
def L2 : List (View.Piece (Elt Ideal) S100x20096 .f32) := sl.HS0_20 (F := Ideal) A.c A.arg1 A.harg1 A.arg2 A.harg2 A.arg3 A.harg3 A.arg5 A.harg5 A.arg6 A.harg6 A.arg11 A.x0 A.x1 A.x2 A.x4 A.x5
/-- The largest values that round 2 finds. -/
def m2 : FVec Ideal S100x1 .f32 := sl.r_246 (F := Ideal) A.c A.arg1 A.harg1 A.arg2 A.harg2 A.arg3 A.harg3 A.arg5 A.harg5 A.arg6 A.harg6 A.arg11 A.x0 A.x1 A.x2 A.x4 A.x5
/-- The columns that round 2 finds. -/
def i2 : IVec S100x1 32 := sl.r_247 (F := Ideal) A.c A.arg1 A.harg1 A.arg2 A.harg2 A.arg3 A.harg3 A.arg5 A.harg5 A.arg6 A.harg6 A.arg11 A.x0 A.x1 A.x2 A.x4 A.x5
/-- The metric array after round 3. -/
def L3 : List (View.Piece (Elt Ideal) S100x20096 .f32) := sl.HS0_25 (F := Ideal) A.c A.arg1 A.harg1 A.arg2 A.harg2 A.arg3 A.harg3 A.arg5 A.harg5 A.arg6 A.harg6 A.arg11 A.x0 A.x1 A.x2 A.x4 A.x5
/-- The largest values that round 3 finds. -/
def m3 : FVec Ideal S100x1 .f32 := sl.r_261 (F := Ideal) A.c A.arg1 A.harg1 A.arg2 A.harg2 A.arg3 A.harg3 A.arg5 A.harg5 A.arg6 A.harg6 A.arg11 A.x0 A.x1 A.x2 A.x4 A.x5
/-- The columns that round 3 finds. -/
def i3 : IVec S100x1 32 := sl.r_264 (F := Ideal) A.c A.arg1 A.harg1 A.arg2 A.harg2 A.arg3 A.harg3 A.arg5 A.harg5 A.arg6 A.harg6 A.arg11 A.x0 A.x1 A.x2 A.x4 A.x5
/-- The metric array after round 4. -/
def L4 : List (View.Piece (Elt Ideal) S100x20096 .f32) := sl.HS0_30 (F := Ideal) A.c A.arg1 A.harg1 A.arg2 A.harg2 A.arg3 A.harg3 A.arg5 A.harg5 A.arg6 A.harg6 A.arg11 A.x0 A.x1 A.x2 A.x4 A.x5
/-- The largest values that round 4 finds. -/
def m4 : FVec Ideal S100x1 .f32 := sl.r_277 (F := Ideal) A.c A.arg1 A.harg1 A.arg2 A.harg2 A.arg3 A.harg3 A.arg5 A.harg5 A.arg6 A.harg6 A.arg11 A.x0 A.x1 A.x2 A.x4 A.x5
/-- The columns that round 4 finds. -/
def i4 : IVec S100x1 32 := sl.r_278 (F := Ideal) A.c A.arg1 A.harg1 A.arg2 A.harg2 A.arg3 A.harg3 A.arg5 A.harg5 A.arg6 A.harg6 A.arg11 A.x0 A.x1 A.x2 A.x4 A.x5
/-- The metric array after round 5. -/
def L5 : List (View.Piece (Elt Ideal) S100x20096 .f32) := sl.HS0_35 (F := Ideal) A.c A.arg1 A.harg1 A.arg2 A.harg2 A.arg3 A.harg3 A.arg5 A.harg5 A.arg6 A.harg6 A.arg11 A.x0 A.x1 A.x2 A.x4 A.x5
/-- The largest values that round 5 finds. -/
def m5 : FVec Ideal S100x1 .f32 := sl.r_289 (F := Ideal) A.c A.arg1 A.harg1 A.arg2 A.harg2 A.arg3 A.harg3 A.arg5 A.harg5 A.arg6 A.harg6 A.arg11 A.x0 A.x1 A.x2 A.x4 A.x5
/-- The columns that round 5 finds. -/
def i5 : IVec S100x1 32 := sl.r_290 (F := Ideal) A.c A.arg1 A.harg1 A.arg2 A.harg2 A.arg3 A.harg3 A.arg5 A.harg5 A.arg6 A.harg6 A.arg11 A.x0 A.x1 A.x2 A.x4 A.x5
/-- The metric array after round 6. -/
def L6 : List (View.Piece (Elt Ideal) S100x20096 .f32) := sl.HS0_40 (F := Ideal) A.c A.arg1 A.harg1 A.arg2 A.harg2 A.arg3 A.harg3 A.arg5 A.harg5 A.arg6 A.harg6 A.arg11 A.x0 A.x1 A.x2 A.x4 A.x5
/-- The largest values that round 6 finds. -/
def m6 : FVec Ideal S100x1 .f32 := sl.r_303 (F := Ideal) A.c A.arg1 A.harg1 A.arg2 A.harg2 A.arg3 A.harg3 A.arg5 A.harg5 A.arg6 A.harg6 A.arg11 A.x0 A.x1 A.x2 A.x4 A.x5
/-- The columns that round 6 finds. -/
def i6 : IVec S100x1 32 := sl.r_305 (F := Ideal) A.c A.arg1 A.harg1 A.arg2 A.harg2 A.arg3 A.harg3 A.arg5 A.harg5 A.arg6 A.harg6 A.arg11 A.x0 A.x1 A.x2 A.x4 A.x5
/-- The metric array after round 7. -/
def L7 : List (View.Piece (Elt Ideal) S100x20096 .f32) := sl.HS0_45 (F := Ideal) A.c A.arg1 A.harg1 A.arg2 A.harg2 A.arg3 A.harg3 A.arg5 A.harg5 A.arg6 A.harg6 A.arg11 A.x0 A.x1 A.x2 A.x4 A.x5
/-- The largest values that round 7 finds. -/
def m7 : FVec Ideal S100x1 .f32 := sl.r_317 (F := Ideal) A.c A.arg1 A.harg1 A.arg2 A.harg2 A.arg3 A.harg3 A.arg5 A.harg5 A.arg6 A.harg6 A.arg11 A.x0 A.x1 A.x2 A.x4 A.x5
/-- The columns that round 7 finds. -/
def i7 : IVec S100x1 32 := sl.r_318 (F := Ideal) A.c A.arg1 A.harg1 A.arg2 A.harg2 A.arg3 A.harg3 A.arg5 A.harg5 A.arg6 A.harg6 A.arg11 A.x0 A.x1 A.x2 A.x4 A.x5
/-- The metric array after round 8. -/
def L8 : List (View.Piece (Elt Ideal) S100x20096 .f32) := sl.HS0_50 (F := Ideal) A.c A.arg1 A.harg1 A.arg2 A.harg2 A.arg3 A.harg3 A.arg5 A.harg5 A.arg6 A.harg6 A.arg11 A.x0 A.x1 A.x2 A.x4 A.x5
/-- The largest values that round 8 finds. -/
def m8 : FVec Ideal S100x1 .f32 := sl.r_332 (F := Ideal) A.c A.arg1 A.harg1 A.arg2 A.harg2 A.arg3 A.harg3 A.arg5 A.harg5 A.arg6 A.harg6 A.arg11 A.x0 A.x1 A.x2 A.x4 A.x5
/-- The columns that round 8 finds. -/
def i8 : IVec S100x1 32 := sl.r_335 (F := Ideal) A.c A.arg1 A.harg1 A.arg2 A.harg2 A.arg3 A.harg3 A.arg5 A.harg5 A.arg6 A.harg6 A.arg11 A.x0 A.x1 A.x2 A.x4 A.x5
/-- The metric array after round 9. -/
def L9 : List (View.Piece (Elt Ideal) S100x20096 .f32) := sl.HS0_55 (F := Ideal) A.c A.arg1 A.harg1 A.arg2 A.harg2 A.arg3 A.harg3 A.arg5 A.harg5 A.arg6 A.harg6 A.arg11 A.x0 A.x1 A.x2 A.x4 A.x5
/-- The largest values that round 9 finds. -/
def m9 : FVec Ideal S100x1 .f32 := sl.r_348 (F := Ideal) A.c A.arg1 A.harg1 A.arg2 A.harg2 A.arg3 A.harg3 A.arg5 A.harg5 A.arg6 A.harg6 A.arg11 A.x0 A.x1 A.x2 A.x4 A.x5
/-- The columns that round 9 finds. -/
def i9 : IVec S100x1 32 := sl.r_349 (F := Ideal) A.c A.arg1 A.harg1 A.arg2 A.harg2 A.arg3 A.harg3 A.arg5 A.harg5 A.arg6 A.harg6 A.arg11 A.x0 A.x1 A.x2 A.x4 A.x5
/-- The metric array after round 10. -/
def L10 : List (View.Piece (Elt Ideal) S100x20096 .f32) := sl.HS0_60 (F := Ideal) A.c A.arg1 A.harg1 A.arg2 A.harg2 A.arg3 A.harg3 A.arg5 A.harg5 A.arg6 A.harg6 A.arg11 A.x0 A.x1 A.x2 A.x4 A.x5
/-- The largest values that round 10 finds. -/
def m10 : FVec Ideal S100x1 .f32 := sl.r_362 (F := Ideal) A.c A.arg1 A.harg1 A.arg2 A.harg2 A.arg3 A.harg3 A.arg5 A.harg5 A.arg6 A.harg6 A.arg11 A.x0 A.x1 A.x2 A.x4 A.x5
/-- The columns that round 10 finds. -/
def i10 : IVec S100x1 32 := sl.r_365 (F := Ideal) A.c A.arg1 A.harg1 A.arg2 A.harg2 A.arg3 A.harg3 A.arg5 A.harg5 A.arg6 A.harg6 A.arg11 A.x0 A.x1 A.x2 A.x4 A.x5

set_option maxRecDepth 100000

/-- Round 1 finds the largest values of the metric array. -/
theorem m1_eq : A.m1 = firstMax A.arg11.view A.L0 := by rfl
/-- Round 1 finds where they are. -/
theorem i1_eq : A.i1 = firstArg A.arg11.view A.L0 := by rfl
/-- Round 1 stores what a round stores. -/
theorem L1_eq : A.L1 = stored A.arg11.view A.m1 A.i1 A.L0 := by rfl
/-- Round 2 finds the largest values of what round 1 left. -/
theorem m2_eq : A.m2 = nextMax A.arg11.view A.m1 A.i1 A.L0 := by rfl
/-- Round 2 finds where they are. -/
theorem i2_eq : A.i2 = nextArg A.arg11.view A.m1 A.i1 A.L0 := by rfl
/-- Round 2 stores what a round stores. -/
theorem L2_eq : A.L2 = stored A.arg11.view A.m2 A.i2 A.L1 := by rfl
/-- Round 3 finds the largest values of what round 2 left. -/
theorem m3_eq : A.m3 = nextMax A.arg11.view A.m2 A.i2 A.L1 := by rfl
/-- Round 3 finds where they are. -/
theorem i3_eq : A.i3 = nextArg A.arg11.view A.m2 A.i2 A.L1 := by rfl
/-- Round 3 stores what a round stores. -/
theorem L3_eq : A.L3 = stored A.arg11.view A.m3 A.i3 A.L2 := by rfl
/-- Round 4 finds the largest values of what round 3 left. -/
theorem m4_eq : A.m4 = nextMax A.arg11.view A.m3 A.i3 A.L2 := by rfl
/-- Round 4 finds where they are. -/
theorem i4_eq : A.i4 = nextArg A.arg11.view A.m3 A.i3 A.L2 := by rfl
/-- Round 4 stores what a round stores. -/
theorem L4_eq : A.L4 = stored A.arg11.view A.m4 A.i4 A.L3 := by rfl
/-- Round 5 finds the largest values of what round 4 left. -/
theorem m5_eq : A.m5 = nextMax A.arg11.view A.m4 A.i4 A.L3 := by rfl
/-- Round 5 finds where they are. -/
theorem i5_eq : A.i5 = nextArg A.arg11.view A.m4 A.i4 A.L3 := by rfl
/-- Round 5 stores what a round stores. -/
theorem L5_eq : A.L5 = stored A.arg11.view A.m5 A.i5 A.L4 := by rfl
/-- Round 6 finds the largest values of what round 5 left. -/
theorem m6_eq : A.m6 = nextMax A.arg11.view A.m5 A.i5 A.L4 := by rfl
/-- Round 6 finds where they are. -/
theorem i6_eq : A.i6 = nextArg A.arg11.view A.m5 A.i5 A.L4 := by rfl
/-- Round 6 stores what a round stores. -/
theorem L6_eq : A.L6 = stored A.arg11.view A.m6 A.i6 A.L5 := by rfl
/-- Round 7 finds the largest values of what round 6 left. -/
theorem m7_eq : A.m7 = nextMax A.arg11.view A.m6 A.i6 A.L5 := by rfl
/-- Round 7 finds where they are. -/
theorem i7_eq : A.i7 = nextArg A.arg11.view A.m6 A.i6 A.L5 := by rfl
/-- Round 7 stores what a round stores. -/
theorem L7_eq : A.L7 = stored A.arg11.view A.m7 A.i7 A.L6 := by rfl
/-- Round 8 finds the largest values of what round 7 left. -/
theorem m8_eq : A.m8 = nextMax A.arg11.view A.m7 A.i7 A.L6 := by rfl
/-- Round 8 finds where they are. -/
theorem i8_eq : A.i8 = nextArg A.arg11.view A.m7 A.i7 A.L6 := by rfl
/-- Round 8 stores what a round stores. -/
theorem L8_eq : A.L8 = stored A.arg11.view A.m8 A.i8 A.L7 := by rfl
/-- Round 9 finds the largest values of what round 8 left. -/
theorem m9_eq : A.m9 = nextMax A.arg11.view A.m8 A.i8 A.L7 := by rfl
/-- Round 9 finds where they are. -/
theorem i9_eq : A.i9 = nextArg A.arg11.view A.m8 A.i8 A.L7 := by rfl
/-- Round 9 stores what a round stores. -/
theorem L9_eq : A.L9 = stored A.arg11.view A.m9 A.i9 A.L8 := by rfl
/-- Round 10 finds the largest values of what round 9 left. -/
theorem m10_eq : A.m10 = nextMax A.arg11.view A.m9 A.i9 A.L8 := by rfl
/-- Round 10 finds where they are. -/
theorem i10_eq : A.i10 = nextArg A.arg11.view A.m9 A.i9 A.L8 := by rfl
/-- Round 10 stores what a round stores. -/
theorem L10_eq : A.L10 = stored A.arg11.view A.m10 A.i10 A.L9 := by rfl

end Inp

end Cert.Asg
-- ==== Proof.PassDefs.lean ====
module

public import proofs.«01_k».proof.Proof.Gen.KernelIdeal.Frame
public import proofs.«01_k».proof.Proof.Argmax
public import Idealize.ShloMosaic.Lib.Pointwise

@[expose] public section

/-!
What one chunk of the second and the third pass computes, element by element.
-/

noncomputable section

namespace Cert.Asg

open Idealize.ShloMosaic Cert.KernelIdeal Cert.KernelIdeal.Gen

/-- The overlap that counts: an anchor that was taken has a negative metric. -/
def kept (t c : EReal) : EReal := if t < 0 then c else 0

/-- The largest of the values of a column. -/
def colMax (f : Fin 100 → EReal) : EReal := Finset.univ.fold max (Ideal.ofBits .f32 4286578688#32) f

/-- The first row of a column that has its largest value, as a word. -/
def colArg (f : Fin 100 → EReal) : BitVec 32 :=
  Finset.univ.fold IntOp.minsi 2147483647#32 fun x => if f x = colMax f then BitVec.ofNat 32 x.1 else 100#32

/-- The weight of the row that a column takes, as a sum. -/
def colPick (w : Fin 100 → EReal) (f : Fin 100 → EReal) : EReal :=
  ∑ x, w x * FloatOps.sitofp (F := Ideal) .f32 (BitVec.setWidth 32 (IntOp.cmpi .eq (BitVec.ofNat 32 x.1) (colArg f)))

/-- A wide chunk of a matrix with a row for every box. -/
abbrev VW := Vec Ideal S100x2048 .f32
/-- A narrow chunk of a matrix with a row for every box. -/
abbrev VN := Vec Ideal S100x1664 .f32

/-- The numbers of the rows. -/
def rowsN : IVec S100x1664 32 := iota Kind.tc S100x1664 32 [0] iota_S100x1664_d0_w32

/-- The largest kept overlaps of the rows, wide chunk. -/
def movW (s c : VW) (p : FVec Ideal S100x1 .f32) : FVec Ideal S100x1 .f32 := k0_pay532 s c p
/-- The largest kept overlaps of the rows, narrow chunk. -/
def movN (s c : VN) (p : FVec Ideal S100x1 .f32) : FVec Ideal S100x1 .f32 := k0_pay616 s c p
/-- The largest kept metrics of the rows, wide chunk. -/
def malW (s : VW) (p : FVec Ideal S100x1 .f32) : FVec Ideal S100x1 .f32 := k0_pay533 s p
/-- The largest kept metrics of the rows, narrow chunk. -/
def malN (s : VN) (p : FVec Ideal S100x1 .f32) : FVec Ideal S100x1 .f32 := k0_pay617 s p
/-- The largest kept overlaps of the columns, wide chunk. -/
def maW (s c : VW) : FVec Ideal S1x2048 .f32 := k0_pay535 (k0_pay534 s c)
/-- The largest kept overlaps of the columns, narrow chunk. -/
def maN (s c : VN) : FVec Ideal S1x1664 .f32 := k0_pay619 s c
/-- The class columns, wide chunk. -/
def clsW (oh : FVec Ideal S80x100 .f32) (s c : VW) : FVec Ideal S1x80x2048 .f32 := k0_pay537 oh (k0_pay531 s c) (k0_pay534 s c)
/-- The class columns, narrow chunk. -/
def clsN (oh : FVec Ideal S80x100 .f32) (s c : VN) : FVec Ideal S1x80x1664 .f32 := k0_pay622 oh rowsN (k0_pay620 s c)
/-- The box columns, wide chunk. -/
def boxW (gt : FVec Ideal S4x100 .f32) (s c : VW) : FVec Ideal S1x4x2048 .f32 := k0_pay538 gt (k0_pay531 s c) (k0_pay534 s c)
/-- The box columns, narrow chunk. -/
def boxN (gt : FVec Ideal S4x100 .f32) (s c : VN) : FVec Ideal S1x4x1664 .f32 := k0_pay623 gt (k0_pay618 s c) rowsN (k0_pay620 s c)
/-- The rescaled class columns, wide chunk. -/
def sclW (r : FVec Ideal S100x1 .f32) (s : VW) (m : Vec Ideal S1x2048 .f32) (q : Vec Ideal S1x80x2048 .f32) : FVec Ideal S1x80x2048 .f32 :=
  k0_pay628 r s m q
/-- The rescaled class columns, narrow chunk. -/
def sclN (r : FVec Ideal S100x1 .f32) (s : VN) (m : Vec Ideal S1x1664 .f32) (q : Vec Ideal S1x80x1664 .f32) : FVec Ideal S1x80x1664 .f32 :=
  k0_pay1 (k0_pay641 r s) m q

/-- The scale of a column: the largest normalised metric, where the column is taken at all. -/
def colScale (m : EReal) (s r : Fin 100 → EReal) : EReal :=
  if 0 < m then Finset.univ.fold max (Ideal.ofBits .f32 4286578688#32) (fun x => max (0 - s x) 0 * r x) else 0

set_option maxHeartbeats 0
set_option maxRecDepth 100000

/-- An element of `movW`. -/
theorem movW_at (s c p) (g : Fin 100) : movW s c p (ix2 g 0) =
    max (p (ix2 g 0)) (Finset.univ.fold max (Ideal.ofBits .f32 4286578688#32) fun x => kept (s (ix2 g x)) (c (ix2 g x))) := by
  unfold movW; unfold_payloads; pointwise [kept]

/-- An element of `movN`. -/
theorem movN_at (s c p) (g : Fin 100) : movN s c p (ix2 g 0) =
    max (p (ix2 g 0)) (Finset.univ.fold max (Ideal.ofBits .f32 4286578688#32) fun x => kept (s (ix2 g x)) (c (ix2 g x))) := by
  unfold movN; unfold_payloads; pointwise [kept]

/-- An element of `malW`. -/
theorem malW_at (s p) (g : Fin 100) : malW s p (ix2 g 0) =
    max (p (ix2 g 0)) (Finset.univ.fold max (Ideal.ofBits .f32 4286578688#32) fun x => max (0 - s (ix2 g x)) 0) := by
  unfold malW; unfold_payloads; pointwise

/-- An element of `malN`. -/
theorem malN_at (s p) (g : Fin 100) : malN s p (ix2 g 0) =
    max (p (ix2 g 0)) (Finset.univ.fold max (Ideal.ofBits .f32 4286578688#32) fun x => max (0 - s (ix2 g x)) 0) := by
  unfold malN; unfold_payloads; pointwise

/-- An element of `maW`. -/
theorem maW_at (s c) (a : Fin 2048) : maW s c (ix2 0 a) = colMax fun g => kept (s (ix2 g a)) (c (ix2 g a)) := by
  unfold maW; unfold_payloads; pointwise [kept, colMax]

/-- An element of `maN`. -/
theorem maN_at (s c) (a : Fin 1664) : maN s c (ix2 0 a) = colMax fun g => kept (s (ix2 g a)) (c (ix2 g a)) := by
  unfold maN; unfold_payloads; pointwise [kept, colMax]

/-- An element of `clsW`. -/
theorem clsW_at (oh s c) (k : Fin 80) (a : Fin 2048) :
    clsW oh s c (ix3 0 k a) = colPick (fun g => oh (ix2 k g)) fun g => kept (s (ix2 g a)) (c (ix2 g a)) := by
  unfold clsW; unfold_payloads; pointwise [kept, colPick, colArg, colMax]

/-- An element of `clsN`. -/
theorem clsN_at (oh s c) (k : Fin 80) (a : Fin 1664) :
    clsN oh s c (ix3 0 k a) = colPick (fun g => oh (ix2 k g)) fun g => kept (s (ix2 g a)) (c (ix2 g a)) := by
  unfold clsN; unfold_payloads; pointwise [kept, colPick, colArg, colMax, rowsN]

/-- An element of `boxW`. -/
theorem boxW_at (gt s c) (k : Fin 4) (a : Fin 2048) :
    boxW gt s c (ix3 0 k a) = if 0 < colMax (fun g => kept (s (ix2 g a)) (c (ix2 g a))) then
      colPick (fun g => gt (ix2 k g)) (fun g => kept (s (ix2 g a)) (c (ix2 g a))) else Ideal.ofBits .f32 3212836864#32 := by
  unfold boxW; unfold_payloads; pointwise [kept, colPick, colArg, colMax]

/-- An element of `boxN`. -/
theorem boxN_at (gt s c) (k : Fin 4) (a : Fin 1664) :
    boxN gt s c (ix3 0 k a) = if 0 < colMax (fun g => kept (s (ix2 g a)) (c (ix2 g a))) then
      colPick (fun g => gt (ix2 k g)) (fun g => kept (s (ix2 g a)) (c (ix2 g a))) else Ideal.ofBits .f32 3212836864#32 := by
  unfold boxN; unfold_payloads; pointwise [kept, colPick, colArg, colMax, rowsN]

/-- An element of `sclW`. -/
theorem sclW_at (r s m q) (k : Fin 80) (a : Fin 2048) : sclW r s m q (ix3 0 k a) =
    q (ix3 0 k a) * colScale (m (ix2 0 a)) (fun g => s (ix2 g a)) fun g => r (ix2 g 0) := by
  unfold sclW; unfold_payloads; pointwise [colScale]

/-- An element of `sclN`. -/
theorem sclN_at (r s m q) (k : Fin 80) (a : Fin 1664) : sclN r s m q (ix3 0 k a) =
    q (ix3 0 k a) * colScale (m (ix2 0 a)) (fun g => s (ix2 g a)) fun g => r (ix2 g 0) := by
  unfold sclN; unfold_payloads; pointwise [colScale]

/-- An element of the ratios. -/
theorem ratio_at (p q) (g : Fin 100) :
    k0_pay624 (F := Ideal) p q (ix2 g 0) = Ideal.div (p (ix2 g 0)) (q (ix2 g 0) + Ideal.ofBits .f32 814313567#32) := by
  unfold_payloads; pointwise

/-- The row maxima of the overlaps start at zero. -/
theorem mov_zero (g : Fin 100) : k0_pay529 (F := Ideal) k0_pay528 (ix2 g 0) = 0 := by
  unfold_payloads; pointwise

/-- The row maxima of the metrics start at zero. -/
theorem mal_zero (g : Fin 100) : k0_pay530 (F := Ideal) (ix2 g 0) = 0 := by
  unfold_payloads; pointwise

/-- The third output is one everywhere. -/
theorem fg_at (a : Fin 20096) : k0_pay2 (F := Ideal) (ix3 0 0 a) = 1 := by
  unfold_payloads; pointwise

end Cert.Asg
-- ==== Proof.Passes.lean ====
module

public import proofs.«01_k».proof.Proof.Rounds
public import proofs.«01_k».proof.Proof.PassDefs

@[expose] public section

/-!
The second and the third pass of one block's run, read off the run: what each of their stores and loads is.
-/

noncomputable section

namespace Cert.Asg

open Idealize.ShloMosaic Cert.KernelIdeal Cert.KernelIdeal.Gen Cert.KernelIdeal.Gen.kernelRun0_A

namespace Inp

variable (A : Inp)

/-- The overlap array after the first pass. -/
def CL : List (View.Piece (Elt Ideal) S100x20096 .f32) := sl.HS1_10 (F := Ideal) A.c A.arg2 A.harg2 A.arg6 A.harg6 A.x1 A.x5
/-- The columns' largest overlaps after the second pass. -/
def ML : List (View.Piece (Elt Ideal) S1x20096 .f32) := sl.HS4_10 (F := Ideal) A.c A.arg1 A.harg1 A.arg2 A.harg2 A.arg3 A.harg3 A.arg5 A.harg5 A.arg6 A.harg6 A.arg11 A.arg12 A.x0 A.x1 A.x2 A.x4 A.x5
/-- The class of every box, one row for every class. -/
def oh : FVec Ideal S80x100 .f32 := sl.r_12 (F := Ideal) A.c A.arg4 A.harg4 A.x3
/-- The boxes, transposed. -/
def gt : FVec Ideal S4x100 .f32 := sl.r_13 (F := Ideal) A.c A.arg7 A.harg7 A.x6
/-- Chunk 0 of the metrics. -/
def s0 : VW := A.arg11.view.readCov A.L10 (Rect.unit (s := S100x20096) ![0, 0] S100x2048.size inb_S100x20096_S100x2048_0_0).toLoadRect
/-- Chunk 0 of the overlaps. -/
def c0 : VW := A.arg12.view.readCov A.CL (Rect.unit (s := S100x20096) ![0, 0] S100x2048.size inb_S100x20096_S100x2048_0_0).toLoadRect
/-- Chunk 1 of the metrics. -/
def s1 : VW := A.arg11.view.readCov A.L10 (Rect.unit (s := S100x20096) ![0, 2048] S100x2048.size inb_S100x20096_S100x2048_0_2048).toLoadRect
/-- Chunk 1 of the overlaps. -/
def c1 : VW := A.arg12.view.readCov A.CL (Rect.unit (s := S100x20096) ![0, 2048] S100x2048.size inb_S100x20096_S100x2048_0_2048).toLoadRect
/-- Chunk 2 of the metrics. -/
def s2 : VW := A.arg11.view.readCov A.L10 (Rect.unit (s := S100x20096) ![0, 4096] S100x2048.size inb_S100x20096_S100x2048_0_4096).toLoadRect
/-- Chunk 2 of the overlaps. -/
def c2 : VW := A.arg12.view.readCov A.CL (Rect.unit (s := S100x20096) ![0, 4096] S100x2048.size inb_S100x20096_S100x2048_0_4096).toLoadRect
/-- Chunk 3 of the metrics. -/
def s3 : VW := A.arg11.view.readCov A.L10 (Rect.unit (s := S100x20096) ![0, 6144] S100x2048.size inb_S100x20096_S100x2048_0_6144).toLoadRect
/-- Chunk 3 of the overlaps. -/
def c3 : VW := A.arg12.view.readCov A.CL (Rect.unit (s := S100x20096) ![0, 6144] S100x2048.size inb_S100x20096_S100x2048_0_6144).toLoadRect
/-- Chunk 4 of the metrics. -/
def s4 : VW := A.arg11.view.readCov A.L10 (Rect.unit (s := S100x20096) ![0, 8192] S100x2048.size inb_S100x20096_S100x2048_0_8192).toLoadRect
/-- Chunk 4 of the overlaps. -/
def c4 : VW := A.arg12.view.readCov A.CL (Rect.unit (s := S100x20096) ![0, 8192] S100x2048.size inb_S100x20096_S100x2048_0_8192).toLoadRect
/-- Chunk 5 of the metrics. -/
def s5 : VW := A.arg11.view.readCov A.L10 (Rect.unit (s := S100x20096) ![0, 10240] S100x2048.size inb_S100x20096_S100x2048_0_10240).toLoadRect
/-- Chunk 5 of the overlaps. -/
def c5 : VW := A.arg12.view.readCov A.CL (Rect.unit (s := S100x20096) ![0, 10240] S100x2048.size inb_S100x20096_S100x2048_0_10240).toLoadRect
/-- Chunk 6 of the metrics. -/
def s6 : VW := A.arg11.view.readCov A.L10 (Rect.unit (s := S100x20096) ![0, 12288] S100x2048.size inb_S100x20096_S100x2048_0_12288).toLoadRect
/-- Chunk 6 of the overlaps. -/
def c6 : VW := A.arg12.view.readCov A.CL (Rect.unit (s := S100x20096) ![0, 12288] S100x2048.size inb_S100x20096_S100x2048_0_12288).toLoadRect
/-- Chunk 7 of the metrics. -/
def s7 : VW := A.arg11.view.readCov A.L10 (Rect.unit (s := S100x20096) ![0, 14336] S100x2048.size inb_S100x20096_S100x2048_0_14336).toLoadRect
/-- Chunk 7 of the overlaps. -/
def c7 : VW := A.arg12.view.readCov A.CL (Rect.unit (s := S100x20096) ![0, 14336] S100x2048.size inb_S100x20096_S100x2048_0_14336).toLoadRect
/-- Chunk 8 of the metrics. -/
def s8 : VW := A.arg11.view.readCov A.L10 (Rect.unit (s := S100x20096) ![0, 16384] S100x2048.size inb_S100x20096_S100x2048_0_16384).toLoadRect
/-- Chunk 8 of the overlaps. -/
def c8 : VW := A.arg12.view.readCov A.CL (Rect.unit (s := S100x20096) ![0, 16384] S100x2048.size inb_S100x20096_S100x2048_0_16384).toLoadRect
/-- Chunk 9 of the metrics. -/
def s9 : VN := A.arg11.view.readCov A.L10 (Rect.unit (s := S100x20096) ![0, 18432] S100x1664.size inb_S100x20096_S100x1664_0_18432).toLoadRect
/-- Chunk 9 of the overlaps. -/
def c9 : VN := A.arg12.view.readCov A.CL (Rect.unit (s := S100x20096) ![0, 18432] S100x1664.size inb_S100x20096_S100x1664_0_18432).toLoadRect
/-- The largest overlaps of the rows at the start. -/
def p0 : FVec Ideal S100x1 .f32 := k0_pay529 k0_pay528
/-- The largest metrics of the rows at the start. -/
def t0 : FVec Ideal S100x1 .f32 := k0_pay530
/-- The largest overlaps of the rows after chunk 0. -/
def p1 : FVec Ideal S100x1 .f32 := movW A.s0 A.c0 p0
/-- The largest metrics of the rows after chunk 0. -/
def t1 : FVec Ideal S100x1 .f32 := malW A.s0 t0
/-- The largest overlaps of the rows after chunk 1. -/
def p2 : FVec Ideal S100x1 .f32 := movW A.s1 A.c1 A.p1
/-- The largest metrics of the rows after chunk 1. -/
def t2 : FVec Ideal S100x1 .f32 := malW A.s1 A.t1
/-- The largest overlaps of the rows after chunk 2. -/
def p3 : FVec Ideal S100x1 .f32 := movW A.s2 A.c2 A.p2
/-- The largest metrics of the rows after chunk 2. -/
def t3 : FVec Ideal S100x1 .f32 := malW A.s2 A.t2
/-- The largest overlaps of the rows after chunk 3. -/
def p4 : FVec Ideal S100x1 .f32 := movW A.s3 A.c3 A.p3
/-- The largest metrics of the rows after chunk 3. -/
def t4 : FVec Ideal S100x1 .f32 := malW A.s3 A.t3
/-- The largest overlaps of the rows after chunk 4. -/
def p5 : FVec Ideal S100x1 .f32 := movW A.s4 A.c4 A.p4
/-- The largest metrics of the rows after chunk 4. -/
def t5 : FVec Ideal S100x1 .f32 := malW A.s4 A.t4
/-- The largest overlaps of the rows after chunk 5. -/
def p6 : FVec Ideal S100x1 .f32 := movW A.s5 A.c5 A.p5
/-- The largest metrics of the rows after chunk 5. -/
def t6 : FVec Ideal S100x1 .f32 := malW A.s5 A.t5
/-- The largest overlaps of the rows after chunk 6. -/
def p7 : FVec Ideal S100x1 .f32 := movW A.s6 A.c6 A.p6
/-- The largest metrics of the rows after chunk 6. -/
def t7 : FVec Ideal S100x1 .f32 := malW A.s6 A.t6
/-- The largest overlaps of the rows after chunk 7. -/
def p8 : FVec Ideal S100x1 .f32 := movW A.s7 A.c7 A.p7
/-- The largest metrics of the rows after chunk 7. -/
def t8 : FVec Ideal S100x1 .f32 := malW A.s7 A.t7
/-- The largest overlaps of the rows after chunk 8. -/
def p9 : FVec Ideal S100x1 .f32 := movW A.s8 A.c8 A.p8
/-- The largest metrics of the rows after chunk 8. -/
def t9 : FVec Ideal S100x1 .f32 := malW A.s8 A.t8
/-- The largest overlaps of the rows after chunk 9. -/
def p10 : FVec Ideal S100x1 .f32 := movN A.s9 A.c9 A.p9
/-- The largest metrics of the rows after chunk 9. -/
def t10 : FVec Ideal S100x1 .f32 := malN A.s9 A.t9
/-- The ratios of the rows. -/
def rat : FVec Ideal S100x1 .f32 := k0_pay624 A.p10 A.t10
/-- Chunk 0 of the columns' largest overlaps. -/
def ma : Vec Ideal S1x2048 .f32 := A.arg15.view.readCov A.ML (Rect.unit (s := S1x20096) ![0, 0] S1x2048.size inb_S1x20096_S1x2048_0_0).toLoadRect
/-- Chunk 1 of the columns' largest overlaps. -/
def mb : Vec Ideal S1x2048 .f32 := A.arg15.view.readCov A.ML (Rect.unit (s := S1x20096) ![0, 2048] S1x2048.size inb_S1x20096_S1x2048_0_2048).toLoadRect
/-- Chunk 2 of the columns' largest overlaps. -/
def mc : Vec Ideal S1x2048 .f32 := A.arg15.view.readCov A.ML (Rect.unit (s := S1x20096) ![0, 4096] S1x2048.size inb_S1x20096_S1x2048_0_4096).toLoadRect
/-- Chunk 3 of the columns' largest overlaps. -/
def md : Vec Ideal S1x2048 .f32 := A.arg15.view.readCov A.ML (Rect.unit (s := S1x20096) ![0, 6144] S1x2048.size inb_S1x20096_S1x2048_0_6144).toLoadRect
/-- Chunk 4 of the columns' largest overlaps. -/
def me : Vec Ideal S1x2048 .f32 := A.arg15.view.readCov A.ML (Rect.unit (s := S1x20096) ![0, 8192] S1x2048.size inb_S1x20096_S1x2048_0_8192).toLoadRect
/-- Chunk 5 of the columns' largest overlaps. -/
def mf : Vec Ideal S1x2048 .f32 := A.arg15.view.readCov A.ML (Rect.unit (s := S1x20096) ![0, 10240] S1x2048.size inb_S1x20096_S1x2048_0_10240).toLoadRect
/-- Chunk 6 of the columns' largest overlaps. -/
def mg : Vec Ideal S1x2048 .f32 := A.arg15.view.readCov A.ML (Rect.unit (s := S1x20096) ![0, 12288] S1x2048.size inb_S1x20096_S1x2048_0_12288).toLoadRect
/-- Chunk 7 of the columns' largest overlaps. -/
def mh : Vec Ideal S1x2048 .f32 := A.arg15.view.readCov A.ML (Rect.unit (s := S1x20096) ![0, 14336] S1x2048.size inb_S1x20096_S1x2048_0_14336).toLoadRect
/-- Chunk 8 of the columns' largest overlaps. -/
def mi : Vec Ideal S1x2048 .f32 := A.arg15.view.readCov A.ML (Rect.unit (s := S1x20096) ![0, 16384] S1x2048.size inb_S1x20096_S1x2048_0_16384).toLoadRect
/-- Chunk 9 of the columns' largest overlaps. -/
def mj : Vec Ideal S1x1664 .f32 := A.arg15.view.readCov A.ML (Rect.unit (s := S1x20096) ![0, 18432] S1x1664.size inb_S1x20096_S1x1664_0_18432).toLoadRect
/-- The class array after the second pass. -/
def K0 : List (View.Piece (Elt Ideal) S1x80x20096 .f32) :=
  [⟨Rect.unit (s := S1x80x20096) ![0, 0, 18432] S1x80x1664.size inb_S1x80x20096_S1x80x1664_0_0_18432, clsN A.oh A.s9 A.c9⟩,
    ⟨Rect.unit (s := S1x80x20096) ![0, 0, 16384] S1x80x2048.size inb_S1x80x20096_S1x80x2048_0_0_16384, clsW A.oh A.s8 A.c8⟩,
    ⟨Rect.unit (s := S1x80x20096) ![0, 0, 14336] S1x80x2048.size inb_S1x80x20096_S1x80x2048_0_0_14336, clsW A.oh A.s7 A.c7⟩,
    ⟨Rect.unit (s := S1x80x20096) ![0, 0, 12288] S1x80x2048.size inb_S1x80x20096_S1x80x2048_0_0_12288, clsW A.oh A.s6 A.c6⟩,
    ⟨Rect.unit (s := S1x80x20096) ![0, 0, 10240] S1x80x2048.size inb_S1x80x20096_S1x80x2048_0_0_10240, clsW A.oh A.s5 A.c5⟩,
    ⟨Rect.unit (s := S1x80x20096) ![0, 0, 8192] S1x80x2048.size inb_S1x80x20096_S1x80x2048_0_0_8192, clsW A.oh A.s4 A.c4⟩,
    ⟨Rect.unit (s := S1x80x20096) ![0, 0, 6144] S1x80x2048.size inb_S1x80x20096_S1x80x2048_0_0_6144, clsW A.oh A.s3 A.c3⟩,
    ⟨Rect.unit (s := S1x80x20096) ![0, 0, 4096] S1x80x2048.size inb_S1x80x20096_S1x80x2048_0_0_4096, clsW A.oh A.s2 A.c2⟩,
    ⟨Rect.unit (s := S1x80x20096) ![0, 0, 2048] S1x80x2048.size inb_S1x80x20096_S1x80x2048_0_0_2048, clsW A.oh A.s1 A.c1⟩,
    ⟨Rect.unit (s := S1x80x20096) ![0, 0, 0] S1x80x2048.size inb_S1x80x20096_S1x80x2048_0_0_0, clsW A.oh A.s0 A.c0⟩]
/-- The class array after chunk 0 of the third pass. -/
def K1 : List (View.Piece (Elt Ideal) S1x80x20096 .f32) :=
  ⟨Rect.unit (s := S1x80x20096) ![0, 0, 0] S1x80x2048.size inb_S1x80x20096_S1x80x2048_0_0_0, sclW A.rat A.s0 A.ma
    (A.arg9.view.readCov A.K0 (Rect.unit (s := S1x80x20096) ![0, 0, 0] S1x80x2048.size inb_S1x80x20096_S1x80x2048_0_0_0).toLoadRect)⟩ :: A.K0
/-- The class array after chunk 1 of the third pass. -/
def K2 : List (View.Piece (Elt Ideal) S1x80x20096 .f32) :=
  ⟨Rect.unit (s := S1x80x20096) ![0, 0, 2048] S1x80x2048.size inb_S1x80x20096_S1x80x2048_0_0_2048, sclW A.rat A.s1 A.mb
    (A.arg9.view.readCov A.K1 (Rect.unit (s := S1x80x20096) ![0, 0, 2048] S1x80x2048.size inb_S1x80x20096_S1x80x2048_0_0_2048).toLoadRect)⟩ :: A.K1
/-- The class array after chunk 2 of the third pass. -/
def K3 : List (View.Piece (Elt Ideal) S1x80x20096 .f32) :=
  ⟨Rect.unit (s := S1x80x20096) ![0, 0, 4096] S1x80x2048.size inb_S1x80x20096_S1x80x2048_0_0_4096, sclW A.rat A.s2 A.mc
    (A.arg9.view.readCov A.K2 (Rect.unit (s := S1x80x20096) ![0, 0, 4096] S1x80x2048.size inb_S1x80x20096_S1x80x2048_0_0_4096).toLoadRect)⟩ :: A.K2
/-- The class array after chunk 3 of the third pass. -/
def K4 : List (View.Piece (Elt Ideal) S1x80x20096 .f32) :=
  ⟨Rect.unit (s := S1x80x20096) ![0, 0, 6144] S1x80x2048.size inb_S1x80x20096_S1x80x2048_0_0_6144, sclW A.rat A.s3 A.md
    (A.arg9.view.readCov A.K3 (Rect.unit (s := S1x80x20096) ![0, 0, 6144] S1x80x2048.size inb_S1x80x20096_S1x80x2048_0_0_6144).toLoadRect)⟩ :: A.K3
/-- The class array after chunk 4 of the third pass. -/
def K5 : List (View.Piece (Elt Ideal) S1x80x20096 .f32) :=
  ⟨Rect.unit (s := S1x80x20096) ![0, 0, 8192] S1x80x2048.size inb_S1x80x20096_S1x80x2048_0_0_8192, sclW A.rat A.s4 A.me
    (A.arg9.view.readCov A.K4 (Rect.unit (s := S1x80x20096) ![0, 0, 8192] S1x80x2048.size inb_S1x80x20096_S1x80x2048_0_0_8192).toLoadRect)⟩ :: A.K4
/-- The class array after chunk 5 of the third pass. -/
def K6 : List (View.Piece (Elt Ideal) S1x80x20096 .f32) :=
  ⟨Rect.unit (s := S1x80x20096) ![0, 0, 10240] S1x80x2048.size inb_S1x80x20096_S1x80x2048_0_0_10240, sclW A.rat A.s5 A.mf
    (A.arg9.view.readCov A.K5 (Rect.unit (s := S1x80x20096) ![0, 0, 10240] S1x80x2048.size inb_S1x80x20096_S1x80x2048_0_0_10240).toLoadRect)⟩ :: A.K5
/-- The class array after chunk 6 of the third pass. -/
def K7 : List (View.Piece (Elt Ideal) S1x80x20096 .f32) :=
  ⟨Rect.unit (s := S1x80x20096) ![0, 0, 12288] S1x80x2048.size inb_S1x80x20096_S1x80x2048_0_0_12288, sclW A.rat A.s6 A.mg
    (A.arg9.view.readCov A.K6 (Rect.unit (s := S1x80x20096) ![0, 0, 12288] S1x80x2048.size inb_S1x80x20096_S1x80x2048_0_0_12288).toLoadRect)⟩ :: A.K6
/-- The class array after chunk 7 of the third pass. -/
def K8 : List (View.Piece (Elt Ideal) S1x80x20096 .f32) :=
  ⟨Rect.unit (s := S1x80x20096) ![0, 0, 14336] S1x80x2048.size inb_S1x80x20096_S1x80x2048_0_0_14336, sclW A.rat A.s7 A.mh
    (A.arg9.view.readCov A.K7 (Rect.unit (s := S1x80x20096) ![0, 0, 14336] S1x80x2048.size inb_S1x80x20096_S1x80x2048_0_0_14336).toLoadRect)⟩ :: A.K7
/-- The class array after chunk 8 of the third pass. -/
def K9 : List (View.Piece (Elt Ideal) S1x80x20096 .f32) :=
  ⟨Rect.unit (s := S1x80x20096) ![0, 0, 16384] S1x80x2048.size inb_S1x80x20096_S1x80x2048_0_0_16384, sclW A.rat A.s8 A.mi
    (A.arg9.view.readCov A.K8 (Rect.unit (s := S1x80x20096) ![0, 0, 16384] S1x80x2048.size inb_S1x80x20096_S1x80x2048_0_0_16384).toLoadRect)⟩ :: A.K8
/-- The class array after chunk 9 of the third pass. -/
def K10 : List (View.Piece (Elt Ideal) S1x80x20096 .f32) :=
  ⟨Rect.unit (s := S1x80x20096) ![0, 0, 18432] S1x80x1664.size inb_S1x80x20096_S1x80x1664_0_0_18432, sclN A.rat A.s9 A.mj
    (A.arg9.view.readCov A.K9 (Rect.unit (s := S1x80x20096) ![0, 0, 18432] S1x80x1664.size inb_S1x80x20096_S1x80x1664_0_0_18432).toLoadRect)⟩ :: A.K9
/-- The box array after the second pass. -/
def B : List (View.Piece (Elt Ideal) S1x4x20096 .f32) :=
  [⟨Rect.unit (s := S1x4x20096) ![0, 0, 18432] S1x4x1664.size inb_S1x4x20096_S1x4x1664_0_0_18432, boxN A.gt A.s9 A.c9⟩,
    ⟨Rect.unit (s := S1x4x20096) ![0, 0, 16384] S1x4x2048.size inb_S1x4x20096_S1x4x2048_0_0_16384, boxW A.gt A.s8 A.c8⟩,
    ⟨Rect.unit (s := S1x4x20096) ![0, 0, 14336] S1x4x2048.size inb_S1x4x20096_S1x4x2048_0_0_14336, boxW A.gt A.s7 A.c7⟩,
    ⟨Rect.unit (s := S1x4x20096) ![0, 0, 12288] S1x4x2048.size inb_S1x4x20096_S1x4x2048_0_0_12288, boxW A.gt A.s6 A.c6⟩,
    ⟨Rect.unit (s := S1x4x20096) ![0, 0, 10240] S1x4x2048.size inb_S1x4x20096_S1x4x2048_0_0_10240, boxW A.gt A.s5 A.c5⟩,
    ⟨Rect.unit (s := S1x4x20096) ![0, 0, 8192] S1x4x2048.size inb_S1x4x20096_S1x4x2048_0_0_8192, boxW A.gt A.s4 A.c4⟩,
    ⟨Rect.unit (s := S1x4x20096) ![0, 0, 6144] S1x4x2048.size inb_S1x4x20096_S1x4x2048_0_0_6144, boxW A.gt A.s3 A.c3⟩,
    ⟨Rect.unit (s := S1x4x20096) ![0, 0, 4096] S1x4x2048.size inb_S1x4x20096_S1x4x2048_0_0_4096, boxW A.gt A.s2 A.c2⟩,
    ⟨Rect.unit (s := S1x4x20096) ![0, 0, 2048] S1x4x2048.size inb_S1x4x20096_S1x4x2048_0_0_2048, boxW A.gt A.s1 A.c1⟩,
    ⟨Rect.unit (s := S1x4x20096) ![0, 0, 0] S1x4x2048.size inb_S1x4x20096_S1x4x2048_0_0_0, boxW A.gt A.s0 A.c0⟩]

set_option maxRecDepth 100000

/-- The second pass stores the columns' largest overlaps. -/
theorem ML_eq : A.ML =
  [⟨Rect.unit (s := S1x20096) ![0, 18432] S1x1664.size inb_S1x20096_S1x1664_0_18432, maN A.s9 A.c9⟩,
    ⟨Rect.unit (s := S1x20096) ![0, 16384] S1x2048.size inb_S1x20096_S1x2048_0_16384, maW A.s8 A.c8⟩,
    ⟨Rect.unit (s := S1x20096) ![0, 14336] S1x2048.size inb_S1x20096_S1x2048_0_14336, maW A.s7 A.c7⟩,
    ⟨Rect.unit (s := S1x20096) ![0, 12288] S1x2048.size inb_S1x20096_S1x2048_0_12288, maW A.s6 A.c6⟩,
    ⟨Rect.unit (s := S1x20096) ![0, 10240] S1x2048.size inb_S1x20096_S1x2048_0_10240, maW A.s5 A.c5⟩,
    ⟨Rect.unit (s := S1x20096) ![0, 8192] S1x2048.size inb_S1x20096_S1x2048_0_8192, maW A.s4 A.c4⟩,
    ⟨Rect.unit (s := S1x20096) ![0, 6144] S1x2048.size inb_S1x20096_S1x2048_0_6144, maW A.s3 A.c3⟩,
    ⟨Rect.unit (s := S1x20096) ![0, 4096] S1x2048.size inb_S1x20096_S1x2048_0_4096, maW A.s2 A.c2⟩,
    ⟨Rect.unit (s := S1x20096) ![0, 2048] S1x2048.size inb_S1x20096_S1x2048_0_2048, maW A.s1 A.c1⟩,
    ⟨Rect.unit (s := S1x20096) ![0, 0] S1x2048.size inb_S1x20096_S1x2048_0_0, maW A.s0 A.c0⟩] := by rfl

/-- A load of an array just stored whole. -/
theorem load_stored (v : View sig .tc .vmem S100x1 .f32) (w : FVec Ideal S100x1 .f32) (L : List (View.Piece (Elt Ideal) S100x1 .f32)) :
    v.readCov (⟨Rect.unit (s := S100x1) ![0, 0] S100x1.size inb_S100x1_S100x1_0_0, w⟩ :: L) (Rect.unit (s := S100x1) ![0, 0] S100x1.size inb_S100x1_S100x1_0_0).toLoadRect = w :=
  View.readCov_cons_toLoadRect v (Rect.unit (s := S100x1) ![0, 0] S100x1.size inb_S100x1_S100x1_0_0) w L

/-- What the rows' largest overlaps are found to be after 0 chunks. -/
theorem p0_load : A.arg13.view.readCov (sl.HS2_1 (F := Ideal) ) (Rect.unit (s := S100x1) ![0, 0] S100x1.size inb_S100x1_S100x1_0_0).toLoadRect = p0 := by
  exact load_stored _ _ _
/-- What the rows' largest overlaps are found to be after 1 chunks. -/
theorem p1_load : A.arg13.view.readCov (sl.HS2_2 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect = A.p1 := by
  refine (load_stored _ (movW A.s0 A.c0 (A.arg13.view.readCov (sl.HS2_1 (F := Ideal) ) (Rect.unit (s := S100x1) ![0, 0] S100x1.size inb_S100x1_S100x1_0_0).toLoadRect)) _).trans ?_
  rw [p0_load]; rfl
/-- What the rows' largest overlaps are found to be after 2 chunks. -/
theorem p2_load : A.arg13.view.readCov (sl.HS2_3 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect = A.p2 := by
  refine (load_stored _ (movW A.s1 A.c1 (A.arg13.view.readCov (sl.HS2_2 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect)) _).trans ?_
  rw [p1_load]; rfl
/-- What the rows' largest overlaps are found to be after 3 chunks. -/
theorem p3_load : A.arg13.view.readCov (sl.HS2_4 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect = A.p3 := by
  refine (load_stored _ (movW A.s2 A.c2 (A.arg13.view.readCov (sl.HS2_3 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect)) _).trans ?_
  rw [p2_load]; rfl
/-- What the rows' largest overlaps are found to be after 4 chunks. -/
theorem p4_load : A.arg13.view.readCov (sl.HS2_5 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect = A.p4 := by
  refine (load_stored _ (movW A.s3 A.c3 (A.arg13.view.readCov (sl.HS2_4 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect)) _).trans ?_
  rw [p3_load]; rfl
/-- What the rows' largest overlaps are found to be after 5 chunks. -/
theorem p5_load : A.arg13.view.readCov (sl.HS2_6 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect = A.p5 := by
  refine (load_stored _ (movW A.s4 A.c4 (A.arg13.view.readCov (sl.HS2_5 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect)) _).trans ?_
  rw [p4_load]; rfl
/-- What the rows' largest overlaps are found to be after 6 chunks. -/
theorem p6_load : A.arg13.view.readCov (sl.HS2_7 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect = A.p6 := by
  refine (load_stored _ (movW A.s5 A.c5 (A.arg13.view.readCov (sl.HS2_6 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect)) _).trans ?_
  rw [p5_load]; rfl
/-- What the rows' largest overlaps are found to be after 7 chunks. -/
theorem p7_load : A.arg13.view.readCov (sl.HS2_8 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect = A.p7 := by
  refine (load_stored _ (movW A.s6 A.c6 (A.arg13.view.readCov (sl.HS2_7 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect)) _).trans ?_
  rw [p6_load]; rfl
/-- What the rows' largest overlaps are found to be after 8 chunks. -/
theorem p8_load : A.arg13.view.readCov (sl.HS2_9 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect = A.p8 := by
  refine (load_stored _ (movW A.s7 A.c7 (A.arg13.view.readCov (sl.HS2_8 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect)) _).trans ?_
  rw [p7_load]; rfl
/-- What the rows' largest overlaps are found to be after 9 chunks. -/
theorem p9_load : A.arg13.view.readCov (sl.HS2_10 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect = A.p9 := by
  refine (load_stored _ (movW A.s8 A.c8 (A.arg13.view.readCov (sl.HS2_9 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect)) _).trans ?_
  rw [p8_load]; rfl
/-- What the rows' largest overlaps are found to be after 10 chunks. -/
theorem p10_load : A.arg13.view.readCov (sl.HS2_11 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect = A.p10 := by
  refine (load_stored _ (movN A.s9 A.c9 (A.arg13.view.readCov (sl.HS2_10 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect)) _).trans ?_
  rw [p9_load]; rfl
/-- What the rows' largest metrics are found to be after 0 chunks. -/
theorem t0_load : A.arg14.view.readCov (sl.HS3_1 (F := Ideal) ) (Rect.unit (s := S100x1) ![0, 0] S100x1.size inb_S100x1_S100x1_0_0).toLoadRect = t0 := by
  exact load_stored _ _ _
/-- What the rows' largest metrics are found to be after 1 chunks. -/
theorem t1_load : A.arg14.view.readCov (sl.HS3_2 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect = A.t1 := by
  refine (load_stored _ (malW A.s0 (A.arg14.view.readCov (sl.HS3_1 (F := Ideal) ) (Rect.unit (s := S100x1) ![0, 0] S100x1.size inb_S100x1_S100x1_0_0).toLoadRect)) _).trans ?_
  rw [t0_load]; rfl
/-- What the rows' largest metrics are found to be after 2 chunks. -/
theorem t2_load : A.arg14.view.readCov (sl.HS3_3 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect = A.t2 := by
  refine (load_stored _ (malW A.s1 (A.arg14.view.readCov (sl.HS3_2 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect)) _).trans ?_
  rw [t1_load]; rfl
/-- What the rows' largest metrics are found to be after 3 chunks. -/
theorem t3_load : A.arg14.view.readCov (sl.HS3_4 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect = A.t3 := by
  refine (load_stored _ (malW A.s2 (A.arg14.view.readCov (sl.HS3_3 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect)) _).trans ?_
  rw [t2_load]; rfl
/-- What the rows' largest metrics are found to be after 4 chunks. -/
theorem t4_load : A.arg14.view.readCov (sl.HS3_5 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect = A.t4 := by
  refine (load_stored _ (malW A.s3 (A.arg14.view.readCov (sl.HS3_4 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect)) _).trans ?_
  rw [t3_load]; rfl
/-- What the rows' largest metrics are found to be after 5 chunks. -/
theorem t5_load : A.arg14.view.readCov (sl.HS3_6 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect = A.t5 := by
  refine (load_stored _ (malW A.s4 (A.arg14.view.readCov (sl.HS3_5 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect)) _).trans ?_
  rw [t4_load]; rfl
/-- What the rows' largest metrics are found to be after 6 chunks. -/
theorem t6_load : A.arg14.view.readCov (sl.HS3_7 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect = A.t6 := by
  refine (load_stored _ (malW A.s5 (A.arg14.view.readCov (sl.HS3_6 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect)) _).trans ?_
  rw [t5_load]; rfl
/-- What the rows' largest metrics are found to be after 7 chunks. -/
theorem t7_load : A.arg14.view.readCov (sl.HS3_8 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect = A.t7 := by
  refine (load_stored _ (malW A.s6 (A.arg14.view.readCov (sl.HS3_7 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect)) _).trans ?_
  rw [t6_load]; rfl
/-- What the rows' largest metrics are found to be after 8 chunks. -/
theorem t8_load : A.arg14.view.readCov (sl.HS3_9 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect = A.t8 := by
  refine (load_stored _ (malW A.s7 (A.arg14.view.readCov (sl.HS3_8 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect)) _).trans ?_
  rw [t7_load]; rfl
/-- What the rows' largest metrics are found to be after 9 chunks. -/
theorem t9_load : A.arg14.view.readCov (sl.HS3_10 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect = A.t9 := by
  refine (load_stored _ (malW A.s8 (A.arg14.view.readCov (sl.HS3_9 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect)) _).trans ?_
  rw [t8_load]; rfl
/-- What the rows' largest metrics are found to be after 10 chunks. -/
theorem t10_load : A.arg14.view.readCov (sl.HS3_11 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect = A.t10 := by
  refine (load_stored _ (malN A.s9 (A.arg14.view.readCov (sl.HS3_10 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect)) _).trans ?_
  rw [t9_load]; rfl

/-- The ratios are made of the rows' largest values after all chunks. -/
theorem rat_eq : sl.r_397 (F := Ideal) A.c A.arg1 A.harg1 A.arg2 A.harg2 A.arg3 A.harg3 A.arg5 A.harg5 A.arg6 A.harg6 A.arg11 A.arg12 A.arg13 A.arg14 A.x0 A.x1 A.x2 A.x4 A.x5 = A.rat := by
  show k0_pay624 (F := Ideal) (A.arg13.view.readCov (sl.HS2_11 (F := Ideal) A.c A.arg1 A.harg1 A.arg2 A.harg2 A.arg3 A.harg3 A.arg5 A.harg5 A.arg6 A.harg6 A.arg11 A.arg12 A.arg13 A.x0 A.x1 A.x2 A.x4 A.x5) (Rect.unit (s := S100x1) ![0, 0] S100x1.size inb_S100x1_S100x1_0_0).toLoadRect)
    (A.arg14.view.readCov (sl.HS3_11 (F := Ideal) A.c A.arg1 A.harg1 A.arg2 A.harg2 A.arg3 A.harg3 A.arg5 A.harg5 A.arg6 A.harg6 A.arg11 A.arg14 A.x0 A.x1 A.x2 A.x4 A.x5) (Rect.unit (s := S100x1) ![0, 0] S100x1.size inb_S100x1_S100x1_0_0).toLoadRect) = _
  rw [p10_load, t10_load]; rfl

/-- The class array of the run after 0 chunks of the third pass. -/
theorem K0_eq : sl.H8_10 (F := Ideal) A.c A.arg1 A.harg1 A.arg2 A.harg2 A.arg3 A.harg3 A.arg4 A.harg4 A.arg5 A.harg5 A.arg6 A.harg6 A.arg11 A.arg12 A.x0 A.x1 A.x2 A.x3 A.x4 A.x5 = A.K0 := by
  rfl
/-- The class array of the run after 1 chunks of the third pass. -/
theorem K1_eq : sl.H8_11 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 = A.K1 := by
  show (⟨Rect.unit (s := S1x80x20096) ![0, 0, 0] S1x80x2048.size inb_S1x80x20096_S1x80x2048_0_0_0, sclW (sl.r_397 (F := Ideal) A.c A.arg1 A.harg1 A.arg2 A.harg2 A.arg3 A.harg3 A.arg5 A.harg5 A.arg6 A.harg6 A.arg11 A.arg12 A.arg13 A.arg14 A.x0 A.x1 A.x2 A.x4 A.x5) A.s0 A.ma
    (A.arg9.view.readCov (sl.H8_10 (F := Ideal) A.c A.arg1 A.harg1 A.arg2 A.harg2 A.arg3 A.harg3 A.arg4 A.harg4 A.arg5 A.harg5 A.arg6 A.harg6 A.arg11 A.arg12 A.x0 A.x1 A.x2 A.x3 A.x4 A.x5) (Rect.unit (s := S1x80x20096) ![0, 0, 0] S1x80x2048.size inb_S1x80x20096_S1x80x2048_0_0_0).toLoadRect)⟩ :: sl.H8_10 (F := Ideal) A.c A.arg1 A.harg1 A.arg2 A.harg2 A.arg3 A.harg3 A.arg4 A.harg4 A.arg5 A.harg5 A.arg6 A.harg6 A.arg11 A.arg12 A.x0 A.x1 A.x2 A.x3 A.x4 A.x5 : List (View.Piece (Elt Ideal) S1x80x20096 .f32)) = _
  rw [rat_eq, K0_eq]; rfl
/-- The class array of the run after 2 chunks of the third pass. -/
theorem K2_eq : sl.H8_12 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 = A.K2 := by
  show (⟨Rect.unit (s := S1x80x20096) ![0, 0, 2048] S1x80x2048.size inb_S1x80x20096_S1x80x2048_0_0_2048, sclW (sl.r_397 (F := Ideal) A.c A.arg1 A.harg1 A.arg2 A.harg2 A.arg3 A.harg3 A.arg5 A.harg5 A.arg6 A.harg6 A.arg11 A.arg12 A.arg13 A.arg14 A.x0 A.x1 A.x2 A.x4 A.x5) A.s1 A.mb
    (A.arg9.view.readCov (sl.H8_11 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5) (Rect.unit (s := S1x80x20096) ![0, 0, 2048] S1x80x2048.size inb_S1x80x20096_S1x80x2048_0_0_2048).toLoadRect)⟩ :: sl.H8_11 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 : List (View.Piece (Elt Ideal) S1x80x20096 .f32)) = _
  rw [rat_eq, K1_eq]; rfl
/-- The class array of the run after 3 chunks of the third pass. -/
theorem K3_eq : sl.H8_13 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 = A.K3 := by
  show (⟨Rect.unit (s := S1x80x20096) ![0, 0, 4096] S1x80x2048.size inb_S1x80x20096_S1x80x2048_0_0_4096, sclW (sl.r_397 (F := Ideal) A.c A.arg1 A.harg1 A.arg2 A.harg2 A.arg3 A.harg3 A.arg5 A.harg5 A.arg6 A.harg6 A.arg11 A.arg12 A.arg13 A.arg14 A.x0 A.x1 A.x2 A.x4 A.x5) A.s2 A.mc
    (A.arg9.view.readCov (sl.H8_12 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5) (Rect.unit (s := S1x80x20096) ![0, 0, 4096] S1x80x2048.size inb_S1x80x20096_S1x80x2048_0_0_4096).toLoadRect)⟩ :: sl.H8_12 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 : List (View.Piece (Elt Ideal) S1x80x20096 .f32)) = _
  rw [rat_eq, K2_eq]; rfl
/-- The class array of the run after 4 chunks of the third pass. -/
theorem K4_eq : sl.H8_14 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 = A.K4 := by
  show (⟨Rect.unit (s := S1x80x20096) ![0, 0, 6144] S1x80x2048.size inb_S1x80x20096_S1x80x2048_0_0_6144, sclW (sl.r_397 (F := Ideal) A.c A.arg1 A.harg1 A.arg2 A.harg2 A.arg3 A.harg3 A.arg5 A.harg5 A.arg6 A.harg6 A.arg11 A.arg12 A.arg13 A.arg14 A.x0 A.x1 A.x2 A.x4 A.x5) A.s3 A.md
    (A.arg9.view.readCov (sl.H8_13 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5) (Rect.unit (s := S1x80x20096) ![0, 0, 6144] S1x80x2048.size inb_S1x80x20096_S1x80x2048_0_0_6144).toLoadRect)⟩ :: sl.H8_13 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 : List (View.Piece (Elt Ideal) S1x80x20096 .f32)) = _
  rw [rat_eq, K3_eq]; rfl
/-- The class array of the run after 5 chunks of the third pass. -/
theorem K5_eq : sl.H8_15 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 = A.K5 := by
  show (⟨Rect.unit (s := S1x80x20096) ![0, 0, 8192] S1x80x2048.size inb_S1x80x20096_S1x80x2048_0_0_8192, sclW (sl.r_397 (F := Ideal) A.c A.arg1 A.harg1 A.arg2 A.harg2 A.arg3 A.harg3 A.arg5 A.harg5 A.arg6 A.harg6 A.arg11 A.arg12 A.arg13 A.arg14 A.x0 A.x1 A.x2 A.x4 A.x5) A.s4 A.me
    (A.arg9.view.readCov (sl.H8_14 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5) (Rect.unit (s := S1x80x20096) ![0, 0, 8192] S1x80x2048.size inb_S1x80x20096_S1x80x2048_0_0_8192).toLoadRect)⟩ :: sl.H8_14 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 : List (View.Piece (Elt Ideal) S1x80x20096 .f32)) = _
  rw [rat_eq, K4_eq]; rfl
/-- The class array of the run after 6 chunks of the third pass. -/
theorem K6_eq : sl.H8_16 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 = A.K6 := by
  show (⟨Rect.unit (s := S1x80x20096) ![0, 0, 10240] S1x80x2048.size inb_S1x80x20096_S1x80x2048_0_0_10240, sclW (sl.r_397 (F := Ideal) A.c A.arg1 A.harg1 A.arg2 A.harg2 A.arg3 A.harg3 A.arg5 A.harg5 A.arg6 A.harg6 A.arg11 A.arg12 A.arg13 A.arg14 A.x0 A.x1 A.x2 A.x4 A.x5) A.s5 A.mf
    (A.arg9.view.readCov (sl.H8_15 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5) (Rect.unit (s := S1x80x20096) ![0, 0, 10240] S1x80x2048.size inb_S1x80x20096_S1x80x2048_0_0_10240).toLoadRect)⟩ :: sl.H8_15 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 : List (View.Piece (Elt Ideal) S1x80x20096 .f32)) = _
  rw [rat_eq, K5_eq]; rfl
/-- The class array of the run after 7 chunks of the third pass. -/
theorem K7_eq : sl.H8_17 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 = A.K7 := by
  show (⟨Rect.unit (s := S1x80x20096) ![0, 0, 12288] S1x80x2048.size inb_S1x80x20096_S1x80x2048_0_0_12288, sclW (sl.r_397 (F := Ideal) A.c A.arg1 A.harg1 A.arg2 A.harg2 A.arg3 A.harg3 A.arg5 A.harg5 A.arg6 A.harg6 A.arg11 A.arg12 A.arg13 A.arg14 A.x0 A.x1 A.x2 A.x4 A.x5) A.s6 A.mg
    (A.arg9.view.readCov (sl.H8_16 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5) (Rect.unit (s := S1x80x20096) ![0, 0, 12288] S1x80x2048.size inb_S1x80x20096_S1x80x2048_0_0_12288).toLoadRect)⟩ :: sl.H8_16 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 : List (View.Piece (Elt Ideal) S1x80x20096 .f32)) = _
  rw [rat_eq, K6_eq]; rfl
/-- The class array of the run after 8 chunks of the third pass. -/
theorem K8_eq : sl.H8_18 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 = A.K8 := by
  show (⟨Rect.unit (s := S1x80x20096) ![0, 0, 14336] S1x80x2048.size inb_S1x80x20096_S1x80x2048_0_0_14336, sclW (sl.r_397 (F := Ideal) A.c A.arg1 A.harg1 A.arg2 A.harg2 A.arg3 A.harg3 A.arg5 A.harg5 A.arg6 A.harg6 A.arg11 A.arg12 A.arg13 A.arg14 A.x0 A.x1 A.x2 A.x4 A.x5) A.s7 A.mh
    (A.arg9.view.readCov (sl.H8_17 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5) (Rect.unit (s := S1x80x20096) ![0, 0, 14336] S1x80x2048.size inb_S1x80x20096_S1x80x2048_0_0_14336).toLoadRect)⟩ :: sl.H8_17 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 : List (View.Piece (Elt Ideal) S1x80x20096 .f32)) = _
  rw [rat_eq, K7_eq]; rfl
/-- The class array of the run after 9 chunks of the third pass. -/
theorem K9_eq : sl.H8_19 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 = A.K9 := by
  show (⟨Rect.unit (s := S1x80x20096) ![0, 0, 16384] S1x80x2048.size inb_S1x80x20096_S1x80x2048_0_0_16384, sclW (sl.r_397 (F := Ideal) A.c A.arg1 A.harg1 A.arg2 A.harg2 A.arg3 A.harg3 A.arg5 A.harg5 A.arg6 A.harg6 A.arg11 A.arg12 A.arg13 A.arg14 A.x0 A.x1 A.x2 A.x4 A.x5) A.s8 A.mi
    (A.arg9.view.readCov (sl.H8_18 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5) (Rect.unit (s := S1x80x20096) ![0, 0, 16384] S1x80x2048.size inb_S1x80x20096_S1x80x2048_0_0_16384).toLoadRect)⟩ :: sl.H8_18 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 : List (View.Piece (Elt Ideal) S1x80x20096 .f32)) = _
  rw [rat_eq, K8_eq]; rfl

variable (i : grid0.Coords) (h8 : A.arg8.IsWhole) (h9 : A.arg9.IsWhole) (h10 : A.arg10.IsWhole) (h11 : A.arg11.IsWhole)
  (h12 : A.arg12.IsWhole) (h13 : A.arg13.IsWhole) (h14 : A.arg14.IsWhole) (h15 : A.arg15.IsWhole)

/-- The boxes of the run. -/
theorem run_box : (kernelRun0_A (F := Ideal) A.c i A.arg1 A.harg1 A.arg2 A.harg2 A.arg3 A.harg3 A.arg4 A.harg4 A.arg5 A.harg5 A.arg6 A.harg6 A.arg7 A.harg7
      A.arg8 h8 A.arg9 h9 A.arg10 h10 A.arg11 h11 A.arg12 h12 A.arg13 h13 A.arg14 h14 A.arg15 h15 A.x0 A.x1 A.x2 A.x3 A.x4 A.x5 A.x6).1 = A.B := by
  unfold kernelRun0_A
  dsimp only
  rfl

/-- The classes of the run. -/
theorem run_cls : (kernelRun0_A (F := Ideal) A.c i A.arg1 A.harg1 A.arg2 A.harg2 A.arg3 A.harg3 A.arg4 A.harg4 A.arg5 A.harg5 A.arg6 A.harg6 A.arg7 A.harg7
      A.arg8 h8 A.arg9 h9 A.arg10 h10 A.arg11 h11 A.arg12 h12 A.arg13 h13 A.arg14 h14 A.arg15 h15 A.x0 A.x1 A.x2 A.x3 A.x4 A.x5 A.x6).2.1 = A.K10 := by
  unfold kernelRun0_A
  dsimp only
  show (⟨Rect.unit (s := S1x80x20096) ![0, 0, 18432] S1x80x1664.size inb_S1x80x20096_S1x80x1664_0_0_18432, sclN (sl.r_397 (F := Ideal) A.c A.arg1 A.harg1 A.arg2 A.harg2 A.arg3 A.harg3 A.arg5 A.harg5 A.arg6 A.harg6 A.arg11 A.arg12 A.arg13 A.arg14 A.x0 A.x1 A.x2 A.x4 A.x5) A.s9 A.mj
    (A.arg9.view.readCov (sl.H8_19 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5) (Rect.unit (s := S1x80x20096) ![0, 0, 18432] S1x80x1664.size inb_S1x80x20096_S1x80x1664_0_0_18432).toLoadRect)⟩ :: sl.H8_19 (F := Ideal) A.c A.arg1 A.harg1 A.arg2 A.harg2 A.arg3 A.harg3 A.arg4 A.harg4 A.arg5 A.harg5 A.arg6 A.harg6 A.arg9 A.arg11 A.arg12 A.arg13 A.arg14 A.arg15 A.x0 A.x1 A.x2 A.x3 A.x4 A.x5 : List (View.Piece (Elt Ideal) S1x80x20096 .f32)) = _
  rw [rat_eq, K9_eq]; rfl

/-- The foreground marks of the run. -/
theorem run_fg : (kernelRun0_A (F := Ideal) A.c i A.arg1 A.harg1 A.arg2 A.harg2 A.arg3 A.harg3 A.arg4 A.harg4 A.arg5 A.harg5 A.arg6 A.harg6 A.arg7 A.harg7
      A.arg8 h8 A.arg9 h9 A.arg10 h10 A.arg11 h11 A.arg12 h12 A.arg13 h13 A.arg14 h14 A.arg15 h15 A.x0 A.x1 A.x2 A.x3 A.x4 A.x5 A.x6).2.2.1 = [⟨Rect.unit (s := S1x1x20096) ![0, 0, 0] S1x1x20096.size inb_S1x1x20096_S1x1x20096_0_0_0, k0_pay2 (F := Ideal)⟩] := by
  unfold kernelRun0_A
  dsimp only

end Inp

end Cert.Asg
-- ==== Proof.RoundStep.lean ====
module

public import proofs.«01_k».proof.Proof.RoundDefs
public import proofs.«01_k».proof.Proof.Argmax

@[expose] public section

/-!
What one round does to the rows: it finds every row's first largest place, and puts the negative of the value there.
-/

noncomputable section

namespace Cert.Asg

open Idealize.ShloMosaic Cert.KernelIdeal Cert.KernelIdeal.Gen

/-- The vectors `m` and `i` are the rows' largest values and their first columns. -/
def Found (S : Fin 100 → Fin 20096 → EReal) (m : FVec Ideal S100x1 .f32) (i : IVec S100x1 32) : Prop :=
  ∀ g, m (ix2 g 0) = S g (amax (S g)) ∧ i (ix2 g 0) = BitVec.ofNat 32 (amax (S g)).1

/-- What a chunk's largest value and first column say of the row's. -/
def ChunkOf (off w : ℕ) (f : Fin 20096 → EReal) (c : EReal) (i : BitVec 32) : Prop :=
  c ≤ f (amax f) ∧ ∃ k < 20096, i = BitVec.ofNat 32 k ∧ (c = f (amax f) → (amax f).1 ≤ k)
    ∧ (off ≤ (amax f).1 → (amax f).1 < off + w → c = f (amax f) ∧ k = (amax f).1)

/-- A chunk whose first largest place is known says this of the row's. -/
theorem chunkOf_top {off w : ℕ} (ho : off + w ≤ 20096) {f : Fin 20096 → EReal} {u : Fin w → EReal}
    (hu : ∀ (b : Fin w) (hb : off + b.1 < 20096), u b = f ⟨off + b.1, hb⟩) {k : Fin w} (hk : Top u k) :
    ChunkOf off w f (u k) (BitVec.ofNat 32 (off + k.1)) := by
  have hT := amax_top f
  have hkl := k.2
  have hb : off + k.1 < 20096 := by omega
  refine ⟨?_, off + k.1, by omega, rfl, ?_, ?_⟩
  · rw [hu k hb]; exact hT.1 _
  · intro h
    rw [hu k hb] at h
    by_contra hlt
    exact absurd (hT.2 ⟨off + k.1, hb⟩ (not_le.1 hlt)) (by rw [h]; exact lt_irrefl _)
  · intro h1 h2
    have hK : off + ((amax f).1 - off) = (amax f).1 := by omega
    let K : Fin w := ⟨(amax f).1 - off, by omega⟩
    have hKv : u K = f (amax f) := by
      rw [hu K (by show off + ((amax f).1 - off) < 20096; omega)]
      exact congrArg f (Fin.ext hK)
    have htop : Top u K := by
      refine ⟨fun j => ?_, fun j hj => ?_⟩
      · rw [hKv, hu j (by have := j.2; omega)]; exact hT.1 _
      · rw [hKv, hu j (by have := j.2; omega)]
        refine hT.2 _ ?_
        show off + j.1 < (amax f).1
        have : j.1 < (amax f).1 - off := hj
        omega
    have : k = K := hk.unique htop
    rw [this]
    exact ⟨hKv, hK⟩

/-- A wide chunk's largest value and first column. -/
theorem chunkOf_wide {off : ℕ} (ho : off + 4096 ≤ 20096) {f : Fin 20096 → EReal} (v : Vec Ideal S100x4096 .f32) (g : Fin 100)
    (hv : ∀ (b : Fin 4096) (hb : off + b.1 < 20096), v (ix2 g b) = f ⟨off + b.1, hb⟩) :
    ChunkOf off 4096 f (rmaxW v (ix2 g 0)) (rargW (BitVec.ofNat 32 off) v (ix2 g 0)) := by
  obtain ⟨k, hk⟩ := exists_top (by norm_num) (fun b : Fin 4096 => (v (ix2 g b) : EReal))
  have h1 : rmaxW v (ix2 g 0) = v (ix2 g k) := by
    have : rmaxW v (ix2 g 0) = Finset.fold max (Ideal.ofBits .f32 4286578688#32) (fun x => (v (ix2 g x) : EReal)) Finset.univ := by
      pointwise [rmaxW]
    rw [this]
    exact fold_max_top hk _ ofBits_negInf
  have h2 : rargW (BitVec.ofNat 32 off) v (ix2 g 0) = BitVec.ofNat 32 (off + k.1) := by
    rw [← fold_arg hk (rmaxW v (ix2 g 0)) h1 ho]
    pointwise [rargW]
  rw [h1, h2]
  exact chunkOf_top ho (u := fun b : Fin 4096 => (v (ix2 g b) : EReal)) hv hk

/-- The narrow chunk's largest value and first column. -/
theorem chunkOf_narrow {off : ℕ} (ho : off + 3712 ≤ 20096) {f : Fin 20096 → EReal} (v : Vec Ideal S100x3712 .f32) (g : Fin 100)
    (hv : ∀ (b : Fin 3712) (hb : off + b.1 < 20096), v (ix2 g b) = f ⟨off + b.1, hb⟩) :
    ChunkOf off 3712 f (rmaxN v (ix2 g 0)) (rargN (BitVec.ofNat 32 off) v (ix2 g 0)) := by
  obtain ⟨k, hk⟩ := exists_top (by norm_num) (fun b : Fin 3712 => (v (ix2 g b) : EReal))
  have h1 : rmaxN v (ix2 g 0) = v (ix2 g k) := by
    have : rmaxN v (ix2 g 0) = Finset.fold max (Ideal.ofBits .f32 4286578688#32) (fun x => (v (ix2 g x) : EReal)) Finset.univ := by
      pointwise [rmaxN]
    rw [this]
    exact fold_max_top hk _ ofBits_negInf
  have h2 : rargN (BitVec.ofNat 32 off) v (ix2 g 0) = BitVec.ofNat 32 (off + k.1) := by
    rw [← fold_arg hk (rmaxN v (ix2 g 0)) h1 ho]
    pointwise [rargN]
  rw [h1, h2]
  exact chunkOf_top ho (u := fun b : Fin 3712 => (v (ix2 g b) : EReal)) hv hk

/-- The least of six words of small numbers. -/
theorem minsi_five {z a b c d e : ℕ} (hz : z < 2 ^ 31) (ha : a < 2 ^ 31) (hb : b < 2 ^ 31) (hc : c < 2 ^ 31) (hd : d < 2 ^ 31) (he : e < 2 ^ 31) :
    IntOp.minsi (IntOp.minsi (IntOp.minsi (IntOp.minsi (IntOp.minsi (BitVec.ofNat 32 z) (BitVec.ofNat 32 a)) (BitVec.ofNat 32 b))
      (BitVec.ofNat 32 c)) (BitVec.ofNat 32 d)) (BitVec.ofNat 32 e)
      = BitVec.ofNat 32 (min (min (min (min (min z a) b) c) d) e) := by
  rw [minsi_ofNat hz ha, minsi_ofNat (by omega) hb, minsi_ofNat (by omega) hc, minsi_ofNat (by omega) hd, minsi_ofNat (by omega) he]

/-- The five chunks together give the row's largest value and its first column. -/
theorem found_of_chunks (S : Fin 100 → Fin 20096 → EReal) (a b c d : Vec Ideal S100x4096 .f32) (e : Vec Ideal S100x3712 .f32)
    (ha : ∀ g (j : Fin 4096) (hj : 0 + j.1 < 20096), a (ix2 g j) = S g ⟨0 + j.1, hj⟩)
    (hb : ∀ g (j : Fin 4096) (hj : 4096 + j.1 < 20096), b (ix2 g j) = S g ⟨4096 + j.1, hj⟩)
    (hc : ∀ g (j : Fin 4096) (hj : 8192 + j.1 < 20096), c (ix2 g j) = S g ⟨8192 + j.1, hj⟩)
    (hd : ∀ g (j : Fin 4096) (hj : 12288 + j.1 < 20096), d (ix2 g j) = S g ⟨12288 + j.1, hj⟩)
    (he : ∀ g (j : Fin 3712) (hj : 16384 + j.1 < 20096), e (ix2 g j) = S g ⟨16384 + j.1, hj⟩) :
    Found S (maxOf a b c d e) (argOf a b c d e) := by
  intro g
  have hm : maxOf a b c d e (ix2 g 0) = max (max (max (max (rmaxW a (ix2 g 0)) (rmaxW b (ix2 g 0))) (rmaxW c (ix2 g 0))) (rmaxW d (ix2 g 0)))
      (rmaxN e (ix2 g 0)) := by pointwise [maxOf]
  have hi : argOf a b c d e (ix2 g 0) =
      IntOp.minsi (IntOp.minsi (IntOp.minsi (IntOp.minsi (IntOp.minsi (20096#32)
        (if rmaxW a (ix2 g 0) = maxOf a b c d e (ix2 g 0) then rargW 0#32 a (ix2 g 0) else 20096#32))
        (if rmaxW b (ix2 g 0) = maxOf a b c d e (ix2 g 0) then rargW 4096#32 b (ix2 g 0) else 20096#32))
        (if rmaxW c (ix2 g 0) = maxOf a b c d e (ix2 g 0) then rargW 8192#32 c (ix2 g 0) else 20096#32))
        (if rmaxW d (ix2 g 0) = maxOf a b c d e (ix2 g 0) then rargW 12288#32 d (ix2 g 0) else 20096#32))
        (if rmaxN e (ix2 g 0) = maxOf a b c d e (ix2 g 0) then rargN 16384#32 e (ix2 g 0) else 20096#32) := by
    pointwise [argOf, pick]
  obtain ⟨a1, ka, ka0, a2, a3, a4⟩ := chunkOf_wide (off := 0) (by norm_num) a g (ha g)
  obtain ⟨b1, kb, kb0, b2, b3, b4⟩ := chunkOf_wide (off := 4096) (by norm_num) b g (hb g)
  obtain ⟨c1, kc, kc0, c2, c3, c4⟩ := chunkOf_wide (off := 8192) (by norm_num) c g (hc g)
  obtain ⟨d1, kd, kd0, d2, d3, d4⟩ := chunkOf_wide (off := 12288) (by norm_num) d g (hd g)
  obtain ⟨e1, ke, ke0, e2, e3, e4⟩ := chunkOf_narrow (off := 16384) (by norm_num) e g (he g)
  have hK := (amax (S g)).2
  have hM : maxOf a b c d e (ix2 g 0) = S g (amax (S g)) := by
    rw [hm]
    refine le_antisymm (max_le (max_le (max_le (max_le a1 b1) c1) d1) e1) ?_
    by_cases h1 : (amax (S g)).1 < 4096
    · rw [← (a4 (by omega) (by omega)).1]
      exact le_max_of_le_left (le_max_of_le_left (le_max_of_le_left (le_max_left _ _)))
    by_cases h2 : (amax (S g)).1 < 8192
    · rw [← (b4 (by omega) (by omega)).1]
      exact le_max_of_le_left (le_max_of_le_left (le_max_of_le_left (le_max_right _ _)))
    by_cases h3 : (amax (S g)).1 < 12288
    · rw [← (c4 (by omega) (by omega)).1]
      exact le_max_of_le_left (le_max_of_le_left (le_max_right _ _))
    by_cases h4 : (amax (S g)).1 < 16384
    · rw [← (d4 (by omega) (by omega)).1]
      exact le_max_of_le_left (le_max_right _ _)
    · rw [← (e4 (by omega) (by omega)).1]
      exact le_max_right _ _
  refine ⟨hM, ?_⟩
  rw [hi, hM]
  have hw : ∀ (p : Prop) [Decidable p] (i : BitVec 32) (k : ℕ), i = BitVec.ofNat 32 k →
      (if p then i else 20096#32) = BitVec.ofNat 32 (if p then k else 20096) := by
    intro p _ i k hk
    split
    · exact hk
    · rfl
  have hl : ∀ (p : Prop) [Decidable p] (k : ℕ), k < 20096 → (if p then k else 20096) < 2 ^ 31 := by
    intro p _ k hk
    split <;> omega
  rw [hw _ _ _ a2, hw _ _ _ b2, hw _ _ _ c2, hw _ _ _ d2, hw _ _ _ e2]
  generalize hta : (if rmaxW a (ix2 g 0) = S g (amax (S g)) then ka else 20096) = ta
  generalize htb : (if rmaxW b (ix2 g 0) = S g (amax (S g)) then kb else 20096) = tb
  generalize htc : (if rmaxW c (ix2 g 0) = S g (amax (S g)) then kc else 20096) = tc
  generalize htd : (if rmaxW d (ix2 g 0) = S g (amax (S g)) then kd else 20096) = td
  generalize hte : (if rmaxN e (ix2 g 0) = S g (amax (S g)) then ke else 20096) = te
  have la : ta ≤ 20096 ∧ (amax (S g)).1 ≤ ta ∧ (0 ≤ (amax (S g)).1 → (amax (S g)).1 < 0 + 4096 → ta = (amax (S g)).1) := by
    subst hta; split
    · rename_i h; exact ⟨ka0.le, a3 h, fun x y => (a4 x y).2⟩
    · rename_i h; exact ⟨le_rfl, hK.le, fun x y => absurd (a4 x y).1 h⟩
  have lb : tb ≤ 20096 ∧ (amax (S g)).1 ≤ tb ∧ (4096 ≤ (amax (S g)).1 → (amax (S g)).1 < 4096 + 4096 → tb = (amax (S g)).1) := by
    subst htb; split
    · rename_i h; exact ⟨kb0.le, b3 h, fun x y => (b4 x y).2⟩
    · rename_i h; exact ⟨le_rfl, hK.le, fun x y => absurd (b4 x y).1 h⟩
  have lc : tc ≤ 20096 ∧ (amax (S g)).1 ≤ tc ∧ (8192 ≤ (amax (S g)).1 → (amax (S g)).1 < 8192 + 4096 → tc = (amax (S g)).1) := by
    subst htc; split
    · rename_i h; exact ⟨kc0.le, c3 h, fun x y => (c4 x y).2⟩
    · rename_i h; exact ⟨le_rfl, hK.le, fun x y => absurd (c4 x y).1 h⟩
  have ld : td ≤ 20096 ∧ (amax (S g)).1 ≤ td ∧ (12288 ≤ (amax (S g)).1 → (amax (S g)).1 < 12288 + 4096 → td = (amax (S g)).1) := by
    subst htd; split
    · rename_i h; exact ⟨kd0.le, d3 h, fun x y => (d4 x y).2⟩
    · rename_i h; exact ⟨le_rfl, hK.le, fun x y => absurd (d4 x y).1 h⟩
  have le : te ≤ 20096 ∧ (amax (S g)).1 ≤ te ∧ (16384 ≤ (amax (S g)).1 → (amax (S g)).1 < 16384 + 3712 → te = (amax (S g)).1) := by
    subst hte; split
    · rename_i h; exact ⟨ke0.le, e3 h, fun x y => (e4 x y).2⟩
    · rename_i h; exact ⟨le_rfl, hK.le, fun x y => absurd (e4 x y).1 h⟩
  exact (minsi_five (by omega) (by omega) (by omega) (by omega) (by omega) (by omega)).trans (congrArg _ (by omega))

/-- The row after a round, read at one column. -/
theorem upd_at (S : Fin 100 → Fin 20096 → EReal) (m : FVec Ideal S100x1 .f32) (i : IVec S100x1 32) (hf : Found S m i) (g : Fin 100)
    (off b : ℕ) (hb : off + b < 20096) (z : EReal) (hz : z = S g ⟨off + b, hb⟩) :
    Scalar.select (IntOp.cmpi .eq (IntOp.addi (BitVec.ofNat 32 b) (BitVec.ofNat 32 off)) (i (ix2 g 0))) (0 - m (ix2 g 0) : EReal) z
      = nxt (S g) ⟨off + b, hb⟩ := by
  have hK := (amax (S g)).2
  rw [(hf g).1, (hf g).2, hz]
  have : IntOp.addi (BitVec.ofNat 32 b) (BitVec.ofNat 32 off) = BitVec.ofNat 32 (off + b) := by
    rw [show IntOp.addi (BitVec.ofNat 32 b) (BitVec.ofNat 32 off) = BitVec.ofNat 32 b + BitVec.ofNat 32 off from rfl,
      ← BitVec.ofNat_add, Nat.add_comm]
  rw [this]
  unfold nxt
  by_cases h : (⟨off + b, hb⟩ : Fin 20096) = amax (S g)
  · rw [if_pos h]
    have h' : off + b = (amax (S g)).1 := congrArg Fin.val h
    rw [congrArg (BitVec.ofNat 32) h']
    simp [IntOp.cmpi, Scalar.select]
  · rw [if_neg h]
    have h' : BitVec.ofNat 32 (off + b) ≠ BitVec.ofNat 32 (amax (S g)).1 := by
      intro h2
      have := congrArg BitVec.toNat h2
      rw [BitVec.toNat_ofNat, BitVec.toNat_ofNat, Nat.mod_eq_of_lt (by omega), Nat.mod_eq_of_lt (by omega)] at this
      exact h (Fin.ext this)
    have hbeq : (BitVec.ofNat 32 (off + b) == BitVec.ofNat 32 (amax (S g)).1) = false := beq_eq_false_iff_ne.2 h'
    simp [IntOp.cmpi, Scalar.select, hbeq]

variable {ss : RefSig} {κ : Kind} {sp : Space} (v : View ss κ sp S100x20096 .f32) (L : Pieces) (S : Fin 100 → Fin 20096 → EReal)

/-- The rows' largest values and first columns, found in an array that holds `S`. -/
theorem first_found (hL : ∀ g a, View.canon L (ix2 g a) = S g a) : Found S (firstMax v L) (firstArg v L) := by
  refine found_of_chunks S _ _ _ _ _ ?_ ?_ ?_ ?_ ?_ <;>
  · intro g j hj
    exact (readCov_col (Val := Elt Ideal) (e := .f32) v L g j hj).trans (hL g _)

variable (m : FVec Ideal S100x1 .f32) (i : IVec S100x1 32)

/-- A wide chunk of an array that holds `S` there, after the round. -/
theorem updW_at (hf : Found S m i) {off : ℕ} {u : Vec Ideal S100x4096 .f32} (g : Fin 100) (b : Fin 4096) (hb : off + b.1 < 20096)
    (hu : u (ix2 g b) = S g ⟨off + b.1, hb⟩) : updW (BitVec.ofNat 32 off) m i u (ix2 g b) = nxt (S g) ⟨off + b.1, hb⟩ := by
  rw [← upd_at S m i hf g off b.1 hb (u (ix2 g b)) hu]
  pointwise [updW]

/-- The narrow chunk of an array that holds `S` there, after the round. -/
theorem updN_at (hf : Found S m i) {off : ℕ} {u : Vec Ideal S100x3712 .f32} (g : Fin 100) (b : Fin 3712) (hb : off + b.1 < 20096)
    (hu : u (ix2 g b) = S g ⟨off + b.1, hb⟩) : updN (BitVec.ofNat 32 off) m i u (ix2 g b) = nxt (S g) ⟨off + b.1, hb⟩ := by
  rw [← upd_at S m i hf g off b.1 hb (u (ix2 g b)) hu]
  pointwise [updN]

/-- The rows with the columns before `n` after the round, the others before it. -/
def mixed (n : ℕ) (g : Fin 100) (a : Fin 20096) : EReal := if a.1 < n then nxt (S g) a else S g a

/-- An array that holds the rows mixed at `off` holds the rows mixed at `off + w` when a chunk of the rows after the round is stored. -/
theorem canon_mixed {off w : ℕ} {inb : ∀ a, (![0, off] : Fin 2 → ℕ) a + (![100, w] : Fin 2 → ℕ) a ≤ (⟨2, ![100, 20096]⟩ : Shape).size a}
    (u : (Rect.unit (s := ⟨2, ![100, 20096]⟩) ![0, off] ![100, w] inb).shape.Idx → Elt Ideal .f32) (L : Pieces)
    (hL : ∀ g a, View.canon L (ix2 g a) = mixed S off g a)
    (hu : ∀ g (b : Fin w) (hb : off + b.1 < 20096), u (ix2 g b) = nxt (S g) ⟨off + b.1, hb⟩) (g : Fin 100) (a : Fin 20096) :
    View.canon (Val := Elt Ideal) (⟨Rect.unit ![0, off] ![100, w] inb, u⟩ :: L) (ix2 g a) = mixed S (off + w) g a := by
  refine canon_col (Val := Elt Ideal) (e := .f32) _ _ (mixed S (off + w)) g a (fun b hb => ?_) (fun h => ?_)
  · rw [hu g b hb]
    exact (if_pos (show off + b.1 < off + w by have := b.2; omega)).symm
  · rw [hL]
    unfold mixed
    by_cases h1 : a.1 < off
    · rw [if_pos h1, if_pos (by omega)]
    · rw [if_neg h1, if_neg (by omega)]

/-- A wide chunk read from an array that holds the rows mixed at its first column, after the round. -/
theorem left_wide (hf : Found S m i) {off : ℕ} {inb : ∀ a, (![0, off] : Fin 2 → ℕ) a + (![100, 4096] : Fin 2 → ℕ) a ≤ (⟨2, ![100, 20096]⟩ : Shape).size a}
    (hL : ∀ g a, View.canon L (ix2 g a) = mixed S off g a) (g : Fin 100) (b : Fin 4096) (hb : off + b.1 < 20096) :
    updW (BitVec.ofNat 32 off) m i (v.readCov L (Rect.unit (s := ⟨2, ![100, 20096]⟩) ![0, off] ![100, 4096] inb).toLoadRect) (ix2 g b)
      = nxt (S g) ⟨off + b.1, hb⟩ := by
  refine updW_at S m i hf g b hb ?_
  refine (readCov_col (Val := Elt Ideal) (e := .f32) v L g b hb).trans ((hL g _).trans ?_)
  exact if_neg (show ¬ off + b.1 < off by omega)

/-- The narrow chunk read from an array that holds the rows mixed at its first column, after the round. -/
theorem left_narrow (hf : Found S m i) {off : ℕ} {inb : ∀ a, (![0, off] : Fin 2 → ℕ) a + (![100, 3712] : Fin 2 → ℕ) a ≤ (⟨2, ![100, 20096]⟩ : Shape).size a}
    (hL : ∀ g a, View.canon L (ix2 g a) = mixed S off g a) (g : Fin 100) (b : Fin 3712) (hb : off + b.1 < 20096) :
    updN (BitVec.ofNat 32 off) m i (v.readCov L (Rect.unit (s := ⟨2, ![100, 20096]⟩) ![0, off] ![100, 3712] inb).toLoadRect) (ix2 g b)
      = nxt (S g) ⟨off + b.1, hb⟩ := by
  refine updN_at S m i hf g b hb ?_
  refine (readCov_col (Val := Elt Ideal) (e := .f32) v L g b hb).trans ((hL g _).trans ?_)
  exact if_neg (show ¬ off + b.1 < off by omega)

/-- A chunk stored with its own shape is the chunk. -/
theorem sameW (u : Vec Ideal S100x4096 .f32) : shapeCast S100x4096 u shapeCasts_S100x4096_S100x4096 = u := by
  funext x; rw [eq_ix2 x]; pointwise

/-- The narrow chunk stored with its own shape is the chunk. -/
theorem sameN (u : Vec Ideal S100x3712 .f32) : shapeCast S100x3712 u shapeCasts_S100x3712_S100x3712 = u := by
  funext x; rw [eq_ix2 x]; pointwise

/-- One round: from an array that holds `S`, with the largest values and columns found, the array after it holds every row after
the round, and the largest values and columns found next are those of these rows. -/
theorem round_step (hL : ∀ g a, View.canon L (ix2 g a) = S g a) (hf : Found S m i) :
    (∀ g a, View.canon (stored v m i L) (ix2 g a) = nxt (S g) a)
      ∧ Found (fun g => nxt (S g)) (nextMax v m i L) (nextArg v m i L) := by
  have h0 : ∀ g a, View.canon L (ix2 g a) = mixed S 0 g a := fun g a => (hL g a).trans (if_neg (Nat.not_lt_zero _)).symm
  have u0 := left_wide v L S m i hf (off := 0) (inb := inb_S100x20096_S100x4096_0_0) h0
  have h1 : ∀ g a, View.canon (put0 v m i L) (ix2 g a) = mixed S (0 + 4096) g a :=
    canon_mixed S _ L h0 (fun g b hb => (congrFun (sameW _) _).trans (u0 g b hb))
  have u1 := left_wide v (put0 v m i L) S m i hf (off := 4096) (inb := inb_S100x20096_S100x4096_0_4096) h1
  have h2 : ∀ g a, View.canon (put1 v m i L) (ix2 g a) = mixed S (4096 + 4096) g a :=
    canon_mixed S _ _ h1 (fun g b hb => (congrFun (sameW _) _).trans (u1 g b hb))
  have u2 := left_wide v (put1 v m i L) S m i hf (off := 8192) (inb := inb_S100x20096_S100x4096_0_8192) h2
  have h3 : ∀ g a, View.canon (put2 v m i L) (ix2 g a) = mixed S (8192 + 4096) g a :=
    canon_mixed S _ _ h2 (fun g b hb => (congrFun (sameW _) _).trans (u2 g b hb))
  have u3 := left_wide v (put2 v m i L) S m i hf (off := 12288) (inb := inb_S100x20096_S100x4096_0_12288) h3
  have h4 : ∀ g a, View.canon (put3 v m i L) (ix2 g a) = mixed S (12288 + 4096) g a :=
    canon_mixed S _ _ h3 (fun g b hb => (congrFun (sameW _) _).trans (u3 g b hb))
  have u4 := left_narrow v (put3 v m i L) S m i hf (off := 16384) (inb := inb_S100x20096_S100x3712_0_16384) h4
  have h5 : ∀ g a, View.canon (stored v m i L) (ix2 g a) = mixed S (16384 + 3712) g a :=
    canon_mixed S _ _ h4 (fun g b hb => (congrFun (sameN _) _).trans (u4 g b hb))
  refine ⟨fun g a => (h5 g a).trans (if_pos a.2), ?_⟩
  exact found_of_chunks (fun g => nxt (S g)) _ _ _ _ _ u0 u1 u2 u3 u4

end Cert.Asg
-- ==== Proof.Ciou.lean ====
module

public import proofs.«01_k».proof.Proof.Gen.KernelIdeal.Frame
public import proofs.«01_k».proof.Proof.Scalar
public import proofs.«01_k».proof.Proof.Chunk

@[expose] public section

/-!
What one block writes into the overlap array in the first pass: the overlap score of every box and anchor.
-/

noncomputable section

namespace Cert.Asg

open Idealize.ShloMosaic Cert.KernelIdeal Cert.KernelIdeal.Gen Cert.KernelIdeal.Gen.kernelRun0_A

/-- The overlap score of box `g` and the decoded box of anchor `a`, of one block's inputs. -/
def ciouB (x1 : Vec Ideal S1x4x20096 .f32) (x5 : Vec Ideal S1x100x4 .f32) (g : Fin 100) (a : Fin 20096) : EReal :=
  ciouF (x5 (ix3 0 g 0)) (x5 (ix3 0 g 1)) (x5 (ix3 0 g 2)) (x5 (ix3 0 g 3))
    (x1 (ix3 0 0 a)) (x1 (ix3 0 1 a)) (x1 (ix3 0 2 a)) (x1 (ix3 0 3 a))

set_option maxHeartbeats 0 in
set_option maxRecDepth 100000 in
/-- After the first pass the overlap array holds the overlap scores. -/
theorem ciou_pieces (c : Dev nD) (arg2 : Memref sig .tc .vmem S1x4x20096 .f32) (harg2 : arg2.IsWhole)
    (arg6 : Memref sig .tc .vmem S1x100x4 .f32) (harg6 : arg6.IsWhole)
    (x1 : Vec Ideal S1x4x20096 .f32) (x5 : Vec Ideal S1x100x4 .f32) (g : Fin 100) (a : Fin 20096) :
    View.canon (sl.HS1_10 (F := Ideal) c arg2 harg2 arg6 harg6 x1 x5) (ix2 g a) = ciouB x1 x5 g a := by
  unfold sl.HS1_10
  iterate 10
    refine canon_col (Val := Elt Ideal) (e := .f32) _ _ (ciouB x1 x5) g a (fun b hb => ?_) (fun _ => ?_)
    · sl_unfold_words
      unfold_payloads
      simp only [View.readAt_eq_ld, harg2.read_unread, harg6.read_unread]
      pointwise [ciouB, ciouF, atanF]
  have := a.2
  omega

end Cert.Asg
-- ==== Proof.Metric.lean ====
module

public import proofs.«01_k».proof.Proof.Ciou

@[expose] public section

/-!
What one block writes into the metric array in the first pass: the alignment metric of every box and anchor.
-/

noncomputable section

namespace Cert.Asg

open Idealize.ShloMosaic Cert.KernelIdeal Cert.KernelIdeal.Gen Cert.KernelIdeal.Gen.kernelRun0_A

/-- The score of box `g`'s class at anchor `a`, as a sum against the one-hot row of the class. -/
def scoreB (x0 : Vec Ideal S1x80x20096 .f32) (x4 : Vec Ideal S1x100x1 .i32) (g : Fin 100) (a : Fin 20096) : EReal :=
  ∑ k : Fin 80, (FloatOps.sitofp (F := Ideal) .f32 (BitVec.setWidth 32 (IntOp.cmpi .eq (x4 (ix3 0 g 0)) (BitVec.ofNat 32 k.1))) : EReal)
    * x0 (ix3 0 k a)

/-- The alignment metric of box `g` and anchor `a`, of one block's inputs. -/
def metricB (x0 : Vec Ideal S1x80x20096 .f32) (x1 : Vec Ideal S1x4x20096 .f32) (x2 : Vec Ideal S2x20096 .f32)
    (x4 : Vec Ideal S1x100x1 .i32) (x5 : Vec Ideal S1x100x4 .f32) (g : Fin 100) (a : Fin 20096) : EReal :=
  Scalar.select (inBox (x5 (ix3 0 g 0)) (x5 (ix3 0 g 1)) (x5 (ix3 0 g 2)) (x5 (ix3 0 g 3)) (x2 (ix2 0 a)) (x2 (ix2 1 a)))
    (Ideal.sqrt (scoreB x0 x4 g a) * six (ciouB x1 x5 g a)) 0

set_option maxHeartbeats 0 in
set_option maxRecDepth 100000 in
/-- After the first pass the metric array holds the alignment metrics. -/
theorem metric_pieces (c : Dev nD) (arg1 : Memref sig .tc .vmem S1x80x20096 .f32) (harg1 : arg1.IsWhole)
    (arg2 : Memref sig .tc .vmem S1x4x20096 .f32) (harg2 : arg2.IsWhole)
    (arg3 : Memref sig .tc .vmem S2x20096 .f32) (harg3 : arg3.IsWhole)
    (arg5 : Memref sig .tc .vmem S1x100x1 .i32) (harg5 : arg5.IsWhole)
    (arg6 : Memref sig .tc .vmem S1x100x4 .f32) (harg6 : arg6.IsWhole)
    (x0 : Vec Ideal S1x80x20096 .f32) (x1 : Vec Ideal S1x4x20096 .f32) (x2 : Vec Ideal S2x20096 .f32)
    (x4 : Vec Ideal S1x100x1 .i32) (x5 : Vec Ideal S1x100x4 .f32) (g : Fin 100) (a : Fin 20096) :
    View.canon (sl.HS0_10 (F := Ideal) c arg1 harg1 arg2 harg2 arg3 harg3 arg5 harg5 arg6 harg6 x0 x1 x2 x4 x5) (ix2 g a)
      = metricB x0 x1 x2 x4 x5 g a := by
  unfold sl.HS0_10
  iterate 10
    refine canon_col (Val := Elt Ideal) (e := .f32) _ _ (metricB x0 x1 x2 x4 x5) g a (fun b hb => ?_) (fun _ => ?_)
    · sl_unfold_words
      unfold_payloads
      simp only [View.readAt_eq_ld, harg1.read_unread, harg2.read_unread, harg3.read_unread, harg5.read_unread, harg6.read_unread]
      pointwise [metricB, scoreB, inBox, six, ciouB, ciouF, atanF]
  have := a.2
  omega

end Cert.Asg
-- ==== Proof.RoundsValue.lean ====
module

public import proofs.«01_k».proof.Proof.Rounds
public import proofs.«01_k».proof.Proof.RoundStep
public import proofs.«01_k».proof.Proof.Metric

@[expose] public section

/-!
What the metric array of one block holds after the ten rounds.
-/

noncomputable section

namespace Cert.Asg

open Idealize.ShloMosaic Cert.KernelIdeal Cert.KernelIdeal.Gen

namespace Inp

variable (A : Inp)

/-- The alignment metrics of the block. -/
def met (g : Fin 100) : Fin 20096 → EReal := metricB A.x0 A.x1 A.x2 A.x4 A.x5 g

/-- The metric array after the ten rounds: every row after ten rounds. -/
theorem rounds (g : Fin 100) (a : Fin 20096) : View.canon A.L10 (ix2 g a) = nxt^[10] (A.met g) a := by
  have h0 : ∀ g a, View.canon A.L0 (ix2 g a) = A.met g a := fun g a => metric_pieces _ _ _ _ _ _ _ _ _ _ _ _ _ _ _ _ g a
  have f1 := first_found A.arg11.view A.L0 A.met h0
  rw [← A.m1_eq, ← A.i1_eq] at f1
  obtain ⟨h1, f2⟩ := round_step A.arg11.view A.L0 _ _ _ h0 f1
  rw [← A.L1_eq] at h1; rw [← A.m2_eq, ← A.i2_eq] at f2
  obtain ⟨h2, f3⟩ := round_step A.arg11.view A.L1 _ _ _ h1 f2
  rw [← A.L2_eq] at h2; rw [← A.m3_eq, ← A.i3_eq] at f3
  obtain ⟨h3, f4⟩ := round_step A.arg11.view A.L2 _ _ _ h2 f3
  rw [← A.L3_eq] at h3; rw [← A.m4_eq, ← A.i4_eq] at f4
  obtain ⟨h4, f5⟩ := round_step A.arg11.view A.L3 _ _ _ h3 f4
  rw [← A.L4_eq] at h4; rw [← A.m5_eq, ← A.i5_eq] at f5
  obtain ⟨h5, f6⟩ := round_step A.arg11.view A.L4 _ _ _ h4 f5
  rw [← A.L5_eq] at h5; rw [← A.m6_eq, ← A.i6_eq] at f6
  obtain ⟨h6, f7⟩ := round_step A.arg11.view A.L5 _ _ _ h5 f6
  rw [← A.L6_eq] at h6; rw [← A.m7_eq, ← A.i7_eq] at f7
  obtain ⟨h7, f8⟩ := round_step A.arg11.view A.L6 _ _ _ h6 f7
  rw [← A.L7_eq] at h7; rw [← A.m8_eq, ← A.i8_eq] at f8
  obtain ⟨h8, f9⟩ := round_step A.arg11.view A.L7 _ _ _ h7 f8
  rw [← A.L8_eq] at h8; rw [← A.m9_eq, ← A.i9_eq] at f9
  obtain ⟨h9, f10⟩ := round_step A.arg11.view A.L8 _ _ _ h8 f9
  rw [← A.L9_eq] at h9; rw [← A.m10_eq, ← A.i10_eq] at f10
  obtain ⟨h10, _⟩ := round_step A.arg11.view A.L9 _ _ _ h9 f10
  rw [← A.L10_eq] at h10
  exact h10 g a

end Inp

end Cert.Asg
-- ==== Proof.PassValue.lean ====
module

public import proofs.«01_k».proof.Proof.Passes
public import proofs.«01_k».proof.Proof.RoundsValue

@[expose] public section

/-!
What one block's run leaves in its three outputs, element by element.
-/

noncomputable section

namespace Cert.Asg

open Idealize.ShloMosaic Cert.KernelIdeal Cert.KernelIdeal.Gen

/-- The largest of a start value and the row's values before a column. -/
def below (z : EReal) (f : Fin 20096 → EReal) (n : ℕ) : EReal := (Finset.univ.filter fun a : Fin 20096 => a.1 < n).fold max z f

/-- Nothing stands before the first column. -/
theorem below_zero (z f) : below z f 0 = z := by
  unfold below
  rw [Finset.filter_false_of_mem (by intro x _; exact Nat.not_lt_zero _)]
  exact Finset.fold_empty

/-- Everything stands before the end. -/
theorem below_all (z f) : below z f 20096 = Finset.univ.fold max z f := by
  unfold below
  rw [Finset.filter_true_of_mem (by intro x _; exact x.2)]

/-- One more chunk. -/
theorem below_step {z : EReal} {f : Fin 20096 → EReal} {off w : ℕ} {h : Fin w → EReal} (ho : off + w ≤ 20096)
    (hh : ∀ b : Fin w, h b = f ⟨off + b.1, by omega⟩) :
    max (below z f off) (Finset.univ.fold max (Ideal.ofBits .f32 4286578688#32) h) = below z f (off + w) := by
  rw [ofBits_negInf]
  unfold below
  refine le_antisymm (max_le ?_ ?_) ?_
  · refine (Finset.fold_max_le _).2 ⟨(Finset.le_fold_max _).2 (Or.inl le_rfl), fun x hx => (Finset.le_fold_max _).2 (Or.inr ⟨x, ?_, le_rfl⟩)⟩
    have := (Finset.mem_filter.1 hx).2
    exact Finset.mem_filter.2 ⟨Finset.mem_univ _, by omega⟩
  · refine (Finset.fold_max_le _).2 ⟨bot_le, fun b _ => (Finset.le_fold_max _).2 (Or.inr ⟨⟨off + b.1, by omega⟩, ?_, (hh b).le⟩)⟩
    exact Finset.mem_filter.2 ⟨Finset.mem_univ _, by show off + b.1 < off + w; omega⟩
  · refine (Finset.fold_max_le _).2 ⟨le_max_of_le_left ((Finset.le_fold_max _).2 (Or.inl le_rfl)), fun x hx => ?_⟩
    have hx' := (Finset.mem_filter.1 hx).2
    by_cases hc : x.1 < off
    · exact le_max_of_le_left ((Finset.le_fold_max _).2 (Or.inr ⟨x, Finset.mem_filter.2 ⟨Finset.mem_univ _, hc⟩, le_rfl⟩))
    · refine le_max_of_le_right ((Finset.le_fold_max _).2 (Or.inr ⟨⟨x.1 - off, by omega⟩, Finset.mem_univ _, ?_⟩))
      rw [hh]
      refine le_of_eq (congrArg f (Fin.ext ?_))
      show x.1 = off + (x.1 - off)
      omega

namespace Inp

variable (A : Inp)

/-- The metric of box `g` and anchor `a` after the rounds. -/
def T (g : Fin 100) (a : Fin 20096) : EReal := nxt^[10] (A.met g) a

/-- The overlap of box `g` and anchor `a`, where the anchor was taken for the box. -/
def O (g : Fin 100) (a : Fin 20096) : EReal := kept (A.T g a) (ciouB A.x1 A.x5 g a)

/-- The metric of box `g` and anchor `a`, where the anchor was taken for the box. -/
def M (g : Fin 100) (a : Fin 20096) : EReal := max (0 - A.T g a) 0

/-- The ratio by which box `g` rescales its metrics. -/
def ratio (g : Fin 100) : EReal :=
  Ideal.div (Finset.univ.fold max 0 (A.O g)) (Finset.univ.fold max 0 (A.M g) + Ideal.ofBits .f32 814313567#32)

/-- The overlap array holds the overlap scores. -/
theorem CL_at (g a) : View.canon A.CL (ix2 g a) = ciouB A.x1 A.x5 g a := ciou_pieces _ _ _ _ _ _ _ g a

set_option maxRecDepth 100000

/-- Chunk 0 of the metrics. -/
theorem s0_at (g : Fin 100) (b : Fin 2048) (hb : 0 + b.1 < 20096) : A.s0 (ix2 g b) = A.T g ⟨0 + b.1, hb⟩ :=
  (readCov_col (Val := Elt Ideal) (e := .f32) A.arg11.view A.L10 g b hb).trans (A.rounds g _)
/-- Chunk 0 of the overlaps. -/
theorem c0_at (g : Fin 100) (b : Fin 2048) (hb : 0 + b.1 < 20096) : A.c0 (ix2 g b) = ciouB A.x1 A.x5 g ⟨0 + b.1, hb⟩ :=
  (readCov_col (Val := Elt Ideal) (e := .f32) A.arg12.view A.CL g b hb).trans (A.CL_at g _)
/-- Chunk 0 of the kept overlaps. -/
theorem o0_at (g : Fin 100) (b : Fin 2048) (hb : 0 + b.1 < 20096) : kept (A.s0 (ix2 g b)) (A.c0 (ix2 g b)) = A.O g ⟨0 + b.1, hb⟩ := by
  rw [A.s0_at g b hb, A.c0_at g b hb]; rfl
/-- Chunk 0 of the kept metrics. -/
theorem k0_at (g : Fin 100) (b : Fin 2048) (hb : 0 + b.1 < 20096) : max (0 - A.s0 (ix2 g b)) 0 = A.M g ⟨0 + b.1, hb⟩ := by
  rw [A.s0_at g b hb]; rfl
/-- The columns of chunk 0. -/
theorem col0 (b : Fin 2048) (hb : 0 + b.1 < 20096) :
    (fun g => kept (A.s0 (ix2 g b)) (A.c0 (ix2 g b))) = fun g => A.O g ⟨0 + b.1, hb⟩ := funext fun g => A.o0_at g b hb
/-- Chunk 1 of the metrics. -/
theorem s1_at (g : Fin 100) (b : Fin 2048) (hb : 2048 + b.1 < 20096) : A.s1 (ix2 g b) = A.T g ⟨2048 + b.1, hb⟩ :=
  (readCov_col (Val := Elt Ideal) (e := .f32) A.arg11.view A.L10 g b hb).trans (A.rounds g _)
/-- Chunk 1 of the overlaps. -/
theorem c1_at (g : Fin 100) (b : Fin 2048) (hb : 2048 + b.1 < 20096) : A.c1 (ix2 g b) = ciouB A.x1 A.x5 g ⟨2048 + b.1, hb⟩ :=
  (readCov_col (Val := Elt Ideal) (e := .f32) A.arg12.view A.CL g b hb).trans (A.CL_at g _)
/-- Chunk 1 of the kept overlaps. -/
theorem o1_at (g : Fin 100) (b : Fin 2048) (hb : 2048 + b.1 < 20096) : kept (A.s1 (ix2 g b)) (A.c1 (ix2 g b)) = A.O g ⟨2048 + b.1, hb⟩ := by
  rw [A.s1_at g b hb, A.c1_at g b hb]; rfl
/-- Chunk 1 of the kept metrics. -/
theorem k1_at (g : Fin 100) (b : Fin 2048) (hb : 2048 + b.1 < 20096) : max (0 - A.s1 (ix2 g b)) 0 = A.M g ⟨2048 + b.1, hb⟩ := by
  rw [A.s1_at g b hb]; rfl
/-- The columns of chunk 1. -/
theorem col1 (b : Fin 2048) (hb : 2048 + b.1 < 20096) :
    (fun g => kept (A.s1 (ix2 g b)) (A.c1 (ix2 g b))) = fun g => A.O g ⟨2048 + b.1, hb⟩ := funext fun g => A.o1_at g b hb
/-- Chunk 2 of the metrics. -/
theorem s2_at (g : Fin 100) (b : Fin 2048) (hb : 4096 + b.1 < 20096) : A.s2 (ix2 g b) = A.T g ⟨4096 + b.1, hb⟩ :=
  (readCov_col (Val := Elt Ideal) (e := .f32) A.arg11.view A.L10 g b hb).trans (A.rounds g _)
/-- Chunk 2 of the overlaps. -/
theorem c2_at (g : Fin 100) (b : Fin 2048) (hb : 4096 + b.1 < 20096) : A.c2 (ix2 g b) = ciouB A.x1 A.x5 g ⟨4096 + b.1, hb⟩ :=
  (readCov_col (Val := Elt Ideal) (e := .f32) A.arg12.view A.CL g b hb).trans (A.CL_at g _)
/-- Chunk 2 of the kept overlaps. -/
theorem o2_at (g : Fin 100) (b : Fin 2048) (hb : 4096 + b.1 < 20096) : kept (A.s2 (ix2 g b)) (A.c2 (ix2 g b)) = A.O g ⟨4096 + b.1, hb⟩ := by
  rw [A.s2_at g b hb, A.c2_at g b hb]; rfl
/-- Chunk 2 of the kept metrics. -/
theorem k2_at (g : Fin 100) (b : Fin 2048) (hb : 4096 + b.1 < 20096) : max (0 - A.s2 (ix2 g b)) 0 = A.M g ⟨4096 + b.1, hb⟩ := by
  rw [A.s2_at g b hb]; rfl
/-- The columns of chunk 2. -/
theorem col2 (b : Fin 2048) (hb : 4096 + b.1 < 20096) :
    (fun g => kept (A.s2 (ix2 g b)) (A.c2 (ix2 g b))) = fun g => A.O g ⟨4096 + b.1, hb⟩ := funext fun g => A.o2_at g b hb
/-- Chunk 3 of the metrics. -/
theorem s3_at (g : Fin 100) (b : Fin 2048) (hb : 6144 + b.1 < 20096) : A.s3 (ix2 g b) = A.T g ⟨6144 + b.1, hb⟩ :=
  (readCov_col (Val := Elt Ideal) (e := .f32) A.arg11.view A.L10 g b hb).trans (A.rounds g _)
/-- Chunk 3 of the overlaps. -/
theorem c3_at (g : Fin 100) (b : Fin 2048) (hb : 6144 + b.1 < 20096) : A.c3 (ix2 g b) = ciouB A.x1 A.x5 g ⟨6144 + b.1, hb⟩ :=
  (readCov_col (Val := Elt Ideal) (e := .f32) A.arg12.view A.CL g b hb).trans (A.CL_at g _)
/-- Chunk 3 of the kept overlaps. -/
theorem o3_at (g : Fin 100) (b : Fin 2048) (hb : 6144 + b.1 < 20096) : kept (A.s3 (ix2 g b)) (A.c3 (ix2 g b)) = A.O g ⟨6144 + b.1, hb⟩ := by
  rw [A.s3_at g b hb, A.c3_at g b hb]; rfl
/-- Chunk 3 of the kept metrics. -/
theorem k3_at (g : Fin 100) (b : Fin 2048) (hb : 6144 + b.1 < 20096) : max (0 - A.s3 (ix2 g b)) 0 = A.M g ⟨6144 + b.1, hb⟩ := by
  rw [A.s3_at g b hb]; rfl
/-- The columns of chunk 3. -/
theorem col3 (b : Fin 2048) (hb : 6144 + b.1 < 20096) :
    (fun g => kept (A.s3 (ix2 g b)) (A.c3 (ix2 g b))) = fun g => A.O g ⟨6144 + b.1, hb⟩ := funext fun g => A.o3_at g b hb
/-- Chunk 4 of the metrics. -/
theorem s4_at (g : Fin 100) (b : Fin 2048) (hb : 8192 + b.1 < 20096) : A.s4 (ix2 g b) = A.T g ⟨8192 + b.1, hb⟩ :=
  (readCov_col (Val := Elt Ideal) (e := .f32) A.arg11.view A.L10 g b hb).trans (A.rounds g _)
/-- Chunk 4 of the overlaps. -/
theorem c4_at (g : Fin 100) (b : Fin 2048) (hb : 8192 + b.1 < 20096) : A.c4 (ix2 g b) = ciouB A.x1 A.x5 g ⟨8192 + b.1, hb⟩ :=
  (readCov_col (Val := Elt Ideal) (e := .f32) A.arg12.view A.CL g b hb).trans (A.CL_at g _)
/-- Chunk 4 of the kept overlaps. -/
theorem o4_at (g : Fin 100) (b : Fin 2048) (hb : 8192 + b.1 < 20096) : kept (A.s4 (ix2 g b)) (A.c4 (ix2 g b)) = A.O g ⟨8192 + b.1, hb⟩ := by
  rw [A.s4_at g b hb, A.c4_at g b hb]; rfl
/-- Chunk 4 of the kept metrics. -/
theorem k4_at (g : Fin 100) (b : Fin 2048) (hb : 8192 + b.1 < 20096) : max (0 - A.s4 (ix2 g b)) 0 = A.M g ⟨8192 + b.1, hb⟩ := by
  rw [A.s4_at g b hb]; rfl
/-- The columns of chunk 4. -/
theorem col4 (b : Fin 2048) (hb : 8192 + b.1 < 20096) :
    (fun g => kept (A.s4 (ix2 g b)) (A.c4 (ix2 g b))) = fun g => A.O g ⟨8192 + b.1, hb⟩ := funext fun g => A.o4_at g b hb
/-- Chunk 5 of the metrics. -/
theorem s5_at (g : Fin 100) (b : Fin 2048) (hb : 10240 + b.1 < 20096) : A.s5 (ix2 g b) = A.T g ⟨10240 + b.1, hb⟩ :=
  (readCov_col (Val := Elt Ideal) (e := .f32) A.arg11.view A.L10 g b hb).trans (A.rounds g _)
/-- Chunk 5 of the overlaps. -/
theorem c5_at (g : Fin 100) (b : Fin 2048) (hb : 10240 + b.1 < 20096) : A.c5 (ix2 g b) = ciouB A.x1 A.x5 g ⟨10240 + b.1, hb⟩ :=
  (readCov_col (Val := Elt Ideal) (e := .f32) A.arg12.view A.CL g b hb).trans (A.CL_at g _)
/-- Chunk 5 of the kept overlaps. -/
theorem o5_at (g : Fin 100) (b : Fin 2048) (hb : 10240 + b.1 < 20096) : kept (A.s5 (ix2 g b)) (A.c5 (ix2 g b)) = A.O g ⟨10240 + b.1, hb⟩ := by
  rw [A.s5_at g b hb, A.c5_at g b hb]; rfl
/-- Chunk 5 of the kept metrics. -/
theorem k5_at (g : Fin 100) (b : Fin 2048) (hb : 10240 + b.1 < 20096) : max (0 - A.s5 (ix2 g b)) 0 = A.M g ⟨10240 + b.1, hb⟩ := by
  rw [A.s5_at g b hb]; rfl
/-- The columns of chunk 5. -/
theorem col5 (b : Fin 2048) (hb : 10240 + b.1 < 20096) :
    (fun g => kept (A.s5 (ix2 g b)) (A.c5 (ix2 g b))) = fun g => A.O g ⟨10240 + b.1, hb⟩ := funext fun g => A.o5_at g b hb
/-- Chunk 6 of the metrics. -/
theorem s6_at (g : Fin 100) (b : Fin 2048) (hb : 12288 + b.1 < 20096) : A.s6 (ix2 g b) = A.T g ⟨12288 + b.1, hb⟩ :=
  (readCov_col (Val := Elt Ideal) (e := .f32) A.arg11.view A.L10 g b hb).trans (A.rounds g _)
/-- Chunk 6 of the overlaps. -/
theorem c6_at (g : Fin 100) (b : Fin 2048) (hb : 12288 + b.1 < 20096) : A.c6 (ix2 g b) = ciouB A.x1 A.x5 g ⟨12288 + b.1, hb⟩ :=
  (readCov_col (Val := Elt Ideal) (e := .f32) A.arg12.view A.CL g b hb).trans (A.CL_at g _)
/-- Chunk 6 of the kept overlaps. -/
theorem o6_at (g : Fin 100) (b : Fin 2048) (hb : 12288 + b.1 < 20096) : kept (A.s6 (ix2 g b)) (A.c6 (ix2 g b)) = A.O g ⟨12288 + b.1, hb⟩ := by
  rw [A.s6_at g b hb, A.c6_at g b hb]; rfl
/-- Chunk 6 of the kept metrics. -/
theorem k6_at (g : Fin 100) (b : Fin 2048) (hb : 12288 + b.1 < 20096) : max (0 - A.s6 (ix2 g b)) 0 = A.M g ⟨12288 + b.1, hb⟩ := by
  rw [A.s6_at g b hb]; rfl
/-- The columns of chunk 6. -/
theorem col6 (b : Fin 2048) (hb : 12288 + b.1 < 20096) :
    (fun g => kept (A.s6 (ix2 g b)) (A.c6 (ix2 g b))) = fun g => A.O g ⟨12288 + b.1, hb⟩ := funext fun g => A.o6_at g b hb
/-- Chunk 7 of the metrics. -/
theorem s7_at (g : Fin 100) (b : Fin 2048) (hb : 14336 + b.1 < 20096) : A.s7 (ix2 g b) = A.T g ⟨14336 + b.1, hb⟩ :=
  (readCov_col (Val := Elt Ideal) (e := .f32) A.arg11.view A.L10 g b hb).trans (A.rounds g _)
/-- Chunk 7 of the overlaps. -/
theorem c7_at (g : Fin 100) (b : Fin 2048) (hb : 14336 + b.1 < 20096) : A.c7 (ix2 g b) = ciouB A.x1 A.x5 g ⟨14336 + b.1, hb⟩ :=
  (readCov_col (Val := Elt Ideal) (e := .f32) A.arg12.view A.CL g b hb).trans (A.CL_at g _)
/-- Chunk 7 of the kept overlaps. -/
theorem o7_at (g : Fin 100) (b : Fin 2048) (hb : 14336 + b.1 < 20096) : kept (A.s7 (ix2 g b)) (A.c7 (ix2 g b)) = A.O g ⟨14336 + b.1, hb⟩ := by
  rw [A.s7_at g b hb, A.c7_at g b hb]; rfl
/-- Chunk 7 of the kept metrics. -/
theorem k7_at (g : Fin 100) (b : Fin 2048) (hb : 14336 + b.1 < 20096) : max (0 - A.s7 (ix2 g b)) 0 = A.M g ⟨14336 + b.1, hb⟩ := by
  rw [A.s7_at g b hb]; rfl
/-- The columns of chunk 7. -/
theorem col7 (b : Fin 2048) (hb : 14336 + b.1 < 20096) :
    (fun g => kept (A.s7 (ix2 g b)) (A.c7 (ix2 g b))) = fun g => A.O g ⟨14336 + b.1, hb⟩ := funext fun g => A.o7_at g b hb
/-- Chunk 8 of the metrics. -/
theorem s8_at (g : Fin 100) (b : Fin 2048) (hb : 16384 + b.1 < 20096) : A.s8 (ix2 g b) = A.T g ⟨16384 + b.1, hb⟩ :=
  (readCov_col (Val := Elt Ideal) (e := .f32) A.arg11.view A.L10 g b hb).trans (A.rounds g _)
/-- Chunk 8 of the overlaps. -/
theorem c8_at (g : Fin 100) (b : Fin 2048) (hb : 16384 + b.1 < 20096) : A.c8 (ix2 g b) = ciouB A.x1 A.x5 g ⟨16384 + b.1, hb⟩ :=
  (readCov_col (Val := Elt Ideal) (e := .f32) A.arg12.view A.CL g b hb).trans (A.CL_at g _)
/-- Chunk 8 of the kept overlaps. -/
theorem o8_at (g : Fin 100) (b : Fin 2048) (hb : 16384 + b.1 < 20096) : kept (A.s8 (ix2 g b)) (A.c8 (ix2 g b)) = A.O g ⟨16384 + b.1, hb⟩ := by
  rw [A.s8_at g b hb, A.c8_at g b hb]; rfl
/-- Chunk 8 of the kept metrics. -/
theorem k8_at (g : Fin 100) (b : Fin 2048) (hb : 16384 + b.1 < 20096) : max (0 - A.s8 (ix2 g b)) 0 = A.M g ⟨16384 + b.1, hb⟩ := by
  rw [A.s8_at g b hb]; rfl
/-- The columns of chunk 8. -/
theorem col8 (b : Fin 2048) (hb : 16384 + b.1 < 20096) :
    (fun g => kept (A.s8 (ix2 g b)) (A.c8 (ix2 g b))) = fun g => A.O g ⟨16384 + b.1, hb⟩ := funext fun g => A.o8_at g b hb
/-- Chunk 9 of the metrics. -/
theorem s9_at (g : Fin 100) (b : Fin 1664) (hb : 18432 + b.1 < 20096) : A.s9 (ix2 g b) = A.T g ⟨18432 + b.1, hb⟩ :=
  (readCov_col (Val := Elt Ideal) (e := .f32) A.arg11.view A.L10 g b hb).trans (A.rounds g _)
/-- Chunk 9 of the overlaps. -/
theorem c9_at (g : Fin 100) (b : Fin 1664) (hb : 18432 + b.1 < 20096) : A.c9 (ix2 g b) = ciouB A.x1 A.x5 g ⟨18432 + b.1, hb⟩ :=
  (readCov_col (Val := Elt Ideal) (e := .f32) A.arg12.view A.CL g b hb).trans (A.CL_at g _)
/-- Chunk 9 of the kept overlaps. -/
theorem o9_at (g : Fin 100) (b : Fin 1664) (hb : 18432 + b.1 < 20096) : kept (A.s9 (ix2 g b)) (A.c9 (ix2 g b)) = A.O g ⟨18432 + b.1, hb⟩ := by
  rw [A.s9_at g b hb, A.c9_at g b hb]; rfl
/-- Chunk 9 of the kept metrics. -/
theorem k9_at (g : Fin 100) (b : Fin 1664) (hb : 18432 + b.1 < 20096) : max (0 - A.s9 (ix2 g b)) 0 = A.M g ⟨18432 + b.1, hb⟩ := by
  rw [A.s9_at g b hb]; rfl
/-- The columns of chunk 9. -/
theorem col9 (b : Fin 1664) (hb : 18432 + b.1 < 20096) :
    (fun g => kept (A.s9 (ix2 g b)) (A.c9 (ix2 g b))) = fun g => A.O g ⟨18432 + b.1, hb⟩ := funext fun g => A.o9_at g b hb
/-- The columns' largest kept overlaps. -/
theorem ML_at (a) : View.canon A.ML (ix2 0 a) = colMax fun g => A.O g a := by
  rw [A.ML_eq]
  refine canon_col (Val := Elt Ideal) (e := .f32) _ _ (fun _ a => colMax fun g => A.O g a) 0 a
    (fun b hb => (maN_at _ _ b).trans (congrArg colMax (A.col9 b hb))) (fun _ => ?_)
  refine canon_col (Val := Elt Ideal) (e := .f32) _ _ (fun _ a => colMax fun g => A.O g a) 0 a
    (fun b hb => (maW_at _ _ b).trans (congrArg colMax (A.col8 b hb))) (fun _ => ?_)
  refine canon_col (Val := Elt Ideal) (e := .f32) _ _ (fun _ a => colMax fun g => A.O g a) 0 a
    (fun b hb => (maW_at _ _ b).trans (congrArg colMax (A.col7 b hb))) (fun _ => ?_)
  refine canon_col (Val := Elt Ideal) (e := .f32) _ _ (fun _ a => colMax fun g => A.O g a) 0 a
    (fun b hb => (maW_at _ _ b).trans (congrArg colMax (A.col6 b hb))) (fun _ => ?_)
  refine canon_col (Val := Elt Ideal) (e := .f32) _ _ (fun _ a => colMax fun g => A.O g a) 0 a
    (fun b hb => (maW_at _ _ b).trans (congrArg colMax (A.col5 b hb))) (fun _ => ?_)
  refine canon_col (Val := Elt Ideal) (e := .f32) _ _ (fun _ a => colMax fun g => A.O g a) 0 a
    (fun b hb => (maW_at _ _ b).trans (congrArg colMax (A.col4 b hb))) (fun _ => ?_)
  refine canon_col (Val := Elt Ideal) (e := .f32) _ _ (fun _ a => colMax fun g => A.O g a) 0 a
    (fun b hb => (maW_at _ _ b).trans (congrArg colMax (A.col3 b hb))) (fun _ => ?_)
  refine canon_col (Val := Elt Ideal) (e := .f32) _ _ (fun _ a => colMax fun g => A.O g a) 0 a
    (fun b hb => (maW_at _ _ b).trans (congrArg colMax (A.col2 b hb))) (fun _ => ?_)
  refine canon_col (Val := Elt Ideal) (e := .f32) _ _ (fun _ a => colMax fun g => A.O g a) 0 a
    (fun b hb => (maW_at _ _ b).trans (congrArg colMax (A.col1 b hb))) (fun _ => ?_)
  refine canon_col (Val := Elt Ideal) (e := .f32) _ _ (fun _ a => colMax fun g => A.O g a) 0 a
    (fun b hb => (maW_at _ _ b).trans (congrArg colMax (A.col0 b hb))) (fun _ => ?_)
  have := a.2
  omega
/-- The boxes of the second pass. -/
theorem B_at (k : Fin 4) (a) : View.canon A.B (ix3 0 k a) =
    if 0 < colMax (fun g => A.O g a) then colPick (fun g => A.gt (ix2 k g)) (fun g => A.O g a) else Ideal.ofBits .f32 3212836864#32 := by
  unfold B
  refine canon_col3 (Val := Elt Ideal) (e := .f32) _ _ (fun k a => if 0 < colMax (fun g => A.O g a) then
    colPick (fun g => A.gt (ix2 k g)) (fun g => A.O g a) else Ideal.ofBits .f32 3212836864#32) k a
    (fun b hb => (boxN_at _ _ _ k b).trans (by rw [A.col9 b hb])) (fun _ => ?_)
  refine canon_col3 (Val := Elt Ideal) (e := .f32) _ _ (fun k a => if 0 < colMax (fun g => A.O g a) then
    colPick (fun g => A.gt (ix2 k g)) (fun g => A.O g a) else Ideal.ofBits .f32 3212836864#32) k a
    (fun b hb => (boxW_at _ _ _ k b).trans (by rw [A.col8 b hb])) (fun _ => ?_)
  refine canon_col3 (Val := Elt Ideal) (e := .f32) _ _ (fun k a => if 0 < colMax (fun g => A.O g a) then
    colPick (fun g => A.gt (ix2 k g)) (fun g => A.O g a) else Ideal.ofBits .f32 3212836864#32) k a
    (fun b hb => (boxW_at _ _ _ k b).trans (by rw [A.col7 b hb])) (fun _ => ?_)
  refine canon_col3 (Val := Elt Ideal) (e := .f32) _ _ (fun k a => if 0 < colMax (fun g => A.O g a) then
    colPick (fun g => A.gt (ix2 k g)) (fun g => A.O g a) else Ideal.ofBits .f32 3212836864#32) k a
    (fun b hb => (boxW_at _ _ _ k b).trans (by rw [A.col6 b hb])) (fun _ => ?_)
  refine canon_col3 (Val := Elt Ideal) (e := .f32) _ _ (fun k a => if 0 < colMax (fun g => A.O g a) then
    colPick (fun g => A.gt (ix2 k g)) (fun g => A.O g a) else Ideal.ofBits .f32 3212836864#32) k a
    (fun b hb => (boxW_at _ _ _ k b).trans (by rw [A.col5 b hb])) (fun _ => ?_)
  refine canon_col3 (Val := Elt Ideal) (e := .f32) _ _ (fun k a => if 0 < colMax (fun g => A.O g a) then
    colPick (fun g => A.gt (ix2 k g)) (fun g => A.O g a) else Ideal.ofBits .f32 3212836864#32) k a
    (fun b hb => (boxW_at _ _ _ k b).trans (by rw [A.col4 b hb])) (fun _ => ?_)
  refine canon_col3 (Val := Elt Ideal) (e := .f32) _ _ (fun k a => if 0 < colMax (fun g => A.O g a) then
    colPick (fun g => A.gt (ix2 k g)) (fun g => A.O g a) else Ideal.ofBits .f32 3212836864#32) k a
    (fun b hb => (boxW_at _ _ _ k b).trans (by rw [A.col3 b hb])) (fun _ => ?_)
  refine canon_col3 (Val := Elt Ideal) (e := .f32) _ _ (fun k a => if 0 < colMax (fun g => A.O g a) then
    colPick (fun g => A.gt (ix2 k g)) (fun g => A.O g a) else Ideal.ofBits .f32 3212836864#32) k a
    (fun b hb => (boxW_at _ _ _ k b).trans (by rw [A.col2 b hb])) (fun _ => ?_)
  refine canon_col3 (Val := Elt Ideal) (e := .f32) _ _ (fun k a => if 0 < colMax (fun g => A.O g a) then
    colPick (fun g => A.gt (ix2 k g)) (fun g => A.O g a) else Ideal.ofBits .f32 3212836864#32) k a
    (fun b hb => (boxW_at _ _ _ k b).trans (by rw [A.col1 b hb])) (fun _ => ?_)
  refine canon_col3 (Val := Elt Ideal) (e := .f32) _ _ (fun k a => if 0 < colMax (fun g => A.O g a) then
    colPick (fun g => A.gt (ix2 k g)) (fun g => A.O g a) else Ideal.ofBits .f32 3212836864#32) k a
    (fun b hb => (boxW_at _ _ _ k b).trans (by rw [A.col0 b hb])) (fun _ => ?_)
  have := a.2
  omega
/-- The classes of the second pass. -/
theorem K0_at (k : Fin 80) (a) : View.canon A.K0 (ix3 0 k a) = colPick (fun g => A.oh (ix2 k g)) (fun g => A.O g a) := by
  unfold K0
  refine canon_col3 (Val := Elt Ideal) (e := .f32) _ _ (fun k a => colPick (fun g => A.oh (ix2 k g)) (fun g => A.O g a)) k a
    (fun b hb => (clsN_at _ _ _ k b).trans (by rw [A.col9 b hb])) (fun _ => ?_)
  refine canon_col3 (Val := Elt Ideal) (e := .f32) _ _ (fun k a => colPick (fun g => A.oh (ix2 k g)) (fun g => A.O g a)) k a
    (fun b hb => (clsW_at _ _ _ k b).trans (by rw [A.col8 b hb])) (fun _ => ?_)
  refine canon_col3 (Val := Elt Ideal) (e := .f32) _ _ (fun k a => colPick (fun g => A.oh (ix2 k g)) (fun g => A.O g a)) k a
    (fun b hb => (clsW_at _ _ _ k b).trans (by rw [A.col7 b hb])) (fun _ => ?_)
  refine canon_col3 (Val := Elt Ideal) (e := .f32) _ _ (fun k a => colPick (fun g => A.oh (ix2 k g)) (fun g => A.O g a)) k a
    (fun b hb => (clsW_at _ _ _ k b).trans (by rw [A.col6 b hb])) (fun _ => ?_)
  refine canon_col3 (Val := Elt Ideal) (e := .f32) _ _ (fun k a => colPick (fun g => A.oh (ix2 k g)) (fun g => A.O g a)) k a
    (fun b hb => (clsW_at _ _ _ k b).trans (by rw [A.col5 b hb])) (fun _ => ?_)
  refine canon_col3 (Val := Elt Ideal) (e := .f32) _ _ (fun k a => colPick (fun g => A.oh (ix2 k g)) (fun g => A.O g a)) k a
    (fun b hb => (clsW_at _ _ _ k b).trans (by rw [A.col4 b hb])) (fun _ => ?_)
  refine canon_col3 (Val := Elt Ideal) (e := .f32) _ _ (fun k a => colPick (fun g => A.oh (ix2 k g)) (fun g => A.O g a)) k a
    (fun b hb => (clsW_at _ _ _ k b).trans (by rw [A.col3 b hb])) (fun _ => ?_)
  refine canon_col3 (Val := Elt Ideal) (e := .f32) _ _ (fun k a => colPick (fun g => A.oh (ix2 k g)) (fun g => A.O g a)) k a
    (fun b hb => (clsW_at _ _ _ k b).trans (by rw [A.col2 b hb])) (fun _ => ?_)
  refine canon_col3 (Val := Elt Ideal) (e := .f32) _ _ (fun k a => colPick (fun g => A.oh (ix2 k g)) (fun g => A.O g a)) k a
    (fun b hb => (clsW_at _ _ _ k b).trans (by rw [A.col1 b hb])) (fun _ => ?_)
  refine canon_col3 (Val := Elt Ideal) (e := .f32) _ _ (fun k a => colPick (fun g => A.oh (ix2 k g)) (fun g => A.O g a)) k a
    (fun b hb => (clsW_at _ _ _ k b).trans (by rw [A.col0 b hb])) (fun _ => ?_)
  have := a.2
  omega
/-- The rows' largest overlaps before the first chunk. -/
theorem p0_at (g) : p0 (ix2 g 0) = below 0 (A.O g) 0 := (mov_zero g).trans (below_zero _ _).symm
/-- The rows' largest overlaps after chunk 0. -/
theorem p1_at (g) : A.p1 (ix2 g 0) = below 0 (A.O g) 2048 := by
  unfold p1
  rw [movW_at, A.p0_at]
  exact below_step (by norm_num) fun b => A.o0_at g b _
/-- The rows' largest overlaps after chunk 1. -/
theorem p2_at (g) : A.p2 (ix2 g 0) = below 0 (A.O g) 4096 := by
  unfold p2
  rw [movW_at, A.p1_at]
  exact below_step (by norm_num) fun b => A.o1_at g b _
/-- The rows' largest overlaps after chunk 2. -/
theorem p3_at (g) : A.p3 (ix2 g 0) = below 0 (A.O g) 6144 := by
  unfold p3
  rw [movW_at, A.p2_at]
  exact below_step (by norm_num) fun b => A.o2_at g b _
/-- The rows' largest overlaps after chunk 3. -/
theorem p4_at (g) : A.p4 (ix2 g 0) = below 0 (A.O g) 8192 := by
  unfold p4
  rw [movW_at, A.p3_at]
  exact below_step (by norm_num) fun b => A.o3_at g b _
/-- The rows' largest overlaps after chunk 4. -/
theorem p5_at (g) : A.p5 (ix2 g 0) = below 0 (A.O g) 10240 := by
  unfold p5
  rw [movW_at, A.p4_at]
  exact below_step (by norm_num) fun b => A.o4_at g b _
/-- The rows' largest overlaps after chunk 5. -/
theorem p6_at (g) : A.p6 (ix2 g 0) = below 0 (A.O g) 12288 := by
  unfold p6
  rw [movW_at, A.p5_at]
  exact below_step (by norm_num) fun b => A.o5_at g b _
/-- The rows' largest overlaps after chunk 6. -/
theorem p7_at (g) : A.p7 (ix2 g 0) = below 0 (A.O g) 14336 := by
  unfold p7
  rw [movW_at, A.p6_at]
  exact below_step (by norm_num) fun b => A.o6_at g b _
/-- The rows' largest overlaps after chunk 7. -/
theorem p8_at (g) : A.p8 (ix2 g 0) = below 0 (A.O g) 16384 := by
  unfold p8
  rw [movW_at, A.p7_at]
  exact below_step (by norm_num) fun b => A.o7_at g b _
/-- The rows' largest overlaps after chunk 8. -/
theorem p9_at (g) : A.p9 (ix2 g 0) = below 0 (A.O g) 18432 := by
  unfold p9
  rw [movW_at, A.p8_at]
  exact below_step (by norm_num) fun b => A.o8_at g b _
/-- The rows' largest overlaps after chunk 9. -/
theorem p10_at (g) : A.p10 (ix2 g 0) = below 0 (A.O g) 20096 := by
  unfold p10
  rw [movN_at, A.p9_at]
  exact below_step (by norm_num) fun b => A.o9_at g b _
/-- The rows' largest metrics before the first chunk. -/
theorem t0_at (g) : t0 (ix2 g 0) = below 0 (A.M g) 0 := (mal_zero g).trans (below_zero _ _).symm
/-- The rows' largest metrics after chunk 0. -/
theorem t1_at (g) : A.t1 (ix2 g 0) = below 0 (A.M g) 2048 := by
  unfold t1
  rw [malW_at, A.t0_at]
  exact below_step (by norm_num) fun b => A.k0_at g b _
/-- The rows' largest metrics after chunk 1. -/
theorem t2_at (g) : A.t2 (ix2 g 0) = below 0 (A.M g) 4096 := by
  unfold t2
  rw [malW_at, A.t1_at]
  exact below_step (by norm_num) fun b => A.k1_at g b _
/-- The rows' largest metrics after chunk 2. -/
theorem t3_at (g) : A.t3 (ix2 g 0) = below 0 (A.M g) 6144 := by
  unfold t3
  rw [malW_at, A.t2_at]
  exact below_step (by norm_num) fun b => A.k2_at g b _
/-- The rows' largest metrics after chunk 3. -/
theorem t4_at (g) : A.t4 (ix2 g 0) = below 0 (A.M g) 8192 := by
  unfold t4
  rw [malW_at, A.t3_at]
  exact below_step (by norm_num) fun b => A.k3_at g b _
/-- The rows' largest metrics after chunk 4. -/
theorem t5_at (g) : A.t5 (ix2 g 0) = below 0 (A.M g) 10240 := by
  unfold t5
  rw [malW_at, A.t4_at]
  exact below_step (by norm_num) fun b => A.k4_at g b _
/-- The rows' largest metrics after chunk 5. -/
theorem t6_at (g) : A.t6 (ix2 g 0) = below 0 (A.M g) 12288 := by
  unfold t6
  rw [malW_at, A.t5_at]
  exact below_step (by norm_num) fun b => A.k5_at g b _
/-- The rows' largest metrics after chunk 6. -/
theorem t7_at (g) : A.t7 (ix2 g 0) = below 0 (A.M g) 14336 := by
  unfold t7
  rw [malW_at, A.t6_at]
  exact below_step (by norm_num) fun b => A.k6_at g b _
/-- The rows' largest metrics after chunk 7. -/
theorem t8_at (g) : A.t8 (ix2 g 0) = below 0 (A.M g) 16384 := by
  unfold t8
  rw [malW_at, A.t7_at]
  exact below_step (by norm_num) fun b => A.k7_at g b _
/-- The rows' largest metrics after chunk 8. -/
theorem t9_at (g) : A.t9 (ix2 g 0) = below 0 (A.M g) 18432 := by
  unfold t9
  rw [malW_at, A.t8_at]
  exact below_step (by norm_num) fun b => A.k8_at g b _
/-- The rows' largest metrics after chunk 9. -/
theorem t10_at (g) : A.t10 (ix2 g 0) = below 0 (A.M g) 20096 := by
  unfold t10
  rw [malN_at, A.t9_at]
  exact below_step (by norm_num) fun b => A.k9_at g b _
/-- The ratios of the run. -/
theorem rat_at (g) : A.rat (ix2 g 0) = A.ratio g := by
  unfold rat
  rw [ratio_at, A.p10_at, A.t10_at, below_all, below_all]; rfl
/-- The factor by which the third pass rescales a column. -/
def scale (a : Fin 20096) : EReal := colScale (colMax fun g => A.O g a) (fun g => A.T g a) A.ratio
/-- The class columns after some columns are rescaled. -/
def part (n : ℕ) (k : Fin 80) (a : Fin 20096) : EReal :=
  if a.1 < n then colPick (fun g => A.oh (ix2 k g)) (fun g => A.O g a) * A.scale a else colPick (fun g => A.oh (ix2 k g)) (fun g => A.O g a)
/-- Nothing is rescaled before the third pass. -/
theorem K0_part (k a) : View.canon A.K0 (ix3 0 k a) = A.part 0 k a := by
  rw [A.K0_at]; unfold part; rw [if_neg (Nat.not_lt_zero _)]
/-- One chunk is rescaled. -/
theorem part_step {L : List (View.Piece (Elt Ideal) S1x80x20096 .f32)} {off w : ℕ} (hL : ∀ k a, View.canon L (ix3 0 k a) = A.part off k a)
    {inb : ∀ i, (![0, 0, off] : Fin 3 → ℕ) i + (![1, 80, w] : Fin 3 → ℕ) i ≤ (⟨3, ![1, 80, 20096]⟩ : Shape).size i}
    (v : (Rect.unit (s := ⟨3, ![1, 80, 20096]⟩) ![0, 0, off] ![1, 80, w] inb).shape.Idx → Elt Ideal .f32)
    (hv : ∀ (k : Fin 80) (b : Fin w) (hb : off + b.1 < 20096), v (ix3 0 k b) = View.canon L (ix3 0 k ⟨off + b.1, hb⟩) * A.scale ⟨off + b.1, hb⟩)
    (k a) : View.canon (⟨Rect.unit ![0, 0, off] ![1, 80, w] inb, v⟩ :: L) (ix3 0 k a) = A.part (off + w) k a := by
  refine canon_col3 (Val := Elt Ideal) (e := .f32) v L (A.part (off + w)) k a (fun b hb => ?_) (fun h => ?_)
  · rw [hv k b hb, hL]
    unfold part
    rw [if_neg (show ¬off + b.1 < off by omega), if_pos (show off + b.1 < off + w by have := b.2; omega)]
  · rw [hL]
    unfold part
    by_cases h1 : a.1 < off
    · rw [if_pos h1, if_pos (by omega)]
    · rw [if_neg h1, if_neg (by omega)]
/-- The class columns after chunk 0 is rescaled. -/
theorem K1_part (k a) : View.canon A.K1 (ix3 0 k a) = A.part 2048 k a := by
  unfold K1
  refine A.part_step (off := 0) (w := 2048) A.K0_part _ (fun k b hb => ?_) k a
  refine (sclW_at _ _ _ _ k b).trans ?_
  have h1 := readCov_col3 (Val := Elt Ideal) (e := .f32) A.arg9.view A.K0 (inb := inb_S1x80x20096_S1x80x2048_0_0_0) k b hb
  have h2 := (readCov_col (Val := Elt Ideal) (e := .f32) A.arg15.view A.ML (inb := inb_S1x20096_S1x2048_0_0) 0 b hb).trans (A.ML_at _)
  refine congrArg₂ (· * ·) h1 ?_
  unfold scale
  refine congr (congr (congrArg colScale h2) (funext fun g => A.s0_at g b hb)) (funext fun g => A.rat_at g)
/-- The class columns after chunk 1 is rescaled. -/
theorem K2_part (k a) : View.canon A.K2 (ix3 0 k a) = A.part 4096 k a := by
  unfold K2
  refine A.part_step (off := 2048) (w := 2048) A.K1_part _ (fun k b hb => ?_) k a
  refine (sclW_at _ _ _ _ k b).trans ?_
  have h1 := readCov_col3 (Val := Elt Ideal) (e := .f32) A.arg9.view A.K1 (inb := inb_S1x80x20096_S1x80x2048_0_0_2048) k b hb
  have h2 := (readCov_col (Val := Elt Ideal) (e := .f32) A.arg15.view A.ML (inb := inb_S1x20096_S1x2048_0_2048) 0 b hb).trans (A.ML_at _)
  refine congrArg₂ (· * ·) h1 ?_
  unfold scale
  refine congr (congr (congrArg colScale h2) (funext fun g => A.s1_at g b hb)) (funext fun g => A.rat_at g)
/-- The class columns after chunk 2 is rescaled. -/
theorem K3_part (k a) : View.canon A.K3 (ix3 0 k a) = A.part 6144 k a := by
  unfold K3
  refine A.part_step (off := 4096) (w := 2048) A.K2_part _ (fun k b hb => ?_) k a
  refine (sclW_at _ _ _ _ k b).trans ?_
  have h1 := readCov_col3 (Val := Elt Ideal) (e := .f32) A.arg9.view A.K2 (inb := inb_S1x80x20096_S1x80x2048_0_0_4096) k b hb
  have h2 := (readCov_col (Val := Elt Ideal) (e := .f32) A.arg15.view A.ML (inb := inb_S1x20096_S1x2048_0_4096) 0 b hb).trans (A.ML_at _)
  refine congrArg₂ (· * ·) h1 ?_
  unfold scale
  refine congr (congr (congrArg colScale h2) (funext fun g => A.s2_at g b hb)) (funext fun g => A.rat_at g)
/-- The class columns after chunk 3 is rescaled. -/
theorem K4_part (k a) : View.canon A.K4 (ix3 0 k a) = A.part 8192 k a := by
  unfold K4
  refine A.part_step (off := 6144) (w := 2048) A.K3_part _ (fun k b hb => ?_) k a
  refine (sclW_at _ _ _ _ k b).trans ?_
  have h1 := readCov_col3 (Val := Elt Ideal) (e := .f32) A.arg9.view A.K3 (inb := inb_S1x80x20096_S1x80x2048_0_0_6144) k b hb
  have h2 := (readCov_col (Val := Elt Ideal) (e := .f32) A.arg15.view A.ML (inb := inb_S1x20096_S1x2048_0_6144) 0 b hb).trans (A.ML_at _)
  refine congrArg₂ (· * ·) h1 ?_
  unfold scale
  refine congr (congr (congrArg colScale h2) (funext fun g => A.s3_at g b hb)) (funext fun g => A.rat_at g)
/-- The class columns after chunk 4 is rescaled. -/
theorem K5_part (k a) : View.canon A.K5 (ix3 0 k a) = A.part 10240 k a := by
  unfold K5
  refine A.part_step (off := 8192) (w := 2048) A.K4_part _ (fun k b hb => ?_) k a
  refine (sclW_at _ _ _ _ k b).trans ?_
  have h1 := readCov_col3 (Val := Elt Ideal) (e := .f32) A.arg9.view A.K4 (inb := inb_S1x80x20096_S1x80x2048_0_0_8192) k b hb
  have h2 := (readCov_col (Val := Elt Ideal) (e := .f32) A.arg15.view A.ML (inb := inb_S1x20096_S1x2048_0_8192) 0 b hb).trans (A.ML_at _)
  refine congrArg₂ (· * ·) h1 ?_
  unfold scale
  refine congr (congr (congrArg colScale h2) (funext fun g => A.s4_at g b hb)) (funext fun g => A.rat_at g)
/-- The class columns after chunk 5 is rescaled. -/
theorem K6_part (k a) : View.canon A.K6 (ix3 0 k a) = A.part 12288 k a := by
  unfold K6
  refine A.part_step (off := 10240) (w := 2048) A.K5_part _ (fun k b hb => ?_) k a
  refine (sclW_at _ _ _ _ k b).trans ?_
  have h1 := readCov_col3 (Val := Elt Ideal) (e := .f32) A.arg9.view A.K5 (inb := inb_S1x80x20096_S1x80x2048_0_0_10240) k b hb
  have h2 := (readCov_col (Val := Elt Ideal) (e := .f32) A.arg15.view A.ML (inb := inb_S1x20096_S1x2048_0_10240) 0 b hb).trans (A.ML_at _)
  refine congrArg₂ (· * ·) h1 ?_
  unfold scale
  refine congr (congr (congrArg colScale h2) (funext fun g => A.s5_at g b hb)) (funext fun g => A.rat_at g)
/-- The class columns after chunk 6 is rescaled. -/
theorem K7_part (k a) : View.canon A.K7 (ix3 0 k a) = A.part 14336 k a := by
  unfold K7
  refine A.part_step (off := 12288) (w := 2048) A.K6_part _ (fun k b hb => ?_) k a
  refine (sclW_at _ _ _ _ k b).trans ?_
  have h1 := readCov_col3 (Val := Elt Ideal) (e := .f32) A.arg9.view A.K6 (inb := inb_S1x80x20096_S1x80x2048_0_0_12288) k b hb
  have h2 := (readCov_col (Val := Elt Ideal) (e := .f32) A.arg15.view A.ML (inb := inb_S1x20096_S1x2048_0_12288) 0 b hb).trans (A.ML_at _)
  refine congrArg₂ (· * ·) h1 ?_
  unfold scale
  refine congr (congr (congrArg colScale h2) (funext fun g => A.s6_at g b hb)) (funext fun g => A.rat_at g)
/-- The class columns after chunk 7 is rescaled. -/
theorem K8_part (k a) : View.canon A.K8 (ix3 0 k a) = A.part 16384 k a := by
  unfold K8
  refine A.part_step (off := 14336) (w := 2048) A.K7_part _ (fun k b hb => ?_) k a
  refine (sclW_at _ _ _ _ k b).trans ?_
  have h1 := readCov_col3 (Val := Elt Ideal) (e := .f32) A.arg9.view A.K7 (inb := inb_S1x80x20096_S1x80x2048_0_0_14336) k b hb
  have h2 := (readCov_col (Val := Elt Ideal) (e := .f32) A.arg15.view A.ML (inb := inb_S1x20096_S1x2048_0_14336) 0 b hb).trans (A.ML_at _)
  refine congrArg₂ (· * ·) h1 ?_
  unfold scale
  refine congr (congr (congrArg colScale h2) (funext fun g => A.s7_at g b hb)) (funext fun g => A.rat_at g)
/-- The class columns after chunk 8 is rescaled. -/
theorem K9_part (k a) : View.canon A.K9 (ix3 0 k a) = A.part 18432 k a := by
  unfold K9
  refine A.part_step (off := 16384) (w := 2048) A.K8_part _ (fun k b hb => ?_) k a
  refine (sclW_at _ _ _ _ k b).trans ?_
  have h1 := readCov_col3 (Val := Elt Ideal) (e := .f32) A.arg9.view A.K8 (inb := inb_S1x80x20096_S1x80x2048_0_0_16384) k b hb
  have h2 := (readCov_col (Val := Elt Ideal) (e := .f32) A.arg15.view A.ML (inb := inb_S1x20096_S1x2048_0_16384) 0 b hb).trans (A.ML_at _)
  refine congrArg₂ (· * ·) h1 ?_
  unfold scale
  refine congr (congr (congrArg colScale h2) (funext fun g => A.s8_at g b hb)) (funext fun g => A.rat_at g)
/-- The class columns after chunk 9 is rescaled. -/
theorem K10_part (k a) : View.canon A.K10 (ix3 0 k a) = A.part 20096 k a := by
  unfold K10
  refine A.part_step (off := 18432) (w := 1664) A.K9_part _ (fun k b hb => ?_) k a
  refine (sclN_at _ _ _ _ k b).trans ?_
  have h1 := readCov_col3 (Val := Elt Ideal) (e := .f32) A.arg9.view A.K9 (inb := inb_S1x80x20096_S1x80x1664_0_0_18432) k b hb
  have h2 := (readCov_col (Val := Elt Ideal) (e := .f32) A.arg15.view A.ML (inb := inb_S1x20096_S1x1664_0_18432) 0 b hb).trans (A.ML_at _)
  refine congrArg₂ (· * ·) h1 ?_
  unfold scale
  refine congr (congr (congrArg colScale h2) (funext fun g => A.s9_at g b hb)) (funext fun g => A.rat_at g)
/-- The class columns after the third pass. -/
theorem K10_at (k : Fin 80) (a) : View.canon A.K10 (ix3 0 k a) = colPick (fun g => A.oh (ix2 k g)) (fun g => A.O g a) * A.scale a := by
  rw [A.K10_part]; unfold part; rw [if_pos a.2]

end Inp

end Cert.Asg
-- ==== Proof.BlockEq.lean ====
module

public import proofs.«01_k».proof.Proof.RefOut
public import proofs.«01_k».proof.Proof.PassValue

@[expose] public section

/-!
One block of the kernel's results is one batch of the reference's.
-/

noncomputable section

namespace Cert.Asg

open Idealize.ShloMosaic Cert.KernelIdeal Cert.KernelIdeal.Gen

/-- An anchor among the padded ones. -/
abbrev wide (a : Fin 20000) : Fin 20096 := a.castLE (by norm_num)

/-- The block's inputs are the batch's arguments: scores, boxes and anchors turned and padded, labels and truth boxes. -/
structure Same (A : Inp) (R : Ref.Arg) (b : Fin 8) : Prop where
  score : ∀ k a, A.x0 (ix3 0 k (wide a)) = R.x0 (ix3 b a k)
  pad : ∀ k (a : Fin 20096), 20000 ≤ a.1 → A.x0 (ix3 0 k a) = 0
  box : ∀ k a, A.x1 (ix3 0 k (wide a)) = R.x1 (ix3 b a k)
  anchor : ∀ k a, A.x2 (ix2 k (wide a)) = R.x2 (ix2 a k)
  labelL : ∀ g, A.x3 (ix3 0 0 g) = R.x3 (ix2 b g)
  labelS : ∀ g, A.x4 (ix3 0 g 0) = R.x3 (ix2 b g)
  truth : ∀ g k, A.x5 (ix3 0 g k) = R.x4 (ix3 b g k)
  truthT : ∀ k g, A.x6 (ix3 0 k g) = R.x4 (ix3 b g k)

/-- The bit of two equal small numbers, as a number. -/
theorem eqF (n k : Fin 100) :
    (FloatOps.sitofp (F := Ideal) .f32 (BitVec.setWidth 32 (IntOp.cmpi .eq (BitVec.ofNat 32 n.1) (BitVec.ofNat 32 k.1))) : EReal) =
      if n = k then 1 else 0 := by
  have h : ∀ n k : Fin 100, BitVec.setWidth 32 (IntOp.cmpi .eq (BitVec.ofNat 32 n.1) (BitVec.ofNat 32 k.1)) = if n = k then 1#32 else 0#32 := by
    decide +kernel
  rw [h]
  split
  · show (((1#32 : BitVec 32).toInt : ℝ) : EReal) = 1
    simp
  · show (((0#32 : BitVec 32).toInt : ℝ) : EReal) = 0
    simp

/-- The bit of two equal classes, as a number. -/
theorem eqC (n k : Fin 80) :
    (FloatOps.sitofp (F := Ideal) .f32 (BitVec.setWidth 32 (IntOp.cmpi .eq (BitVec.ofNat 32 n.1) (BitVec.ofNat 32 k.1))) : EReal) =
      if n = k then 1 else 0 := by
  refine (eqF (n.castLE (by norm_num)) (k.castLE (by norm_num))).trans (if_congr ?_ rfl rfl)
  exact (Fin.castLE_injective _).eq_iff

/-- The first row that has the largest value, as a fold. -/
theorem fold_rows {w : ℕ} (hw : w ≤ 100) {f : Fin w → EReal} {k : Fin w} (hk : Top f k) (m : EReal) (hm : m = f k) :
    Finset.fold IntOp.minsi 2147483647#32 (fun x : Fin w => if f x = m then BitVec.ofNat 32 x.1 else 100#32) Finset.univ = BitVec.ofNat 32 k.1 := by
  classical
  have hf : (fun x : Fin w => if f x = m then BitVec.ofNat 32 x.1 else 100#32) = fun x : Fin w => BitVec.ofNat 32 (if f x = m then x.1 else 100) := by
    funext x
    split <;> rfl
  rw [hf]
  obtain ⟨n, h1, h2, h3, h4⟩ := fold_minsi (Finset.univ : Finset (Fin w)) (fun x => if f x = m then x.1 else 100)
    (fun x => by have := x.2; split <;> omega) 2147483647 (by norm_num)
  rw [show (2147483647#32) = BitVec.ofNat 32 2147483647 from rfl, h1]
  congr 1
  have hk3 := h3 k (Finset.mem_univ k)
  have hkl := k.2
  rw [if_pos hm.symm] at hk3
  rcases h4 with h4 | ⟨x, _, h4⟩
  · omega
  · by_cases hx : f x = m
    · rw [if_pos hx] at h4
      have : ¬ x < k := fun h => absurd (hk.2 x h) (by rw [hx, hm]; exact lt_irrefl _)
      have : k.1 ≤ x.1 := not_lt.1 this
      omega
    · rw [if_neg hx] at h4
      omega

/-- The first largest row of a column, as a word. -/
theorem colArg_top {f : Fin 100 → EReal} {k : Fin 100} (hk : Top f k) : colArg f = BitVec.ofNat 32 k.1 :=
  fold_rows le_rfl hk (colMax f) (fold_max_top hk _ ofBits_negInf)

/-- A column takes the weight of its first largest row. -/
theorem colPick_top (w : Fin 100 → EReal) {f : Fin 100 → EReal} {k : Fin 100} (hk : Top f k) : colPick w f = w k := by
  unfold colPick
  rw [colArg_top hk, Finset.sum_eq_single k]
  · rw [eqF, if_pos rfl, mul_one]
  · intro x _ hx
    rw [eqF, if_neg hx, mul_zero]
  · intro h
    exact absurd (Finset.mem_univ k) h

/-- The root of zero. -/
theorem sqrt_zero : Ideal.sqrt 0 = 0 := by
  show (if (0 : ℝ) < 0 then (⊥ : EReal) else ((Real.sqrt 0 : ℝ) : EReal)) = 0
  rw [if_neg (lt_irrefl _), Real.sqrt_zero, EReal.coe_zero]

/-- The one-hot rows of the classes. -/
theorem oh_pay (A : Inp) : ∃ v : Vec Ideal S1x1x100 .i32, v = A.x3 ∧ A.oh = k0_pay21 v :=
  ⟨View.readAt (Elt Ideal) A.arg4.view (Rect.unit (s := S1x1x100) ![0, 0, 0] S1x1x100.size inb_S1x1x100_S1x1x100_0_0_0).toLoadRect (A.harg4.unread A.x3),
    by rw [View.readAt_eq_ld, A.harg4.read_unread, View.ld_unit_zero (funext fun a => by fin_cases a <;> rfl)], rfl⟩

/-- The truth boxes, turned. -/
theorem gt_pay (A : Inp) : ∃ v : Vec Ideal S1x4x100 .f32, v = A.x6 ∧ A.gt = k0_pay22 v :=
  ⟨View.readAt (Elt Ideal) A.arg7.view (Rect.unit (s := S1x4x100) ![0, 0, 0] S1x4x100.size inb_S1x4x100_S1x4x100_0_0_0).toLoadRect (A.harg7.unread A.x6),
    by rw [View.readAt_eq_ld, A.harg7.read_unread, View.ld_unit_zero (funext fun a => by fin_cases a <;> rfl)], rfl⟩

set_option maxRecDepth 10000 in
theorem pay21_at (v : Vec Ideal S1x1x100 .i32) (k : Fin 80) (g : Fin 100) : k0_pay21 (F := Ideal) v (ix2 k g) =
    FloatOps.sitofp (F := Ideal) .f32 (BitVec.setWidth 32 (IntOp.cmpi .eq (BitVec.ofNat 32 k.1) (v (ix3 0 0 g)))) := by
  unfold_payloads
  pointwise

set_option maxRecDepth 10000 in
theorem pay22_at (v : Vec Ideal S1x4x100 .f32) (k : Fin 4) (g : Fin 100) : k0_pay22 (F := Ideal) v (ix2 k g) = v (ix3 0 k g) := by
  unfold_payloads
  pointwise

variable {A : Inp} {R : Ref.Arg} {b : Fin 8} (H : Same A R b)

namespace Same

include H

theorem oh_at (k : Fin 80) (g : Fin 100) : A.oh (ix2 k g) = if R.lab b g = k then (1 : EReal) else 0 := by
  obtain ⟨v, hv, h⟩ := oh_pay A
  rw [h, pay21_at, hv, H.labelL, R.label, eqC]
  exact if_congr eq_comm rfl rfl

theorem gt_at (k : Fin 4) (g : Fin 100) : A.gt (ix2 k g) = R.x4 (ix3 b g k) := by
  obtain ⟨v, hv, h⟩ := gt_pay A
  rw [h, pay22_at, hv, H.truthT]

theorem ciou (g : Fin 100) (a : Fin 20000) : ciouB A.x1 A.x5 g (wide a) = R.ciou b g a := by
  unfold ciouB Ref.Arg.ciou
  rw [H.truth, H.truth, H.truth, H.truth, H.box, H.box, H.box, H.box]

theorem scoreAt (g : Fin 100) (a : Fin 20096) : scoreB A.x0 A.x4 g a = A.x0 (ix3 0 (R.lab b g) a) := by
  unfold scoreB
  rw [H.labelS, R.label, Finset.sum_eq_single (R.lab b g)]
  · rw [eqC, if_pos rfl, one_mul]
  · intro x _ hx
    rw [eqC, if_neg (Ne.symm hx), zero_mul]
  · intro h
    exact absurd (Finset.mem_univ _) h

theorem met (g : Fin 100) (a : Fin 20000) : A.met g (wide a) = R.met b g a := by
  unfold Inp.met metricB Ref.Arg.met
  rw [H.scoreAt, H.score, H.ciou, H.truth, H.truth, H.truth, H.truth, H.anchor, H.anchor]

theorem met_pad (g : Fin 100) (a : Fin 20096) (h : 20000 ≤ a.1) : A.met g a = 0 := by
  unfold Inp.met metricB
  rw [H.scoreAt, H.pad _ _ h, sqrt_zero, zero_mul]
  unfold Scalar.select
  split <;> rfl

theorem met_pos (g : Fin 100) (a : Fin 20096) : 0 ≤ A.met g a := by
  by_cases h : a.1 < 20000
  · have e : A.met g a = R.met b g ⟨a.1, h⟩ := H.met g ⟨a.1, h⟩
    rw [e]
    exact Ref.met_nonneg R b g _
  · exact (H.met_pad g a (not_lt.1 h)).ge

theorem taken (g : Fin 100) (a : Fin 20000) : Taken (A.met g) (wide a) ↔ Taken (R.met b g) a :=
  taken_pad (by norm_num) (A.met g) (R.met b g) (H.met g) (H.met_pad g) a

theorem over (g : Fin 100) (a : Fin 20000) : A.O g (wide a) = R.over b g a := by
  classical
  unfold Inp.O kept Ref.Arg.over
  refine Eq.trans (if_congr ?_ (H.ciou g a) rfl) rfl
  exact (rounds_neg (A.met g) (H.met_pos g) (wide a)).trans (H.taken g a)

theorem over_pad (g : Fin 100) (a : Fin 20096) (h : 20000 ≤ a.1) : A.O g a = 0 := by
  unfold Inp.O kept
  refine if_neg fun k => ?_
  exact not_taken_of_zero (H.met_pad g a h) ((rounds_neg (A.met g) (H.met_pos g) a).1 k)

theorem align (g : Fin 100) (a : Fin 20000) : A.M g (wide a) = R.align b g a := by
  classical
  unfold Inp.M Inp.T Ref.Arg.align
  rw [rounds_part (A.met g) (H.met_pos g)]
  exact if_congr (H.taken g a) (H.met g a) rfl

theorem align_pad (g : Fin 100) (a : Fin 20096) (h : 20000 ≤ a.1) : A.M g a = 0 := by
  classical
  unfold Inp.M Inp.T
  rw [rounds_part (A.met g) (H.met_pos g)]
  exact if_neg (not_taken_of_zero (H.met_pad g a h))

end Same

/-- Some anchor is not taken: only ten are. -/
theorem exists_rest (f : Fin 20000 → EReal) : ∃ a, ¬Taken f a :=
  ⟨src f ⟨10, by norm_num⟩, fun h => absurd h.2 (by rw [rank_src]; exact lt_irrefl _)⟩

/-- A row's largest value over the padded anchors, from zero, is the one over the anchors: some anchor has zero. -/
theorem fold_pad {f : Fin 20096 → EReal} {f' : Fin 20000 → EReal} (h : ∀ a, f (wide a) = f' a) (h0 : ∀ a : Fin 20096, 20000 ≤ a.1 → f a = 0)
    (hz : ∃ a, f' a = 0) : Finset.univ.fold max 0 f = Finset.univ.fold max (Ideal.ofBits .f32 4286578688#32) f' := by
  rw [ofBits_negInf]
  obtain ⟨z, hz⟩ := hz
  have h1 : 0 ≤ Finset.univ.fold max ⊥ f' := (Finset.le_fold_max _).2 (Or.inr ⟨z, Finset.mem_univ _, hz.ge⟩)
  refine le_antisymm ((Finset.fold_max_le _).2 ⟨h1, fun a _ => ?_⟩) ((Finset.fold_max_le _).2 ⟨bot_le, fun a _ => ?_⟩)
  · by_cases ha : a.1 < 20000
    · exact (Finset.le_fold_max _).2 (Or.inr ⟨⟨a.1, ha⟩, Finset.mem_univ _, (h ⟨a.1, ha⟩).le⟩)
    · rw [h0 a (not_lt.1 ha)]
      exact h1
  · exact (Finset.le_fold_max _).2 (Or.inr ⟨wide a, Finset.mem_univ _, (h a).ge⟩)

/-- The small number added to the greatest metric is positive. -/
theorem eps_pos : 0 < Ideal.ofBits .f32 814313567#32 := by
  have h : Ideal.ofBits .f32 814313567#32 = (((9007199 : ℝ) * (2 : ℝ) ^ (-53 : ℤ) : ℝ) : EReal) := by
    simp [Ideal.ofBits, Ideal.ieee, -EReal.coe_mul]
    try norm_num
  rw [h]
  exact EReal.coe_pos.2 (by positivity)

/-- A product divided is a product with a quotient. -/
theorem mul_div' (x y : EReal) {z : EReal} (hz : z ≠ 0) : x * Ideal.div y z = Ideal.div (x * y) z := by
  unfold Ideal.div
  rw [if_neg hz, if_neg hz, mul_assoc]

namespace Same

include H

theorem maxOver (g : Fin 100) : Finset.univ.fold max 0 (A.O g) = R.maxOver b g := by
  refine fold_pad (H.over g) (H.over_pad g) ?_
  obtain ⟨a, ha⟩ := exists_rest (R.met b g)
  exact ⟨a, if_neg ha⟩

theorem maxAlign (g : Fin 100) : Finset.univ.fold max 0 (A.M g) = R.maxAlign b g := by
  refine fold_pad (H.align g) (H.align_pad g) ?_
  obtain ⟨a, ha⟩ := exists_rest (R.met b g)
  exact ⟨a, if_neg ha⟩

theorem denom (g : Fin 100) : R.maxAlign b g + Ideal.ofBits .f32 814313567#32 ≠ 0 := by
  rw [← H.maxAlign g]
  have h : (0 : EReal) ≤ Finset.univ.fold max 0 (A.M g) := (Finset.le_fold_max _).2 (Or.inl le_rfl)
  exact (lt_of_lt_of_le eps_pos (le_add_of_nonneg_left h)).ne'

theorem col (a : Fin 20000) : (fun g => A.O g (wide a)) = fun g => R.over b g a := by
  funext g
  exact H.over g a

theorem top (a : Fin 20000) : colMax (fun g => A.O g (wide a)) = R.top b a := by
  rw [H.col]
  rfl

theorem scale (a : Fin 20000) : A.scale (wide a) = if 0 < R.top b a then R.norm b a else 0 := by
  unfold Inp.scale colScale
  rw [H.top]
  refine if_congr Iff.rfl ?_ rfl
  unfold Ref.Arg.norm
  refine congrArg (fun f => Finset.univ.fold max (Ideal.ofBits .f32 4286578688#32) f) (funext fun g => ?_)
  show A.M g (wide a) * A.ratio g = _
  rw [H.align]
  unfold Inp.ratio
  rw [H.maxOver, H.maxAlign, mul_div' _ _ (H.denom g)]

/-- The boxes. -/
theorem boxes (k : Fin 4) (a : Fin 20000) : View.canon A.B (ix3 0 k (wide a)) =
    if 0 < R.top b a then R.x4 (ix3 b (R.best b a) k) else Ideal.ofBits .f32 3212836864#32 := by
  rw [Inp.B_at, H.top, H.col, colPick_top _ (Ref.best_top R b a), H.gt_at]

/-- The classes. -/
theorem classes (k : Fin 80) (a : Fin 20000) : View.canon A.K10 (ix3 0 k (wide a)) =
    (if 0 < R.top b a ∧ R.lab b (R.best b a) = k then (1 : EReal) else 0) * R.norm b a := by
  rw [Inp.K10_at, H.scale, H.col, colPick_top _ (Ref.best_top R b a), H.oh_at]
  by_cases h : 0 < R.top b a
  · simp only [h, if_true, true_and]
  · simp only [h, if_false, false_and, mul_zero, zero_mul]

end Same

end Cert.Asg
-- ==== Proof.HostIn.lean ====
module

public import proofs.«01_k».proof.Proof.RoundDefs
public import Idealize.ShloMosaic.Lib.StableHlo.Run
public import Idealize.ShloMosaic.Lib.KernelVsHost

@[expose] public section

/-!
The arrays that the region finds, from the arguments: scores, boxes and anchors turned and padded with zeros, labels as a row and as a column,
truth boxes turned.
-/

noncomputable section

namespace Cert.Asg

open Idealize.ShloMosaic Idealize.ShloMosaic.TcCoe Cert.KernelIdeal Cert.KernelIdeal.Gen

variable (m : (ℓ : Loc nD τ sig) → Buf (Elt Ideal) ℓ) (c : Dev nD)

/-- The scores, as launched. -/
abbrev arg0 : Vec Ideal S8x20000x80 .f32 := m ((c : Thread nD τ).loc main_arg0)
/-- The predicted boxes, as launched. -/
abbrev arg1 : Vec Ideal S8x20000x4 .f32 := m ((c : Thread nD τ).loc main_arg1)
/-- The anchors, as launched. -/
abbrev arg2 : Vec Ideal S20000x2 .f32 := m ((c : Thread nD τ).loc main_arg2)
/-- The labels, as launched. -/
abbrev arg3 : Vec Ideal S8x100 .i32 := m ((c : Thread nD τ).loc main_arg3)
/-- The truth boxes, as launched. -/
abbrev arg4 : Vec Ideal S8x100x4 .f32 := m ((c : Thread nD τ).loc main_arg4)

/-- The padding value. -/
def zeroPad : Vec Ideal S_ .f32 := sitofp (F := Ideal) .f32 (constantI S_ 32 0#32)

theorem zeroPad_at (i) : zeroPad i = 0 := by
  show (((0#32 : BitVec 32).toInt : ℝ) : EReal) = 0
  simp

theorem V_v1 : V m c main_v1 = pad S8x80x20096 ![0, 0, 0] ![0, 0, 96] ![0, 0, 0]
    (transpose S8x80x20000 [0, 2, 1] (arg0 m c) transposes_S8x20000x80_S8x80x20000_0_2_1) zeroPad pads_S8x80x20000_S8x80x20096_000_000_0960 h_S_ := by
  show StableHlo.after (List.flatten [hostOps0, hostOps0_1, hostOps0_2, hostOps0_3, hostOps0_4, hostOps0_5, hostOps0_6]) (fun b => m (c, b)) (Proc.devRef .tc main_v1) = _
  simp only [hostOps0, hostOps0_1, hostOps0_2, hostOps0_3, hostOps0_4, hostOps0_5, hostOps0_6, List.flatten_cons, List.flatten_nil, List.append_nil, List.cons_append, List.nil_append]
  after_results
  rfl

theorem V_v3 : V m c main_v3 = pad S8x4x20096 ![0, 0, 0] ![0, 0, 96] ![0, 0, 0]
    (transpose S8x4x20000 [0, 2, 1] (arg1 m c) transposes_S8x20000x4_S8x4x20000_0_2_1) zeroPad pads_S8x4x20000_S8x4x20096_000_000_0960 h_S_ := by
  show StableHlo.after (List.flatten [hostOps0, hostOps0_1, hostOps0_2, hostOps0_3, hostOps0_4, hostOps0_5, hostOps0_6]) (fun b => m (c, b)) (Proc.devRef .tc main_v3) = _
  simp only [hostOps0, hostOps0_1, hostOps0_2, hostOps0_3, hostOps0_4, hostOps0_5, hostOps0_6, List.flatten_cons, List.flatten_nil, List.append_nil, List.cons_append, List.nil_append]
  after_results
  rfl

theorem V_v5 : V m c main_v5 = pad S2x20096 ![0, 0] ![0, 96] ![0, 0]
    (transpose S2x20000 [1, 0] (arg2 m c) transposes_S20000x2_S2x20000_1_0) zeroPad pads_S2x20000_S2x20096_000_0960 h_S_ := by
  show StableHlo.after (List.flatten [hostOps0, hostOps0_1, hostOps0_2, hostOps0_3, hostOps0_4, hostOps0_5, hostOps0_6]) (fun b => m (c, b)) (Proc.devRef .tc main_v5) = _
  simp only [hostOps0, hostOps0_1, hostOps0_2, hostOps0_3, hostOps0_4, hostOps0_5, hostOps0_6, List.flatten_cons, List.flatten_nil, List.append_nil, List.cons_append, List.nil_append]
  after_results
  rfl

theorem V_v6 : V m c main_v6 = broadcastInDim S8x1x100 ![0, 2] bcast_S8x100_S8x1x100_0_2 (arg3 m c) := by
  show StableHlo.after (List.flatten [hostOps0, hostOps0_1, hostOps0_2, hostOps0_3, hostOps0_4, hostOps0_5, hostOps0_6]) (fun b => m (c, b)) (Proc.devRef .tc main_v6) = _
  simp only [hostOps0, hostOps0_1, hostOps0_2, hostOps0_3, hostOps0_4, hostOps0_5, hostOps0_6, List.flatten_cons, List.flatten_nil, List.append_nil, List.cons_append, List.nil_append]
  after_results

theorem V_v7 : V m c main_v7 = broadcastInDim S8x100x1 ![0, 1] bcast_S8x100_S8x100x1_0_1 (arg3 m c) := by
  show StableHlo.after (List.flatten [hostOps0, hostOps0_1, hostOps0_2, hostOps0_3, hostOps0_4, hostOps0_5, hostOps0_6]) (fun b => m (c, b)) (Proc.devRef .tc main_v7) = _
  simp only [hostOps0, hostOps0_1, hostOps0_2, hostOps0_3, hostOps0_4, hostOps0_5, hostOps0_6, List.flatten_cons, List.flatten_nil, List.append_nil, List.cons_append, List.nil_append]
  after_results

theorem V_v8 : V m c main_v8 = transpose S8x4x100 [0, 2, 1] (arg4 m c) transposes_S8x100x4_S8x4x100_0_2_1 := by
  show StableHlo.after (List.flatten [hostOps0, hostOps0_1, hostOps0_2, hostOps0_3, hostOps0_4, hostOps0_5, hostOps0_6]) (fun b => m (c, b)) (Proc.devRef .tc main_v8) = _
  simp only [hostOps0, hostOps0_1, hostOps0_2, hostOps0_3, hostOps0_4, hostOps0_5, hostOps0_6, List.flatten_cons, List.flatten_nil, List.append_nil, List.cons_append, List.nil_append]
  after_results

/-! The arrays at an index. -/

section Pads

/-- An array of three axes padded at the end of its last axis, inside. -/
theorem pad3_in {p q n n' e : ℕ} (x : (⟨3, ![p, q, n]⟩ : Shape).Idx → EReal) (v : S_.Idx → EReal)
    (h : (⟨3, ![p, q, n]⟩ : Shape).Pads ![0, 0, 0] ![0, 0, e] ![0, 0, 0] ⟨3, ![p, q, n']⟩) (hn : n ≤ n') (b : Fin p) (k : Fin q) (a : Fin n) :
    pad ⟨3, ![p, q, n']⟩ ![0, 0, 0] ![0, 0, e] ![0, 0, 0] x v h h_S_ (ix3 b k (a.castLE hn)) = x (ix3 b k a) := by
  refine pad_apply_of_inside _ _ _ _ _ _ _ _ _ fun i => ?_
  fin_cases i <;> simp

/-- An array of three axes padded at the end of its last axis, in the padding. -/
theorem pad3_out {p q n n' e : ℕ} (x : (⟨3, ![p, q, n]⟩ : Shape).Idx → EReal) (v : S_.Idx → EReal)
    (h : (⟨3, ![p, q, n]⟩ : Shape).Pads ![0, 0, 0] ![0, 0, e] ![0, 0, 0] ⟨3, ![p, q, n']⟩) (b : Fin p) (k : Fin q) (a : Fin n') (ha : n ≤ a.1) :
    pad ⟨3, ![p, q, n']⟩ ![0, 0, 0] ![0, 0, e] ![0, 0, 0] x v h h_S_ (ix3 b k a) = v (Shape.Idx.first h_S_) := by
  refine pad_apply_of_not_inside _ _ _ _ _ _ _ _ (2 : Fin 3) fun hh => ?_
  have h2 : (a.1 - 0) / (0 + 1) < n := hh.2.2
  rw [Nat.sub_zero, Nat.div_one] at h2
  omega

/-- An array of two axes padded at the end of its last axis, inside. -/
theorem pad2_in {q n n' e : ℕ} (x : (⟨2, ![q, n]⟩ : Shape).Idx → EReal) (v : S_.Idx → EReal)
    (h : (⟨2, ![q, n]⟩ : Shape).Pads ![0, 0] ![0, e] ![0, 0] ⟨2, ![q, n']⟩) (hn : n ≤ n') (k : Fin q) (a : Fin n) :
    pad ⟨2, ![q, n']⟩ ![0, 0] ![0, e] ![0, 0] x v h h_S_ (ix2 k (a.castLE hn)) = x (ix2 k a) := by
  refine pad_apply_of_inside _ _ _ _ _ _ _ _ _ fun i => ?_
  fin_cases i <;> simp

end Pads

theorem in_score (b : Fin 8) (k : Fin 80) (a : Fin 20000) (hn : 20000 ≤ 20096) : V m c main_v1 (ix3 b k (a.castLE hn)) = arg0 m c (ix3 b a k) := by
  rw [V_v1]
  refine (pad3_in _ _ _ hn b k a).trans ?_
  pointwise

theorem in_pad (b : Fin 8) (k : Fin 80) (a : Fin 20096) (ha : 20000 ≤ a.1) : V m c main_v1 (ix3 b k a) = (0 : EReal) := by
  rw [V_v1]
  exact (pad3_out _ _ _ b k a ha).trans (zeroPad_at _)

theorem in_box (b : Fin 8) (k : Fin 4) (a : Fin 20000) (hn : 20000 ≤ 20096) : V m c main_v3 (ix3 b k (a.castLE hn)) = arg1 m c (ix3 b a k) := by
  rw [V_v3]
  refine (pad3_in _ _ _ hn b k a).trans ?_
  pointwise

theorem in_anchor (k : Fin 2) (a : Fin 20000) (hn : 20000 ≤ 20096) : V m c main_v5 (ix2 k (a.castLE hn)) = arg2 m c (ix2 a k) := by
  rw [V_v5]
  refine (pad2_in _ _ _ hn k a).trans ?_
  pointwise

theorem in_labelL (b : Fin 8) (g : Fin 100) : V m c main_v6 (ix3 b 0 g) = arg3 m c (ix2 b g) := by
  rw [V_v6]
  pointwise

theorem in_labelS (b : Fin 8) (g : Fin 100) : V m c main_v7 (ix3 b g 0) = arg3 m c (ix2 b g) := by
  rw [V_v7]
  pointwise

theorem in_truth (b : Fin 8) (g : Fin 100) (k : Fin 4) : V m c main_arg4 (ix3 b g k) = arg4 m c (ix3 b g k) := by
  rw [V_main_arg4]

theorem in_truthT (b : Fin 8) (k : Fin 4) (g : Fin 100) : V m c main_v8 (ix3 b k g) = arg4 m c (ix3 b g k) := by
  rw [V_v8]
  pointwise

end Cert.Asg
-- ==== Proof.Region.lean ====
module

public import proofs.«01_k».proof.Proof.Passes
public import proofs.«01_k».proof.Proof.HostIn
public import Idealize.ShloMosaic.Lib.Pipeline.Value

@[expose] public section

/-!
The region's arrays: the block that each grid point reads of every input, and what each output array holds after the run.
The grid has a point for every batch.
-/

noncomputable section

namespace Cert.Asg

open Idealize.ShloMosaic Idealize.ShloMosaic.TcCoe Cert.KernelIdeal Cert.KernelIdeal.Gen
open Idealize.ShloMosaic.Pipeline (Dat)

variable (m : (ℓ : Loc nD τ sig) → Buf (Elt Ideal) ℓ) (c : Dev nD)

theorem points : cfg0.N = 8 := (by decide +kernel : grid0.N = 8)

/-- The batch of a grid point. -/
def batch (t : Fin cfg0.N) : Fin 8 := t.cast points

/-- The grid point of a batch. -/
def point (b : Fin 8) : Fin cfg0.N := b.cast points.symm

theorem batch_point (b : Fin 8) : batch (point b) = b := rfl

/-- What the run of grid point `t` is given. -/
def inp (t : Fin cfg0.N) : Inp where
  c := c
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  arg9 := ms0_8 t
  arg10 := ms0_9 t
  arg11 := scM0_0
  arg12 := scM0_1
  arg13 := scM0_2
  arg14 := scM0_3
  arg15 := scM0_4
  x0 := iblk m c 0 t
  x1 := iblk m c 1 t
  x2 := iblk m c 2 t
  x3 := iblk m c 3 t
  x4 := iblk m c 4 t
  x5 := iblk m c 5 t
  x6 := iblk m c 6 t

/-- Window 0's block index. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Where an element of window 0's block lies in its array. -/
theorem emb0 (t : Fin cfg0.N) (k : Fin 80) (a : Fin 20096) : ((cfg0.win 0).blk t).view.emb (ix3 0 k a) = ix3 (batch t) k a := by
  obtain ⟨e0, e1, e2⟩ := index0 t
  funext x; apply Fin.ext
  match x with
  | ⟨0, _⟩ => show win0_0.index t (0 : Fin 3) * 1 + 1 * 0 = t.val; omega
  | ⟨1, _⟩ => show win0_0.index t (1 : Fin 3) * 80 + 1 * k.val = k.val; omega
  | ⟨2, _⟩ => show win0_0.index t (2 : Fin 3) * 20096 + 1 * a.val = a.val; omega

/-- Window 1's block index. -/
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Where an element of window 1's block lies in its array. -/
theorem emb1 (t : Fin cfg0.N) (k : Fin 4) (a : Fin 20096) : ((cfg0.win 1).blk t).view.emb (ix3 0 k a) = ix3 (batch t) k a := by
  obtain ⟨e0, e1, e2⟩ := index1 t
  funext x; apply Fin.ext
  match x with
  | ⟨0, _⟩ => show win0_1.index t (0 : Fin 3) * 1 + 1 * 0 = t.val; omega
  | ⟨1, _⟩ => show win0_1.index t (1 : Fin 3) * 4 + 1 * k.val = k.val; omega
  | ⟨2, _⟩ => show win0_1.index t (2 : Fin 3) * 20096 + 1 * a.val = a.val; omega

/-- Window 2's block index. -/
theorem index2 : ∀ t : Fin cfg0.N, win0_2.index t (0 : Fin 2) = 0 ∧ win0_2.index t (1 : Fin 2) = 0 :=
  (by decide +kernel : ∀ t : Fin grid0.N, _)

/-- Where an element of window 2's block lies in its array. -/
theorem emb2 (t : Fin cfg0.N) (k : Fin 2) (a : Fin 20096) : ((cfg0.win 2).blk t).view.emb (ix2 k a) = ix2 k a := by
  obtain ⟨e0, e1⟩ := index2 t
  funext x; apply Fin.ext
  match x with
  | ⟨0, _⟩ => show win0_2.index t (0 : Fin 2) * 2 + 1 * k.val = k.val; omega
  | ⟨1, _⟩ => show win0_2.index t (1 : Fin 2) * 20096 + 1 * a.val = a.val; omega

/-- Window 3's block index. -/
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Where an element of window 3's block lies in its array. -/
theorem emb3 (t : Fin cfg0.N) (k : Fin 1) (a : Fin 100) : ((cfg0.win 3).blk t).view.emb (ix3 0 k a) = ix3 (batch t) k a := by
  obtain ⟨e0, e1, e2⟩ := index3 t
  funext x; apply Fin.ext
  match x with
  | ⟨0, _⟩ => show win0_3.index t (0 : Fin 3) * 1 + 1 * 0 = t.val; omega
  | ⟨1, _⟩ => show win0_3.index t (1 : Fin 3) * 1 + 1 * k.val = k.val; omega
  | ⟨2, _⟩ => show win0_3.index t (2 : Fin 3) * 100 + 1 * a.val = a.val; omega

/-- Window 4's block index. -/
theorem index4 : ∀ t : Fin cfg0.N, win0_4.index t (0 : Fin 3) = t.val ∧ win0_4.index t (1 : Fin 3) = 0 ∧ win0_4.index t (2 : Fin 3) = 0 :=
  (by decide +kernel : ∀ t : Fin grid0.N, _)

/-- Where an element of window 4's block lies in its array. -/
theorem emb4 (t : Fin cfg0.N) (k : Fin 100) (a : Fin 1) : ((cfg0.win 4).blk t).view.emb (ix3 0 k a) = ix3 (batch t) k a := by
  obtain ⟨e0, e1, e2⟩ := index4 t
  funext x; apply Fin.ext
  match x with
  | ⟨0, _⟩ => show win0_4.index t (0 : Fin 3) * 1 + 1 * 0 = t.val; omega
  | ⟨1, _⟩ => show win0_4.index t (1 : Fin 3) * 100 + 1 * k.val = k.val; omega
  | ⟨2, _⟩ => show win0_4.index t (2 : Fin 3) * 1 + 1 * a.val = a.val; omega

/-- Window 5's block index. -/
theorem index5 : ∀ t : Fin cfg0.N, win0_5.index t (0 : Fin 3) = t.val ∧ win0_5.index t (1 : Fin 3) = 0 ∧ win0_5.index t (2 : Fin 3) = 0 :=
  (by decide +kernel : ∀ t : Fin grid0.N, _)

/-- Where an element of window 5's block lies in its array. -/
theorem emb5 (t : Fin cfg0.N) (k : Fin 100) (a : Fin 4) : ((cfg0.win 5).blk t).view.emb (ix3 0 k a) = ix3 (batch t) k a := by
  obtain ⟨e0, e1, e2⟩ := index5 t
  funext x; apply Fin.ext
  match x with
  | ⟨0, _⟩ => show win0_5.index t (0 : Fin 3) * 1 + 1 * 0 = t.val; omega
  | ⟨1, _⟩ => show win0_5.index t (1 : Fin 3) * 100 + 1 * k.val = k.val; omega
  | ⟨2, _⟩ => show win0_5.index t (2 : Fin 3) * 4 + 1 * a.val = a.val; omega

/-- Window 6's block index. -/
theorem index6 : ∀ t : Fin cfg0.N, win0_6.index t (0 : Fin 3) = t.val ∧ win0_6.index t (1 : Fin 3) = 0 ∧ win0_6.index t (2 : Fin 3) = 0 :=
  (by decide +kernel : ∀ t : Fin grid0.N, _)

/-- Where an element of window 6's block lies in its array. -/
theorem emb6 (t : Fin cfg0.N) (k : Fin 4) (a : Fin 100) : ((cfg0.win 6).blk t).view.emb (ix3 0 k a) = ix3 (batch t) k a := by
  obtain ⟨e0, e1, e2⟩ := index6 t
  funext x; apply Fin.ext
  match x with
  | ⟨0, _⟩ => show win0_6.index t (0 : Fin 3) * 1 + 1 * 0 = t.val; omega
  | ⟨1, _⟩ => show win0_6.index t (1 : Fin 3) * 4 + 1 * k.val = k.val; omega
  | ⟨2, _⟩ => show win0_6.index t (2 : Fin 3) * 100 + 1 * a.val = a.val; omega

/-- Window 7's block index. -/
theorem index7 : ∀ t : Fin cfg0.N, win0_7.index t (0 : Fin 3) = t.val ∧ win0_7.index t (1 : Fin 3) = 0 ∧ win0_7.index t (2 : Fin 3) = 0 :=
  (by decide +kernel : ∀ t : Fin grid0.N, _)

/-- Where an element of window 7's block lies in its array. -/
theorem emb7 (t : Fin cfg0.N) (k : Fin 4) (a : Fin 20096) : ((cfg0.win 7).blk t).view.emb (ix3 0 k a) = ix3 (batch t) k a := by
  obtain ⟨e0, e1, e2⟩ := index7 t
  funext x; apply Fin.ext
  match x with
  | ⟨0, _⟩ => show win0_7.index t (0 : Fin 3) * 1 + 1 * 0 = t.val; omega
  | ⟨1, _⟩ => show win0_7.index t (1 : Fin 3) * 4 + 1 * k.val = k.val; omega
  | ⟨2, _⟩ => show win0_7.index t (2 : Fin 3) * 20096 + 1 * a.val = a.val; omega

/-- Window 8's block index. -/
theorem index8 : ∀ t : Fin cfg0.N, win0_8.index t (0 : Fin 3) = t.val ∧ win0_8.index t (1 : Fin 3) = 0 ∧ win0_8.index t (2 : Fin 3) = 0 :=
  (by decide +kernel : ∀ t : Fin grid0.N, _)

/-- Where an element of window 8's block lies in its array. -/
theorem emb8 (t : Fin cfg0.N) (k : Fin 80) (a : Fin 20096) : ((cfg0.win 8).blk t).view.emb (ix3 0 k a) = ix3 (batch t) k a := by
  obtain ⟨e0, e1, e2⟩ := index8 t
  funext x; apply Fin.ext
  match x with
  | ⟨0, _⟩ => show win0_8.index t (0 : Fin 3) * 1 + 1 * 0 = t.val; omega
  | ⟨1, _⟩ => show win0_8.index t (1 : Fin 3) * 80 + 1 * k.val = k.val; omega
  | ⟨2, _⟩ => show win0_8.index t (2 : Fin 3) * 20096 + 1 * a.val = a.val; omega

/-- Window 9's block index. -/
theorem index9 : ∀ t : Fin cfg0.N, win0_9.index t (0 : Fin 3) = t.val ∧ win0_9.index t (1 : Fin 3) = 0 ∧ win0_9.index t (2 : Fin 3) = 0 :=
  (by decide +kernel : ∀ t : Fin grid0.N, _)

/-- Where an element of window 9's block lies in its array. -/
theorem emb9 (t : Fin cfg0.N) (k : Fin 1) (a : Fin 20096) : ((cfg0.win 9).blk t).view.emb (ix3 0 k a) = ix3 (batch t) k a := by
  obtain ⟨e0, e1, e2⟩ := index9 t
  funext x; apply Fin.ext
  match x with
  | ⟨0, _⟩ => show win0_9.index t (0 : Fin 3) * 1 + 1 * 0 = t.val; omega
  | ⟨1, _⟩ => show win0_9.index t (1 : Fin 3) * 1 + 1 * k.val = k.val; omega
  | ⟨2, _⟩ => show win0_9.index t (2 : Fin 3) * 20096 + 1 * a.val = a.val; omega

theorem blk0 (t : Fin cfg0.N) (k : Fin 80) (a : Fin 20096) : (inp m c t).x0 (ix3 0 k a) = V m c main_v1 (ix3 (batch t) k a) := by
  show V m c main_v1 (((cfg0.win 0).blk t).view.emb (ix3 0 k a)) = _
  rw [emb0]

theorem blk1 (t : Fin cfg0.N) (k : Fin 4) (a : Fin 20096) : (inp m c t).x1 (ix3 0 k a) = V m c main_v3 (ix3 (batch t) k a) := by
  show V m c main_v3 (((cfg0.win 1).blk t).view.emb (ix3 0 k a)) = _
  rw [emb1]

theorem blk2 (t : Fin cfg0.N) (k : Fin 2) (a : Fin 20096) : (inp m c t).x2 (ix2 k a) = V m c main_v5 (ix2 k a) := by
  show V m c main_v5 (((cfg0.win 2).blk t).view.emb (ix2 k a)) = _
  rw [emb2]

theorem blk3 (t : Fin cfg0.N) (k : Fin 1) (a : Fin 100) : (inp m c t).x3 (ix3 0 k a) = V m c main_v6 (ix3 (batch t) k a) := by
  show V m c main_v6 (((cfg0.win 3).blk t).view.emb (ix3 0 k a)) = _
  rw [emb3]

theorem blk4 (t : Fin cfg0.N) (k : Fin 100) (a : Fin 1) : (inp m c t).x4 (ix3 0 k a) = V m c main_v7 (ix3 (batch t) k a) := by
  show V m c main_v7 (((cfg0.win 4).blk t).view.emb (ix3 0 k a)) = _
  rw [emb4]

theorem blk5 (t : Fin cfg0.N) (k : Fin 100) (a : Fin 4) : (inp m c t).x5 (ix3 0 k a) = V m c main_arg4 (ix3 (batch t) k a) := by
  show V m c main_arg4 (((cfg0.win 5).blk t).view.emb (ix3 0 k a)) = _
  rw [emb5]

theorem blk6 (t : Fin cfg0.N) (k : Fin 4) (a : Fin 100) : (inp m c t).x6 (ix3 0 k a) = V m c main_v8 (ix3 (batch t) k a) := by
  show V m c main_v8 (((cfg0.win 6).blk t).view.emb (ix3 0 k a)) = _
  rw [emb6]

/-- What a run leaves in output 7. -/
theorem left7 (A : Inp) (i : grid0.Coords) (h8 : A.arg8.IsWhole) (h9 : A.arg9.IsWhole) (h10 : A.arg10.IsWhole) (h11 : A.arg11.IsWhole) (h12 : A.arg12.IsWhole) (h13 : A.arg13.IsWhole) (h14 : A.arg14.IsWhole) (h15 : A.arg15.IsWhole) :
    out0_A_7 (F := Ideal) A.c i A.arg1 A.harg1 A.arg2 A.harg2 A.arg3 A.harg3 A.arg4 A.harg4 A.arg5 A.harg5 A.arg6 A.harg6 A.arg7 A.harg7 A.arg8 h8 A.arg9 h9 A.arg10 h10 A.arg11 h11 A.arg12 h12 A.arg13 h13 A.arg14 h14 A.arg15 h15 A.x0 A.x1 A.x2 A.x3 A.x4 A.x5 A.x6 = View.canon A.B := by
  unfold out0_A_7
  rw [View.read_writes_junk_eq_canon, A.run_box]

/-- What the run of a grid point leaves in output 7. -/
theorem out7 (t : Fin cfg0.N) : (outsAt0 m c t).1 = View.canon (inp m c t).B := by
  have h1 : scM0_0.IsWhole := Memref.isWhole_whole _
  have h2 : scM0_1.IsWhole := Memref.isWhole_whole _
  have h3 : scM0_2.IsWhole := Memref.isWhole_whole _
  have h4 : scM0_3.IsWhole := Memref.isWhole_whole _
  have h5 : scM0_4.IsWhole := Memref.isWhole_whole _
  have h := left7 (inp m c t) (grid0.coords t) (hs0_7 t) (hs0_8 t) (hs0_9 t) h1 h2 h3 h4 h5
  refine Eq.trans ?_ h
  unfold outsAt0
  dsimp only [inp]

/-- What output 7's array is to hold. -/
def arr7 (m : (ℓ : Loc nD τ sig) → Buf (Elt Ideal) ℓ) (c : Dev nD) : Vec Ideal S8x4x20096 .f32 := fun i => View.canon (inp m c (point (i 0))).B (ix3 0 (i 1) (i 2))

theorem arr7_at (t : Fin cfg0.N) (k : Fin 4) (a : Fin 20096) : arr7 m c (ix3 (batch t) k a) = View.canon (inp m c t).B (ix3 0 k a) := by
  rfl

theorem split7 (i : S8x4x20096.Idx) : ∃ (b : Fin 8) (k : Fin 4) (a : Fin 20096), i = ix3 b k a := ⟨i 0, i 1, i 2, by
    funext x
    match x with
    | ⟨0, _⟩ => rfl
    | ⟨1, _⟩ => rfl
    | ⟨2, _⟩ => rfl⟩

theorem one7 (j : S1x4x20096.Idx) : ∃ (k : Fin 4) (a : Fin 20096), j = ix3 0 k a := ⟨j 1, j 2, by
    funext x
    match x with
    | ⟨0, _⟩ => exact Subsingleton.elim (α := Fin 1) _ _
    | ⟨1, _⟩ => rfl
    | ⟨2, _⟩ => rfl⟩

theorem cut7 (t : Fin cfg0.N) : (dats m 0 c).flushed 7 t = (cfg0.win 7).cut (grid0.coords t) ((dats m 0 c).after 7 t) := rfl

theorem read7 (t : Fin cfg0.N) (X : Vec Ideal S1x4x20096 .f32) (Y : Vec Ideal S8x4x20096 .f32) (h : ∀ k a, X (ix3 0 k a) = Y (ix3 (batch t) k a)) :
    (cfg0.win 7).cut (grid0.coords t) X = ((cfg0.win 7).blk t).view.read (Elt Ideal) Y := by
  funext j
  obtain ⟨k, a, rfl⟩ := one7 j
  show X (ix3 0 k a) = Y (((cfg0.win 7).blk t).view.emb (ix3 0 k a))
  rw [emb7]
  exact h k a

theorem flush7 (t : Fin cfg0.N) : (dats m 0 c).flushed 7 t = ((cfg0.win 7).blk t).view.read (Elt Ideal) (arr7 m c) := by
  rw [cut7, after0_7, out7]
  exact read7 t _ _ fun k a => (arr7_at m c t k a).symm

theorem cover7 (i : S8x4x20096.Idx) : ∃ t : Fin cfg0.N, (cfg0.win 7).flush t = true ∧ i ∈ ((cfg0.win 7).blk t).view.set := by
  obtain ⟨b, k, a, rfl⟩ := split7 i
  refine ⟨point b, flush0_7 _, ?_⟩
  have h := ((cfg0.win 7).blk (point b)).view.emb_mem_set (ix3 0 k a)
  have e := emb7 (point b) k a
  rw [batch_point] at e
  exact e ▸ h

/-- What output 7's array holds after the run. -/
theorem final7 : (dats m 0 c).arrAt 7 cfg0.N = arr7 m c :=
  (dats m 0 c).arrAt_eq_of_cover 7 (arr7 m c) (fun t _ => flush7 m c t) (cover7)

/-- What a run leaves in output 8. -/
theorem left8 (A : Inp) (i : grid0.Coords) (h8 : A.arg8.IsWhole) (h9 : A.arg9.IsWhole) (h10 : A.arg10.IsWhole) (h11 : A.arg11.IsWhole) (h12 : A.arg12.IsWhole) (h13 : A.arg13.IsWhole) (h14 : A.arg14.IsWhole) (h15 : A.arg15.IsWhole) :
    out0_A_8 (F := Ideal) A.c i A.arg1 A.harg1 A.arg2 A.harg2 A.arg3 A.harg3 A.arg4 A.harg4 A.arg5 A.harg5 A.arg6 A.harg6 A.arg7 A.harg7 A.arg8 h8 A.arg9 h9 A.arg10 h10 A.arg11 h11 A.arg12 h12 A.arg13 h13 A.arg14 h14 A.arg15 h15 A.x0 A.x1 A.x2 A.x3 A.x4 A.x5 A.x6 = View.canon A.K10 := by
  unfold out0_A_8
  rw [View.read_writes_junk_eq_canon, A.run_cls]

/-- What the run of a grid point leaves in output 8. -/
theorem out8 (t : Fin cfg0.N) : (outsAt0 m c t).2.1 = View.canon (inp m c t).K10 := by
  have h1 : scM0_0.IsWhole := Memref.isWhole_whole _
  have h2 : scM0_1.IsWhole := Memref.isWhole_whole _
  have h3 : scM0_2.IsWhole := Memref.isWhole_whole _
  have h4 : scM0_3.IsWhole := Memref.isWhole_whole _
  have h5 : scM0_4.IsWhole := Memref.isWhole_whole _
  have h := left8 (inp m c t) (grid0.coords t) (hs0_7 t) (hs0_8 t) (hs0_9 t) h1 h2 h3 h4 h5
  refine Eq.trans ?_ h
  unfold outsAt0
  dsimp only [inp]

/-- What output 8's array is to hold. -/
def arr8 (m : (ℓ : Loc nD τ sig) → Buf (Elt Ideal) ℓ) (c : Dev nD) : Vec Ideal S8x80x20096 .f32 := fun i => View.canon (inp m c (point (i 0))).K10 (ix3 0 (i 1) (i 2))

theorem arr8_at (t : Fin cfg0.N) (k : Fin 80) (a : Fin 20096) : arr8 m c (ix3 (batch t) k a) = View.canon (inp m c t).K10 (ix3 0 k a) := by
  rfl

theorem split8 (i : S8x80x20096.Idx) : ∃ (b : Fin 8) (k : Fin 80) (a : Fin 20096), i = ix3 b k a := ⟨i 0, i 1, i 2, by
    funext x
    match x with
    | ⟨0, _⟩ => rfl
    | ⟨1, _⟩ => rfl
    | ⟨2, _⟩ => rfl⟩

theorem one8 (j : S1x80x20096.Idx) : ∃ (k : Fin 80) (a : Fin 20096), j = ix3 0 k a := ⟨j 1, j 2, by
    funext x
    match x with
    | ⟨0, _⟩ => exact Subsingleton.elim (α := Fin 1) _ _
    | ⟨1, _⟩ => rfl
    | ⟨2, _⟩ => rfl⟩

theorem cut8 (t : Fin cfg0.N) : (dats m 0 c).flushed 8 t = (cfg0.win 8).cut (grid0.coords t) ((dats m 0 c).after 8 t) := rfl

theorem read8 (t : Fin cfg0.N) (X : Vec Ideal S1x80x20096 .f32) (Y : Vec Ideal S8x80x20096 .f32) (h : ∀ k a, X (ix3 0 k a) = Y (ix3 (batch t) k a)) :
    (cfg0.win 8).cut (grid0.coords t) X = ((cfg0.win 8).blk t).view.read (Elt Ideal) Y := by
  funext j
  obtain ⟨k, a, rfl⟩ := one8 j
  show X (ix3 0 k a) = Y (((cfg0.win 8).blk t).view.emb (ix3 0 k a))
  rw [emb8]
  exact h k a

theorem flush8 (t : Fin cfg0.N) : (dats m 0 c).flushed 8 t = ((cfg0.win 8).blk t).view.read (Elt Ideal) (arr8 m c) := by
  rw [cut8, after0_8, out8]
  exact read8 t _ _ fun k a => (arr8_at m c t k a).symm

theorem cover8 (i : S8x80x20096.Idx) : ∃ t : Fin cfg0.N, (cfg0.win 8).flush t = true ∧ i ∈ ((cfg0.win 8).blk t).view.set := by
  obtain ⟨b, k, a, rfl⟩ := split8 i
  refine ⟨point b, flush0_8 _, ?_⟩
  have h := ((cfg0.win 8).blk (point b)).view.emb_mem_set (ix3 0 k a)
  have e := emb8 (point b) k a
  rw [batch_point] at e
  exact e ▸ h

/-- What output 8's array holds after the run. -/
theorem final8 : (dats m 0 c).arrAt 8 cfg0.N = arr8 m c :=
  (dats m 0 c).arrAt_eq_of_cover 8 (arr8 m c) (fun t _ => flush8 m c t) (cover8)

/-- What a run leaves in output 9. -/
theorem left9 (A : Inp) (i : grid0.Coords) (h8 : A.arg8.IsWhole) (h9 : A.arg9.IsWhole) (h10 : A.arg10.IsWhole) (h11 : A.arg11.IsWhole) (h12 : A.arg12.IsWhole) (h13 : A.arg13.IsWhole) (h14 : A.arg14.IsWhole) (h15 : A.arg15.IsWhole) :
    out0_A_9 (F := Ideal) A.c i A.arg1 A.harg1 A.arg2 A.harg2 A.arg3 A.harg3 A.arg4 A.harg4 A.arg5 A.harg5 A.arg6 A.harg6 A.arg7 A.harg7 A.arg8 h8 A.arg9 h9 A.arg10 h10 A.arg11 h11 A.arg12 h12 A.arg13 h13 A.arg14 h14 A.arg15 h15 A.x0 A.x1 A.x2 A.x3 A.x4 A.x5 A.x6 = k0_pay2 (F := Ideal) := by
  unfold out0_A_9
  rw [View.read_writes_junk_eq_canon, A.run_fg]
  exact View.canon_unit_zero (funext fun a => by fin_cases a <;> rfl) _ _

/-- What the run of a grid point leaves in output 9. -/
theorem out9 (t : Fin cfg0.N) : (outsAt0 m c t).2.2 = k0_pay2 (F := Ideal) := by
  have h1 : scM0_0.IsWhole := Memref.isWhole_whole _
  have h2 : scM0_1.IsWhole := Memref.isWhole_whole _
  have h3 : scM0_2.IsWhole := Memref.isWhole_whole _
  have h4 : scM0_3.IsWhole := Memref.isWhole_whole _
  have h5 : scM0_4.IsWhole := Memref.isWhole_whole _
  have h := left9 (inp m c t) (grid0.coords t) (hs0_7 t) (hs0_8 t) (hs0_9 t) h1 h2 h3 h4 h5
  refine Eq.trans ?_ h
  unfold outsAt0
  dsimp only [inp]

/-- What output 9's array is to hold. -/
def arr9  : Vec Ideal S8x1x20096 .f32 := fun i => k0_pay2 (F := Ideal) (ix3 0 0 (i 2))

theorem arr9_at (t : Fin cfg0.N) (k : Fin 1) (a : Fin 20096) : arr9  (ix3 (batch t) k a) = k0_pay2 (F := Ideal) (ix3 0 k a) := by
  have hk : k = 0 := Subsingleton.elim _ _
  subst hk
  rfl

theorem split9 (i : S8x1x20096.Idx) : ∃ (b : Fin 8) (k : Fin 1) (a : Fin 20096), i = ix3 b k a := ⟨i 0, i 1, i 2, by
    funext x
    match x with
    | ⟨0, _⟩ => rfl
    | ⟨1, _⟩ => rfl
    | ⟨2, _⟩ => rfl⟩

theorem one9 (j : S1x1x20096.Idx) : ∃ (k : Fin 1) (a : Fin 20096), j = ix3 0 k a := ⟨j 1, j 2, by
    funext x
    match x with
    | ⟨0, _⟩ => exact Subsingleton.elim (α := Fin 1) _ _
    | ⟨1, _⟩ => rfl
    | ⟨2, _⟩ => rfl⟩

theorem cut9 (t : Fin cfg0.N) : (dats m 0 c).flushed 9 t = (cfg0.win 9).cut (grid0.coords t) ((dats m 0 c).after 9 t) := rfl

theorem read9 (t : Fin cfg0.N) (X : Vec Ideal S1x1x20096 .f32) (Y : Vec Ideal S8x1x20096 .f32) (h : ∀ k a, X (ix3 0 k a) = Y (ix3 (batch t) k a)) :
    (cfg0.win 9).cut (grid0.coords t) X = ((cfg0.win 9).blk t).view.read (Elt Ideal) Y := by
  funext j
  obtain ⟨k, a, rfl⟩ := one9 j
  show X (ix3 0 k a) = Y (((cfg0.win 9).blk t).view.emb (ix3 0 k a))
  rw [emb9]
  exact h k a

theorem flush9 (t : Fin cfg0.N) : (dats m 0 c).flushed 9 t = ((cfg0.win 9).blk t).view.read (Elt Ideal) (arr9 ) := by
  rw [cut9, after0_9, out9]
  exact read9 t _ _ fun k a => (arr9_at  t k a).symm

theorem cover9 (i : S8x1x20096.Idx) : ∃ t : Fin cfg0.N, (cfg0.win 9).flush t = true ∧ i ∈ ((cfg0.win 9).blk t).view.set := by
  obtain ⟨b, k, a, rfl⟩ := split9 i
  refine ⟨point b, flush0_9 _, ?_⟩
  have h := ((cfg0.win 9).blk (point b)).view.emb_mem_set (ix3 0 k a)
  have e := emb9 (point b) k a
  rw [batch_point] at e
  exact e ▸ h

/-- What output 9's array holds after the run. -/
theorem final9 : (dats m 0 c).arrAt 9 cfg0.N = arr9  :=
  (dats m 0 c).arrAt_eq_of_cover 9 (arr9 ) (fun t _ => flush9 m c t) (cover9)

end Cert.Asg
-- ==== Proof.KernelRun.lean ====
module

public import proofs.«01_k».proof.Proof.Region

@[expose] public section

/-!
The kernel's results after a run: each output array without its padding, boxes and classes turned.
-/

noncomputable section

namespace Cert.Asg

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

theorem arrRef_inj : Function.Injective (Pipeline.arrRef spec0) := fun w w' =>
  (by decide : ∀ w w' : Fin 10, Pipeline.arrRef spec0 w = Pipeline.arrRef spec0 w' → w = w') w w'

/-- What the buffers hold when the region is left. -/
abbrev left : Valuation τ sig (Elt Ideal) := Pipeline.withArrays spec0 c (V0 m c) fun w => (dats m 0 c).arrAt w cfg0.N

theorem left_box : left m c (Proc.devRef .tc main_v9_0) = arr7 m c := by
  refine (Pipeline.withArrays_arr spec0 arrRef_inj c (V0 m c) _ 7).trans ?_
  exact final7 m c

theorem left_cls : left m c (Proc.devRef .tc main_v9_1) = arr8 m c := by
  refine (Pipeline.withArrays_arr spec0 arrRef_inj c (V0 m c) _ 8).trans ?_
  exact final8 m c

theorem left_fg : left m c (Proc.devRef .tc main_v9_2) = arr9 := by
  refine (Pipeline.withArrays_arr spec0 arrRef_inj c (V0 m c) _ 9).trans ?_
  exact final9 m c

/-- The first result's array. -/
def res0 : Vec Ideal S8x20000x4 .f32 :=
  transpose S8x20000x4 [0, 2, 1] (extractStridedSlice S8x4x20000 ![0, 0, 0] (arr7 m c) slices_S8x4x20096_S8x4x20000_0_0_0) transposes_S8x4x20000_S8x20000x4_0_2_1

/-- The second result's array. -/
def res1 : Vec Ideal S8x20000x80 .f32 :=
  transpose S8x20000x80 [0, 2, 1] (extractStridedSlice S8x80x20000 ![0, 0, 0] (arr8 m c) slices_S8x80x20096_S8x80x20000_0_0_0) transposes_S8x80x20000_S8x20000x80_0_2_1

/-- The third result's array. -/
def res2 : Vec Ideal S8x20000 .f32 :=
  shapeCast S8x20000 (extractStridedSlice S8x1x20000 ![0, 0, 0] arr9 slices_S8x1x20096_S8x1x20000_0_0_0) shapeCasts_S8x1x20000_S8x20000

theorem tail0 : Pipeline.afterTail₀ cfgs (dats m) 0 (V0 m) [hostOps1] c main_v11 = res0 m c := by
  show StableHlo.after (List.flatten [hostOps1]) (left m c) (Proc.devRef .tc main_v11) = _
  have h := left_box m c
  generalize left m c = W at h
  simp only [hostOps1, List.flatten_cons, List.flatten_nil, List.append_nil, List.cons_append, List.nil_append]
  after_results
  rw [h]
  rfl

theorem tail1 : Pipeline.afterTail₀ cfgs (dats m) 0 (V0 m) [hostOps1] c main_v13 = res1 m c := by
  show StableHlo.after (List.flatten [hostOps1]) (left m c) (Proc.devRef .tc main_v13) = _
  have h := left_cls m c
  generalize left m c = W at h
  simp only [hostOps1, List.flatten_cons, List.flatten_nil, List.append_nil, List.cons_append, List.nil_append]
  after_results
  rw [h]
  rfl

theorem tail2 : Pipeline.afterTail₀ cfgs (dats m) 0 (V0 m) [hostOps1] c main_v15 = res2 := by
  show StableHlo.after (List.flatten [hostOps1]) (left m c) (Proc.devRef .tc main_v15) = _
  have h := left_fg m c
  generalize left m c = W at h
  simp only [hostOps1, List.flatten_cons, List.flatten_nil, List.append_nil, List.cons_append, List.nil_append]
  after_results
  rw [h]
  rfl

/-- The kernel runs, its results end at those arrays and its arguments unchanged. -/
theorem kernel_run (ρ : Dev nD → PrngReg) : θ_run defs (onTc (τ := τ) (main (F := Ideal))) ⟨m, fun _ => 0, ρ⟩ fun r => ∀ c : Dev nD,
    (r.2.mem ((c.tc : Thread nD τ).loc main_v11) = res0 m c
      ∧ r.2.mem ((c.tc : Thread nD τ).loc main_v13) = res1 m c
      ∧ r.2.mem ((c.tc : Thread nD τ).loc main_v15) = res2) :=
  (θ_run defs _ _).mono (fun _ h c =>
    ⟨((h c).2 main_v11 (Pipeline.mem_restRefs_of main_v11 (by decide) (by decide))).trans (tail0 m c),
      ((h c).2 main_v13 (Pipeline.mem_restRefs_of main_v13 (by decide) (by decide))).trans (tail1 m c),
      ((h c).2 main_v15 (Pipeline.mem_restRefs_of main_v15 (by decide) (by decide))).trans (tail2 m c)⟩) (run_main m ρ)

/-! The results at an index. -/

theorem res0_at (b : Fin 8) (a : Fin 20000) (k : Fin 4) (hn : 20000 ≤ 20096) : res0 m c (ix3 b a k) = arr7 m c (ix3 b k (a.castLE hn)) := by
  unfold res0
  generalize arr7 m c = X
  pointwise
  rfl

theorem res1_at (b : Fin 8) (a : Fin 20000) (k : Fin 80) (hn : 20000 ≤ 20096) : res1 m c (ix3 b a k) = arr8 m c (ix3 b k (a.castLE hn)) := by
  unfold res1
  generalize arr8 m c = X
  pointwise
  rfl

theorem res2_at (b : Fin 8) (a : Fin 20000) (hn : 20000 ≤ 20096) : res2 (ix2 b a) = arr9 (ix3 b 0 (a.castLE hn)) := by
  unfold res2
  generalize arr9 = X
  pointwise
  rfl

end Cert.Asg
-- ==== Proof.Equation.lean ====
module

public import proofs.«01_k».proof.Defs
public import proofs.«01_k».proof.Proof.BlockEq
public import proofs.«01_k».proof.Proof.KernelRun

@[expose] public section

/-!
The kernel's result arrays are the reference's, at every argument that the precondition admits.
-/

noncomputable section

namespace Cert.Asg

open Idealize.ShloMosaic Idealize.ShloMosaic.TcCoe Cert.KernelIdeal Cert.KernelIdeal.Gen

/-- The precondition's function has what it states. -/
theorem drawnFacts : Cert.Pre_drawn.Facts where
  bcast_S_S8x20000x80 := by decide
  bcast_S_S8x100 := by decide

variable (m : (ℓ : Loc nD τ sig) → Buf (Elt Ideal) ℓ) (c : Dev nD)

/-- The mask, as launched. -/
abbrev arg5 : Vec Ideal S8x100x1 .i1 := m ((c : Thread nD τ).loc main_arg5)

/-- A number at least zero. -/
theorem pos_of_bit (x : EReal) (h : FloatOps.cmpf (F := Ideal) (φ := .f32) .oge x (FloatOps.ofBits .f32 0#32) = 1#1) : 0 ≤ x := by
  have e : FloatOps.cmpf (F := Ideal) (φ := .f32) .oge x (FloatOps.ofBits .f32 0#32) = BitVec.ofBool (decide (x ≥ Ideal.ofBits .f32 0#32)) := rfl
  rw [e, Ideal.ofBits_zero_f32] at h
  by_contra hc
  rw [decide_eq_false hc] at h
  exact absurd h (by decide)

/-- A word at least zero and less than eighty, read signed, is less than eighty. -/
theorem small_of_bit (w : BitVec 32) (h : IntOp.andi (IntOp.cmpi .sge w 0#32) (IntOp.cmpi .slt w 80#32) = 1#1) : w.toNat < 80 := by
  have e : IntOp.andi (IntOp.cmpi .sge w 0#32) (IntOp.cmpi .slt w 80#32) = BitVec.ofBool (BitVec.sle 0#32 w) &&& BitVec.ofBool (BitVec.slt w 80#32) := rfl
  rw [e] at h
  have h1 : BitVec.sle 0#32 w = true := by
    by_contra hc
    rw [Bool.eq_false_iff.2 hc] at h
    revert h
    cases BitVec.slt w 80#32 <;> decide
  have h2 : BitVec.slt w 80#32 = true := by
    by_contra hc
    rw [Bool.eq_false_iff.2 hc] at h
    revert h
    cases BitVec.sle 0#32 w <;> decide
  rw [BitVec.sle_iff_toInt_le] at h1
  rw [BitVec.slt_iff_toInt_lt] at h2
  have e0 : (0#32 : BitVec 32).toInt = 0 := by decide
  have e80 : (80#32 : BitVec 32).toInt = 80 := by decide
  rw [e0] at h1
  rw [e80] at h2
  have hw := w.isLt
  rw [BitVec.toInt_eq_toNat_cond] at h1 h2
  split at h1 <;> omega

section Pre

variable (h : Cert.Pre_KernelIdeal_drawn (hPre_drawn := drawnFacts) m)

include h

theorem pre_pos (i : S8x20000x80.Idx) : (0 : EReal) ≤ arg0 m c i :=
  pos_of_bit _ (congrFun (h c).1 i)

theorem pre_small (i : S8x100.Idx) : (arg3 m c i).toNat < 80 :=
  small_of_bit _ (congrFun (h c).2.1 i)

theorem pre_mask (i : S8x100x1.Idx) : arg5 m c i = 1#1 := congrFun (h c).2.2 i

/-- The reference's arguments. -/
def args : Ref.Arg where
  x0 := arg0 m c
  x1 := arg1 m c
  x2 := arg2 m c
  x3 := arg3 m c
  x4 := arg4 m c
  x5 := arg5 m c
  lab b g := ⟨(arg3 m c (ix2 b g)).toNat, pre_small m c h (ix2 b g)⟩
  pos := pre_pos m c h
  label b g := by simp
  mask := pre_mask m c h

/-- Every grid point's inputs are its batch's arguments. -/
theorem same (t : Fin cfg0.N) : Same (inp m c t) (args m c h) (batch t) where
  score k a := (blk0 m c t k _).trans (in_score m c _ k a _)
  pad k a ha := (blk0 m c t k a).trans (in_pad m c _ k a ha)
  box k a := (blk1 m c t k _).trans (in_box m c _ k a _)
  anchor k a := (blk2 m c t k _).trans (in_anchor m c k a _)
  labelL g := (blk3 m c t 0 g).trans (in_labelL m c _ g)
  labelS g := (blk4 m c t g 0).trans (in_labelS m c _ g)
  truth g k := (blk5 m c t g k).trans (in_truth m c _ g k)
  truthT k g := (blk6 m c t k g).trans (in_truthT m c _ k g)

/-- The first results are equal. -/
theorem eq0 : Cert.ReferenceIdeal.Read.val_main_v258 (F := Ideal) (arg0 m c) (arg1 m c) (arg2 m c) (arg3 m c) (arg4 m c) (arg5 m c) = res0 m c := by
  funext i
  obtain ⟨b, a, k, rfl⟩ : ∃ (b : Fin 8) (a : Fin 20000) (k : Fin 4), i = ix3 b a k := ⟨i 0, i 1, i 2, by
    funext x
    match x with
    | ⟨0, _⟩ => rfl
    | ⟨1, _⟩ => rfl
    | ⟨2, _⟩ => rfl⟩
  rw [res0_at m c b a k (by norm_num)]
  refine (Ref.a_v258 (args m c h) b a k).trans ?_
  exact ((arr7_at m c (point b) k (wide a)).trans ((same m c h (point b)).boxes k a)).symm

/-- The second results are equal. -/
theorem eq1 : Cert.ReferenceIdeal.Read.val_main_v276 (F := Ideal) (arg0 m c) (arg1 m c) (arg2 m c) (arg3 m c) (arg4 m c) (arg5 m c) = res1 m c := by
  funext i
  obtain ⟨b, a, k, rfl⟩ : ∃ (b : Fin 8) (a : Fin 20000) (k : Fin 80), i = ix3 b a k := ⟨i 0, i 1, i 2, by
    funext x
    match x with
    | ⟨0, _⟩ => rfl
    | ⟨1, _⟩ => rfl
    | ⟨2, _⟩ => rfl⟩
  rw [res1_at m c b a k (by norm_num)]
  refine (Ref.a_v276 (args m c h) b a k).trans ?_
  exact ((arr8_at m c (point b) k (wide a)).trans ((same m c h (point b)).classes k a)).symm

/-- The third results are equal. -/
theorem eq2 : Cert.ReferenceIdeal.Read.val_main_v279 (F := Ideal) (arg0 m c) (arg1 m c) (arg2 m c) (arg3 m c) (arg4 m c) (arg5 m c) = res2 := by
  funext i
  obtain ⟨b, a, rfl⟩ : ∃ (b : Fin 8) (a : Fin 20000), i = ix2 b a := ⟨i 0, i 1, by
    funext x
    match x with
    | ⟨0, _⟩ => rfl
    | ⟨1, _⟩ => rfl⟩
  rw [res2_at b a (by norm_num)]
  refine (Ref.a_v279 (args m c h) b a).trans ?_
  exact ((arr9_at (point b) 0 (wide a)).trans (fg_at (wide a))).symm

end Pre

end Cert.Asg
-- ==== Proof.RefRun.lean ====
module

public import proofs.«01_k».proof.Defs
public import proofs.«01_k».proof.Proof.Gen.ReferenceIdeal.Run
public import proofs.«01_k».proof.Proof.Gen.ReferenceIdeal.Read
public import Idealize.ShloMosaic.Lib.Claim

@[expose] public section

/-!
What the reference leaves in its results, named as functions of its arguments.
-/

noncomputable section

namespace Cert.Asg.Ref

open Idealize.ShloMosaic Idealize.ShloMosaic.StableHlo Idealize.SL.Sem Cert.ReferenceIdeal Cert.ReferenceIdeal.Gen Cert.ReferenceIdeal.Read

variable (m : (ℓ : Loc nD τ sig) → Buf (Elt Ideal) ℓ) (c : Dev nD)

/-- The first result, of the launch's arguments. -/
def out0 : Vec Ideal S8x20000x4 .f32 :=
  val_main_v258 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The second result, of the launch's arguments. -/
def out1 : Vec Ideal S8x20000x80 .f32 :=
  val_main_v276 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The third result, of the launch's arguments. -/
def out2 : Vec Ideal S8x20000 .f32 :=
  val_main_v279 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

set_option maxRecDepth 8192 in
/-- The reference runs, leaves the three results and changes no argument. -/
theorem ref_run (ρ : Dev nD → PrngReg) : θ_run defs (onTc (τ := τ) (main (F := Ideal))) ⟨m, fun _ => 0, ρ⟩ fun r => ∀ c : Dev nD,
    r.2.mem ((c.tc : Thread nD τ).loc main_v258) = out0 m c
    ∧ r.2.mem ((c.tc : Thread nD τ).loc main_v276) = out1 m c
    ∧ r.2.mem ((c.tc : Thread nD τ).loc main_v279) = out2 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun _ h c => ⟨(h c).1.trans (val_main_v258_eq (launchContents m c)),
      (h c).2.1.trans (val_main_v276_eq (launchContents m c)), (h c).2.2.1.trans (val_main_v279_eq (launchContents m c)), (h c).2.2.2⟩)
    (Cert.ReferenceIdeal.Value.run (F := Ideal) m ρ)

end Cert.Asg.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation
public import proofs.«01_k».proof.Proof.RefRun
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem

/-- The reference ends with its arguments unchanged and every counter at zero. -/
theorem reference_frame : Cert.quiescent_ReferenceIdeal (hReferenceIdeal := Cert.ReferenceIdeal.Gen.facts) :=
  fun m ρ _ => (θ_run Cert.ReferenceIdeal.defs _ _).mono (fun r h => ⟨fun c => (h c).2.2.2, sem_eq_zero_of_no_sems (by decide) r.2⟩)
    (Cert.Asg.Ref.ref_run m ρ)

/-- The kernel's three results are the reference's, wherever the precondition holds. -/
theorem equal : Cert.algebraic_KernelIdeal_ReferenceIdeal_pre_drawn (hKernelIdeal := Cert.KernelIdeal.Gen.facts)
    (hReferenceIdeal := Cert.ReferenceIdeal.Gen.facts) (hPre_drawn := Cert.Asg.drawnFacts) := by
  intro m g m' g' hpre hargs
  refine ⟨Cert.Asg.res0 m, Cert.Asg.res1 m, fun _ => Cert.Asg.res2, ?_, ?_⟩
  · exact (θ_run Cert.KernelIdeal.defs _ _).mono (fun _ h c => ⟨(h.1 c).1, (h.1 c).2.1, (h.1 c).2.2, h.2 c⟩)
      (θ_run_and (Cert.Asg.kernel_run m g) (Cert.KernelIdeal.Gen.unchanged m g))
  · refine (θ_run Cert.ReferenceIdeal.defs _ _).mono (fun _ h c => ⟨(h c).1.trans ?_, (h c).2.1.trans ?_, (h c).2.2.1.trans ?_, (h c).2.2.2⟩)
      (Cert.Asg.Ref.ref_run m' g')
    all_goals obtain ⟨h0, h1, h2, h3, h4, h5⟩ := hargs c
    · unfold Cert.Asg.Ref.out0
      rw [h0, h1, h2, h3, h4, h5]
      exact Cert.Asg.eq0 m c hpre
    · unfold Cert.Asg.Ref.out1
      rw [h0, h1, h2, h3, h4, h5]
      exact Cert.Asg.eq1 m c hpre
    · unfold Cert.Asg.Ref.out2
      rw [h0, h1, h2, h3, h4, h5]
      exact Cert.Asg.eq2 m c hpre

/-- Every claim of the certificate. -/
theorem claim : Cert.Claim := ⟨Cert.Kernel.Gen.facts, Cert.KernelIdeal.Gen.facts, Cert.ReferenceIdeal.Gen.facts, Cert.Asg.drawnFacts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, equal⟩

end Cert.Proof

end
